-- ==== Defs.lean ====
def Pre_Kernel [hPre_well_planned : Cert.Pre_well_planned.Facts] (m : (ℓ : Loc Cert.Kernel.nD Cert.Kernel.τ Cert.Kernel.sig) → Buf (Elt Bits) ℓ) : Prop :=
  ∀ c : Dev Cert.Kernel.nD,
    (Cert.Pre_well_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_well_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_well_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.1 = (fun _ => 1#1)
    ∧ (Cert.Pre_well_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.2 = (fun _ => 1#1)

def Pre_KernelIdeal [hPre_well_planned : Cert.Pre_well_planned.Facts] (m : (ℓ : Loc Cert.KernelIdeal.nD Cert.KernelIdeal.τ Cert.KernelIdeal.sig) → Buf (Elt Ideal) ℓ) : Prop :=
  ∀ c : Dev Cert.KernelIdeal.nD,
    (Cert.Pre_well_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_well_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_well_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_well_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal [hPre_well_planned : Cert.Pre_well_planned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_well_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_well_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_well_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def quiescent_Kernel [hKernel : Cert.Kernel.Facts] [hPre_well_planned : Cert.Pre_well_planned.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_well_planned : Cert.Pre_well_planned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_well_planned : Cert.Pre_well_planned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.bf16_pair.BufferStatement Cert.KernelIdeal.S40960x2x1024 Cert.KernelIdeal.S40960x1x1024
  ∧ IdealRules.bf16_pair.BufferStatement Cert.KernelIdeal.S512x2x1024 Cert.KernelIdeal.S512x1x1024
  ∧ IdealRules.bf16_pair.PackStatement Cert.KernelIdeal.S512x1024
  ∧ IdealRules.bf16_pair.Statement Cert.KernelIdeal.S512x2x1024 Cert.KernelIdeal.S512x1x1024
  ∧ IdealRules.bf16_pair.PackStatement Cert.KernelIdeal.S256x1024
  ∧ IdealRules.bf16_pair.Statement Cert.KernelIdeal.S256x2x1024 Cert.KernelIdeal.S256x1x1024
  ∧ IdealRules.bf16_pair.Statement Cert.KernelIdeal.S1024x1024 Cert.KernelIdeal.S512x1024

def algebraic_KernelIdeal_ReferenceIdeal [hKernelIdeal : Cert.KernelIdeal.Facts] [hReferenceIdeal : Cert.ReferenceIdeal.Facts] [hPre_well_planned : Cert.Pre_well_planned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v10_9)) (v1 : (c : Dev Cert.Kernel2Ideal.nD) → Buf (Elt Ideal) ((c.tc : Thread Cert.Kernel2Ideal.nD Cert.Kernel2Ideal.τ).loc Cert.Kernel2Ideal.main_v10_10)) (v2 : (c : Dev Cert.Kernel2Ideal.nD) → Buf (Elt Ideal) ((c.tc : Thread Cert.Kernel2Ideal.nD Cert.Kernel2Ideal.τ).loc Cert.Kernel2Ideal.main_v10_0)) (v3 : (c : Dev Cert.Kernel2Ideal.nD) → Buf (Elt Ideal) ((c.tc : Thread Cert.Kernel2Ideal.nD Cert.Kernel2Ideal.τ).loc Cert.Kernel2Ideal.main_v10_1)) (v4 : (c : Dev Cert.Kernel2Ideal.nD) → Buf (Elt Ideal) ((c.tc : Thread Cert.Kernel2Ideal.nD Cert.Kernel2Ideal.τ).loc Cert.Kernel2Ideal.main_v10_2)) (v5 : (c : Dev Cert.Kernel2Ideal.nD) → Buf (Elt Ideal) ((c.tc : Thread Cert.Kernel2Ideal.nD Cert.Kernel2Ideal.τ).loc Cert.Kernel2Ideal.main_v10_3)) (v6 : (c : Dev Cert.Kernel2Ideal.nD) → Buf (Elt Ideal) ((c.tc : Thread Cert.Kernel2Ideal.nD Cert.Kernel2Ideal.τ).loc Cert.Kernel2Ideal.main_v10_4)) (v7 : (c : Dev Cert.Kernel2Ideal.nD) → Buf (Elt Ideal) ((c.tc : Thread Cert.Kernel2Ideal.nD Cert.Kernel2Ideal.τ).loc Cert.Kernel2Ideal.main_v10_5)) (v8 : (c : Dev Cert.Kernel2Ideal.nD) → Buf (Elt Ideal) ((c.tc : Thread Cert.Kernel2Ideal.nD Cert.Kernel2Ideal.τ).loc Cert.Kernel2Ideal.main_v10_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_9) = v0 c
          ∧ r.2.mem ((c.tc : Thread Cert.Kernel2Ideal.nD Cert.Kernel2Ideal.τ).loc Cert.Kernel2Ideal.main_v10_10) = v1 c
          ∧ r.2.mem ((c.tc : Thread Cert.Kernel2Ideal.nD Cert.Kernel2Ideal.τ).loc Cert.Kernel2Ideal.main_v10_0) = v2 c
          ∧ r.2.mem ((c.tc : Thread Cert.Kernel2Ideal.nD Cert.Kernel2Ideal.τ).loc Cert.Kernel2Ideal.main_v10_1) = v3 c
          ∧ r.2.mem ((c.tc : Thread Cert.Kernel2Ideal.nD Cert.Kernel2Ideal.τ).loc Cert.Kernel2Ideal.main_v10_2) = v4 c
          ∧ r.2.mem ((c.tc : Thread Cert.Kernel2Ideal.nD Cert.Kernel2Ideal.τ).loc Cert.Kernel2Ideal.main_v10_3) = v5 c
          ∧ r.2.mem ((c.tc : Thread Cert.Kernel2Ideal.nD Cert.Kernel2Ideal.τ).loc Cert.Kernel2Ideal.main_v10_4) = v6 c
          ∧ r.2.mem ((c.tc : Thread Cert.Kernel2Ideal.nD Cert.Kernel2Ideal.τ).loc Cert.Kernel2Ideal.main_v10_5) = v7 c
          ∧ r.2.mem ((c.tc : Thread Cert.Kernel2Ideal.nD Cert.Kernel2Ideal.τ).loc Cert.Kernel2Ideal.main_v10_6) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_v68) = v4 c
          ∧ r.2.mem ((c.tc : Thread Cert.Reference2Ideal.nD Cert.Reference2Ideal.τ).loc Cert.Reference2Ideal.main_v69) = v5 c
          ∧ r.2.mem ((c.tc : Thread Cert.Reference2Ideal.nD Cert.Reference2Ideal.τ).loc Cert.Reference2Ideal.main_v70) = v6 c
          ∧ r.2.mem ((c.tc : Thread Cert.Reference2Ideal.nD Cert.Reference2Ideal.τ).loc Cert.Reference2Ideal.main_v71) = v7 c
          ∧ r.2.mem ((c.tc : Thread Cert.Reference2Ideal.nD Cert.Reference2Ideal.τ).loc Cert.Reference2Ideal.main_v72) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_well_planned : Cert.Pre_well_planned.Facts) (hPre_finite : Cert.Pre_finite.Facts),
    quiescent_Kernel (hKernel := hKernel) (hPre_well_planned := hPre_well_planned)
    ∧ quiescent_KernelIdeal (hKernelIdeal := hKernelIdeal) (hPre_well_planned := hPre_well_planned)
    ∧ quiescent_ReferenceIdeal (hReferenceIdeal := hReferenceIdeal) (hPre_well_planned := hPre_well_planned)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal) (hPre_well_planned := hPre_well_planned)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)

variable [Facts]

def fn {F : FTy → Type} [FloatOps F] (main_arg0 : FVec F S4096x1024 .f32) (main_arg1 : FVec F S4096x256 .f32) (main_arg2 : FVec F S4096x256 .f32) : IVec S4096x1024 1 × IVec S4096x256 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  (main_v2, main_v5)
-- ==== Pre_well_planned.lean ====
abbrev S80 : Shape := ⟨1, ![80]⟩
abbrev S1 : Shape := ⟨1, ![1]⟩
abbrev S40960x1024 : Shape := ⟨2, ![40960, 1024]⟩
abbrev S32x2048x512 : Shape := ⟨3, ![32, 2048, 512]⟩
abbrev S32x512x2048 : Shape := ⟨3, ![32, 512, 2048]⟩
abbrev S_ : Shape := ⟨0, ![]⟩
abbrev S79 : Shape := ⟨1, ![79]⟩

class Facts : Prop where
  shapeCasts_S1_S_ : S1.ShapeCasts S_
  bcast_S_S80 : S_.BroadcastsInDim S80 (![] : Fin 0 → Fin S80.rank)
  slices_S80_S79_1 : S80.Slices ![1] S79
  slices_S80_S79_0 : S80.Slices ![0] S79
  bcast_S_S79 : S_.BroadcastsInDim S79 (![] : Fin 0 → Fin S79.rank)
  bcast_S_S1 : S_.BroadcastsInDim S1 (![] : Fin 0 → Fin S1.rank)

variable [Facts]

def fn_part3 {F : FTy → Type} [FloatOps F] (main_v3 : IVec S80 1) (main_v26 : IVec S80 1) (main_v37 : IVec S79 1) (main_v47 : IVec S79 1) (main_v53 : IVec S80 1) (main_v58 : IVec S1 1) : IVec S1 1 × IVec S80 1 × IVec S79 1 × IVec S80 1 :=
  let main_v59 : IVec S80 1 := ori main_v3 main_v26
  let main_v60 : IVec S79 1 := (extractStridedSlice S79 ![1] · slices_S80_S79_1) main_v3
  let main_v61 : IVec S79 1 := ori main_v60 main_v37
  let main_v62 : IVec S79 1 := ori main_v61 main_v47
  (main_v58, main_v59, main_v62, main_v53)

def fn_part2 {F : FTy → Type} [FloatOps F] (main_arg1 : IVec S1 32) (main_arg2 : IVec S80 32) (main_arg3 : IVec S80 32) (main_v0 : IVec S80 32) (main_v1 : IVec S_ 32) (main_v3 : IVec S80 1) (main_v26 : IVec S80 1) (main_v27 : IVec S79 32) (main_v37 : IVec S79 1) (main_v38 : IVec S79 1) (main_v39 : IVec S79 32) : IVec S1 1 × IVec S80 1 × IVec S79 1 × IVec S80 1 :=
  let main_v40 : IVec S79 32 := (extractStridedSlice S79 ![0] · slices_S80_S79_0) main_arg2
  let main_c_7 : IVec S_ 32 := constantI S_ 32 1#32
  let main_v41 : IVec S79 32 := broadcastInDim S79 ![] bcast_S_S79 main_c_7
  let main_v42 : IVec S79 32 := subi main_v41 main_v40
  let main_v43 : IVec S79 1 := cmpi .eq main_v39 main_v42
  let main_v44 : IVec S79 1 := andi main_v38 main_v43
  let main_v45 : IVec S79 32 := (extractStridedSlice S79 ![0] · slices_S80_S79_0) main_arg3
  let main_v46 : IVec S79 1 := cmpi .eq main_v27 main_v45
  let main_v47 : IVec S79 1 := andi main_v44 main_v46
  let main_c_8 : IVec S_ 32 := constantI S_ 32 1#32
  let main_v48 : IVec S_ 32 := subi main_v1 main_c_8
  let main_v49 : IVec S80 32 := broadcastInDim S80 ![] bcast_S_S80 main_v48
  let main_v50 : IVec S80 1 := cmpi .ne main_v0 main_v49
  let main_c_9 : IVec S_ 32 := constantI S_ 32 4294967295#32
  let main_v51 : IVec S80 32 := broadcastInDim S80 ![] bcast_S_S80 main_c_9
  let main_v52 : IVec S80 1 := cmpi .eq main_arg3 main_v51
  let main_v53 : IVec S80 1 := ori main_v50 main_v52
  let main_c_10 : IVec S_ 32 := constantI S_ 32 1#32
  let main_v54 : IVec S1 32 := broadcastInDim S1 ![] bcast_S_S1 main_c_10
  let main_v55 : IVec S1 1 := cmpi .sge main_arg1 main_v54
  let main_c_11 : IVec S_ 32 := constantI S_ 32 80#32
  let main_v56 : IVec S1 32 := broadcastInDim S1 ![] bcast_S_S1 main_c_11
  let main_v57 : IVec S1 1 := cmpi .sle main_arg1 main_v56
  let main_v58 : IVec S1 1 := andi main_v55 main_v57
  fn_part3 (F := F) main_v3 main_v26 main_v37 main_v47 main_v53 main_v58

def fn_part1 {F : FTy → Type} [FloatOps F] (main_arg0 : IVec S80 32) (main_arg1 : IVec S1 32) (main_arg2 : IVec S80 32) (main_arg3 : IVec S80 32) (main_arg4 : IVec S80 32) (main_v0 : IVec S80 32) (main_v1 : IVec S_ 32) (main_v3 : IVec S80 1) (main_v17 : IVec S80 1) (main_c_4 : IVec S_ 32) : IVec S1 1 × IVec S80 1 × IVec S79 1 × IVec S80 1 :=
  let main_v18 : IVec S80 32 := broadcastInDim S80 ![] bcast_S_S80 main_c_4
  let main_v19 : IVec S80 1 := cmpi .slt main_arg3 main_v18
  let main_v20 : IVec S80 1 := andi main_v17 main_v19
  let main_c_5 : IVec S_ 32 := constantI S_ 32 0#32
  let main_v21 : IVec S80 32 := broadcastInDim S80 ![] bcast_S_S80 main_c_5
  let main_v22 : IVec S80 1 := cmpi .sge main_arg4 main_v21
  let main_v23 : IVec S80 1 := andi main_v20 main_v22
  let main_c_6 : IVec S_ 32 := constantI S_ 32 1#32
  let main_v24 : IVec S80 32 := broadcastInDim S80 ![] bcast_S_S80 main_c_6
  let main_v25 : IVec S80 1 := cmpi .sle main_arg4 main_v24
  let main_v26 : IVec S80 1 := andi main_v23 main_v25
  let main_v27 : IVec S79 32 := (extractStridedSlice S79 ![1] · slices_S80_S79_1) main_arg0
  let main_v28 : IVec S79 32 := (extractStridedSlice S79 ![0] · slices_S80_S79_0) main_arg0
  let main_v29 : IVec S79 1 := cmpi .eq main_v27 main_v28
  let main_v30 : IVec S79 32 := (extractStridedSlice S79 ![1] · slices_S80_S79_1) main_arg2
  let main_v31 : IVec S79 32 := (extractStridedSlice S79 ![0] · slices_S80_S79_0) main_arg2
  let main_v32 : IVec S79 1 := cmpi .eq main_v30 main_v31
  let main_v33 : IVec S79 1 := andi main_v29 main_v32
  let main_v34 : IVec S79 32 := (extractStridedSlice S79 ![1] · slices_S80_S79_1) main_arg3
  let main_v35 : IVec S79 32 := (extractStridedSlice S79 ![0] · slices_S80_S79_0) main_arg3
  let main_v36 : IVec S79 1 := cmpi .eq main_v34 main_v35
  let main_v37 : IVec S79 1 := andi main_v33 main_v36
  let main_v38 : IVec S79 1 := cmpi .ne main_v27 main_v28
  let main_v39 : IVec S79 32 := (extractStridedSlice S79 ![1] · slices_S80_S79_1) main_arg2
  fn_part2 (F := F) main_arg1 main_arg2 main_arg3 main_v0 main_v1 main_v3 main_v26 main_v27 main_v37 main_v38 main_v39

def fn {F : FTy → Type} [FloatOps F] (main_arg0 : IVec S80 32) (main_arg1 : IVec S1 32) (main_arg2 : IVec S80 32) (main_arg3 : IVec S80 32) (main_arg4 : IVec S80 32) (main_arg5 : IVec S40960x1024 32) (main_arg6 : FVec F S32x2048x512 .f32) (main_arg7 : FVec F S32x2048x512 .f32) (main_arg8 : FVec F S32x512x2048 .f32) : IVec S1 1 × IVec S80 1 × IVec S79 1 × IVec S80 1 :=
  let main_v0 : IVec S80 32 := iotaInDim S80 32 0
  let main_v1 : IVec S_ 32 := shapeCast S_ main_arg1 shapeCasts_S1_S_
  let main_v2 : IVec S80 32 := broadcastInDim S80 ![] bcast_S_S80 main_v1
  let main_v3 : IVec S80 1 := cmpi .sge main_v0 main_v2
  let main_c : IVec S_ 32 := constantI S_ 32 0#32
  let main_v4 : IVec S80 32 := broadcastInDim S80 ![] bcast_S_S80 main_c
  let main_v5 : IVec S80 1 := cmpi .sge main_arg0 main_v4
  let main_c_0 : IVec S_ 32 := constantI S_ 32 32#32
  let main_v6 : IVec S80 32 := broadcastInDim S80 ![] bcast_S_S80 main_c_0
  let main_v7 : IVec S80 1 := cmpi .slt main_arg0 main_v6
  let main_v8 : IVec S80 1 := andi main_v5 main_v7
  let main_c_1 : IVec S_ 32 := constantI S_ 32 0#32
  let main_v9 : IVec S80 32 := broadcastInDim S80 ![] bcast_S_S80 main_c_1
  let main_v10 : IVec S80 1 := cmpi .sge main_arg2 main_v9
  let main_v11 : IVec S80 1 := andi main_v8 main_v10
  let main_c_2 : IVec S_ 32 := constantI S_ 32 1#32
  let main_v12 : IVec S80 32 := broadcastInDim S80 ![] bcast_S_S80 main_c_2
  let main_v13 : IVec S80 1 := cmpi .sle main_arg2 main_v12
  let main_v14 : IVec S80 1 := andi main_v11 main_v13
  let main_c_3 : IVec S_ 32 := constantI S_ 32 4294967295#32
  let main_v15 : IVec S80 32 := broadcastInDim S80 ![] bcast_S_S80 main_c_3
  let main_v16 : IVec S80 1 := cmpi .sge main_arg3 main_v15
  let main_v17 : IVec S80 1 := andi main_v14 main_v16
  let main_c_4 : IVec S_ 32 := constantI S_ 32 32#32
  fn_part1 (F := F) main_arg0 main_arg1 main_arg2 main_arg3 main_arg4 main_v0 main_v1 main_v3 main_v17 main_c_4
-- ==== Kernel.lean ====
abbrev S80 : Shape := ⟨1, ![80]⟩
abbrev S1 : Shape := ⟨1, ![1]⟩
abbrev S40960x1024 : Shape := ⟨2, ![40960, 1024]⟩
abbrev S32x2048x512 : Shape := ⟨3, ![32, 2048, 512]⟩
abbrev S32x512x2048 : Shape := ⟨3, ![32, 512, 2048]⟩
abbrev S512x1024 : Shape := ⟨2, ![512, 1024]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2 : Shape := ⟨1, ![2]⟩
abbrev S_ : Shape := ⟨0, ![]⟩
abbrev S1x2048x512 : Shape := ⟨3, ![1, 2048, 512]⟩
abbrev S1x512x2048 : Shape := ⟨3, ![1, 512, 2048]⟩
abbrev S1024x512 : Shape := ⟨2, ![1024, 512]⟩
abbrev S512x512 : Shape := ⟨2, ![512, 512]⟩
abbrev S256x1024 : Shape := ⟨2, ![256, 1024]⟩
abbrev S256x512 : Shape := ⟨2, ![256, 512]⟩
abbrev S256x2048 : Shape := ⟨2, ![256, 2048]⟩
abbrev S40960x2048 : Shape := ⟨2, ![40960, 2048]⟩

abbrev nBuf : Space → Nat
  | .hbm => 16
  | .vmem => 14
  | .smem => 5
  | _ => 0

abbrev bufTy : (tb : Table) → Fin (tcTables nBuf tb) → BufTy
  | .hbm, ⟨0, _⟩ => ⟨S40960x1024, .i32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S40960x1024, .i32⟩
  | .hbm, ⟨5, _⟩ => ⟨S40960x2048, .f32⟩
  | .hbm, ⟨6, _⟩ => ⟨S40960x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S40960x2048, .i32⟩
  | .hbm, ⟨11, _⟩ => ⟨S40960x2048, .i1⟩
  | .hbm, ⟨12, _⟩ => ⟨S_, .f32⟩
  | .hbm, ⟨13, _⟩ => ⟨S_, .f32⟩
  | .hbm, ⟨14, _⟩ => ⟨S40960x2048, .f32⟩
  | .hbm, ⟨15, _⟩ => ⟨S40960x2048, .f32⟩
  | .local _ .vmem, ⟨0, _⟩ => ⟨S512x1024, .i32⟩
  | .local _ .vmem, ⟨1, _⟩ => ⟨S512x1024, .i32⟩
  | .local _ .vmem, ⟨2, _⟩ => ⟨S512x1024, .i32⟩
  | .local _ .vmem, ⟨3, _⟩ => ⟨S512x1024, .i32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x1024, .i32⟩
  | .local _ .vmem, ⟨11, _⟩ => ⟨S512x1024, .i32⟩
  | .local _ .vmem, ⟨12, _⟩ => ⟨S512x2048, .f32⟩
  | .local _ .vmem, ⟨13, _⟩ => ⟨S512x2048, .f32⟩
  | .local _ .smem, ⟨0, _⟩ => ⟨S80, .i32⟩
  | .local _ .smem, ⟨1, _⟩ => ⟨S1, .i32⟩
  | .local _ .smem, ⟨2, _⟩ => ⟨S80, .i32⟩
  | .local _ .smem, ⟨3, _⟩ => ⟨S80, .i32⟩
  | .local _ .smem, ⟨4, _⟩ => ⟨S80, .i32⟩
  | _, _ => ⟨S40960x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [BitOps F]

abbrev grid0 : Pipeline.Grid := ⟨1, ![80], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def k0_cond2 (i : grid0.Coords) : BitVec 1 :=
  let arg0 : BitVec 32 := BitVec.ofNat 32 (i 0).val
  let c0_i32_0 : BitVec 32 := 0#32
  let v8 : BitVec 1 := Scalar.cmpi .eq arg0 c0_i32_0
  let v9 : BitVec 32 := Scalar.extui v8
  let c0_i32_1 : BitVec 32 := 0#32
  let v10 : BitVec 1 := Scalar.cmpi .ne v9 c0_i32_1
  v10

def k0_off2 (v7 : BitVec 32) : Fin 1 → Nat :=
  ![v7.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_off3 (v7 : BitVec 32) : Fin 3 → Nat :=
  let c0_i32_9 : BitVec 32 := 0#32
  let c0_i32_10 : BitVec 32 := 0#32
  ![v7.toNat, 0, 0]
def k0_off4 (v5 : BitVec 32) : Fin 3 → Nat :=
  let c0_i32_11 : BitVec 32 := 0#32
  let c0_i32_12 : BitVec 32 := 0#32
  ![v5.toNat, 0, 0]

def k0_off5 (v7 : BitVec 32) : Fin 1 → Nat :=
  ![v7.toNat]
def k0_off6 (v7 : BitVec 32) : Fin 3 → Nat :=
  let c0_i32_13 : BitVec 32 := 0#32
  let c0_i32_14 : BitVec 32 := 0#32
  ![v7.toNat, 0, 0]
def k0_off7 (v7 : BitVec 32) : Fin 3 → Nat :=
  let c0_i32_17 : BitVec 32 := 0#32
  let c0_i32_18 : BitVec 32 := 0#32
  ![v7.toNat, 0, 0]

def k0_chk1 (i : grid0.Coords) (v0 : BitVec 32) (v7 : BitVec 32) : Prop :=
  (∀ (k0_h1 : k0_cond1 i v0 = 1#1), ∀ (k0_h2 : k0_cond2 i = 1#1), ∀ a, (k0_off2 v7) a + S1.size a ≤ S2.size a) ∧
  (∀ (k0_h1 : k0_cond1 i v0 = 1#1), ∀ (k0_h2 : k0_cond2 i = 1#1), ∀ a, (k0_off3 v7) a + S1x2048x512.size a ≤ S2x2048x512.size a) ∧
  (∀ (k0_h1 : k0_cond1 i v0 = 1#1), ∀ (k0_h2 : k0_cond2 i = 1#1), ∀ a, (k0_off5 v7) a + S1.size a ≤ S2.size a) ∧
  (∀ (k0_h1 : k0_cond1 i v0 = 1#1), ∀ (k0_h2 : k0_cond2 i = 1#1), ∀ a, (k0_off6 v7) a + S1x2048x512.size a ≤ S2x2048x512.size a) ∧
  (∀ (k0_h1 : k0_cond1 i v0 = 1#1), ∀ (k0_h2 : k0_cond2 i = 1#1), ∀ a, (k0_off7 v7) a + S1x512x2048.size a ≤ S2x512x2048.size a)
theorem k0_off2_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off2 v7) a + S1.size a ≤ S2.size a := fun i v0 v7 k0_hw1 k0_h1 k0_h2 => k0_hw1.1 k0_h1 k0_h2
theorem k0_off3_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off3 v7) a + S1x2048x512.size a ≤ S2x2048x512.size a := fun i v0 v7 k0_hw1 k0_h1 k0_h2 => k0_hw1.2.1 k0_h1 k0_h2
theorem k0_off5_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off5 v7) a + S1.size a ≤ S2.size a := fun i v0 v7 k0_hw1 k0_h1 k0_h2 => k0_hw1.2.2.1 k0_h1 k0_h2
theorem k0_off6_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off6 v7) a + S1x2048x512.size a ≤ S2x2048x512.size a := fun i v0 v7 k0_hw1 k0_h1 k0_h2 => k0_hw1.2.2.2.1 k0_h1 k0_h2
theorem k0_off7_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off7 v7) a + S1x512x2048.size a ≤ S2x512x2048.size a := fun i v0 v7 k0_hw1 k0_h1 k0_h2 => k0_hw1.2.2.2.2 k0_h1 k0_h2

def k0_off8 (v5 : BitVec 32) : Fin 3 → Nat :=
  let c0_i32_19 : BitVec 32 := 0#32
  let c0_i32_20 : BitVec 32 := 0#32
  ![v5.toNat, 0, 0]

def k0_chk2 (i : grid0.Coords) (v0 : BitVec 32) (v5 : BitVec 32) : Prop :=
  (∀ (k0_h1 : k0_cond1 i v0 = 1#1), ∀ (k0_h2 : k0_cond2 i = 1#1), ∀ a, (k0_off4 v5) a + S1x2048x512.size a ≤ S32x2048x512.size a) ∧
  (∀ (k0_h1 : k0_cond1 i v0 = 1#1), ∀ (k0_h2 : k0_cond2 i = 1#1), ∀ a, (k0_off8 v5) a + S1x512x2048.size a ≤ S32x512x2048.size a)
theorem k0_off4_inb : ∀ (i : grid0.Coords) (v0 : BitVec 32) (v5 : BitVec 32) (k0_hw2 : k0_chk2 i v0 v5), ∀ (k0_h1 : k0_cond1 i v0 = 1#1), ∀ (k0_h2 : k0_cond2 i = 1#1), ∀ a, (k0_off4 v5) a + S1x2048x512.size a ≤ S32x2048x512.size a := fun i v0 v5 k0_hw2 k0_h1 k0_h2 => k0_hw2.1 k0_h1 k0_h2
theorem k0_off8_inb : ∀ (i : grid0.Coords) (v0 : BitVec 32) (v5 : BitVec 32) (k0_hw2 : k0_chk2 i v0 v5), ∀ (k0_h1 : k0_cond1 i v0 = 1#1), ∀ (k0_h2 : k0_cond2 i = 1#1), ∀ a, (k0_off8 v5) a + S1x512x2048.size a ≤ S32x512x2048.size a := fun i v0 v5 k0_hw2 k0_h1 k0_h2 => k0_hw2.2 k0_h1 k0_h2

def k0_off9 (i : grid0.Coords) : Fin 1 → Nat :=
  let arg0 : BitVec 32 := BitVec.ofNat 32 (i 0).val
  let c1_i32 : BitVec 32 := 1#32
  let v12 : BitVec 32 := Scalar.subi arg0 c1_i32
  let c0_i32_3 : BitVec 32 := 0#32
  let v13 : BitVec 32 := Scalar.maxsi v12 c0_i32_3
  let v14 : Index := Scalar.indexCast v13
  ![v14.toNat]
def k0_off10 (v7 : BitVec 32) : Fin 1 → Nat :=
  ![v7.toNat]
def k0_cond3 (i : grid0.Coords) (v5 : BitVec 32) (v15 : BitVec 32) : BitVec 1 :=
  let arg0 : BitVec 32 := BitVec.ofNat 32 (i 0).val
  let c0_i32_2 : BitVec 32 := 0#32
  let v11 : BitVec 1 := Scalar.cmpi .eq arg0 c0_i32_2
  let v16 : BitVec 1 := Scalar.cmpi .ne v5 v15
  let v17 : BitVec 1 := Scalar.ori v11 v16
  let v18 : BitVec 32 := Scalar.extui v17
  let c0_i32_4 : BitVec 32 := 0#32
  let v19 : BitVec 1 := Scalar.cmpi .ne v18 c0_i32_4
  v19

def k0_off11 (v7 : BitVec 32) : Fin 3 → Nat :=
  let c0_i32_9 : BitVec 32 := 0#32
  let c0_i32_10 : BitVec 32 := 0#32
  ![v7.toNat, 0, 0]
def k0_off12 (v5 : BitVec 32) : Fin 3 → Nat :=
  let c0_i32_11 : BitVec 32 := 0#32
  let c0_i32_12 : BitVec 32 := 0#32
  ![v5.toNat, 0, 0]
def k0_off13 (v7 : BitVec 32) : Fin 3 → Nat :=
  let c0_i32_17 : BitVec 32 := 0#32
  let c0_i32_18 : BitVec 32 := 0#32
  ![v7.toNat, 0, 0]
def k0_off14 (v5 : BitVec 32) : Fin 3 → Nat :=
  let c0_i32_19 : BitVec 32 := 0#32
  let c0_i32_20 : BitVec 32 := 0#32
  ![v5.toNat, 0, 0]
def k0_off15 (i : grid0.Coords) : Fin 1 → Nat :=
  let arg0 : BitVec 32 := BitVec.ofNat 32 (i 0).val
  let v48 : Index := Scalar.indexCast arg0
  ![v48.toNat]
def k0_off16 (v7 : BitVec 32) : Fin 1 → Nat :=
  let c1_i32_35 : BitVec 32 := 1#32
  let v74 : BitVec 32 := Scalar.subi c1_i32_35 v7
  ![v74.toNat]
def k0_cond4 (v49 : BitVec 32) : BitVec 1 :=
  let c0_i32_21 : BitVec 32 := 0#32
  let v50 : BitVec 1 := Scalar.cmpi .sge v49 c0_i32_21
  let v51 : BitVec 32 := Scalar.extui v50
  let c0_i32_22 : BitVec 32 := 0#32
  let v52 : BitVec 1 := Scalar.cmpi .ne v51 c0_i32_22
  v52

def k0_off17 (v7 : BitVec 32) : Fin 3 → Nat :=
  let c1_i32_35 : BitVec 32 := 1#32
  let v74 : BitVec 32 := Scalar.subi c1_i32_35 v7
  let c0_i32_36 : BitVec 32 := 0#32
  let c0_i32_37 : BitVec 32 := 0#32
  ![v74.toNat, 0, 0]
def k0_off18 (v49 : BitVec 32) : Fin 3 → Nat :=
  let c0_i32_38 : BitVec 32 := 0#32
  let c0_i32_39 : BitVec 32 := 0#32
  ![v49.toNat, 0, 0]
def k0_off19 (v7 : BitVec 32) : Fin 3 → Nat :=
  let c1_i32_35 : BitVec 32 := 1#32
  let v74 : BitVec 32 := Scalar.subi c1_i32_35 v7
  let c0_i32_44 : BitVec 32 := 0#32
  let c0_i32_45 : BitVec 32 := 0#32
  ![v74.toNat, 0, 0]
def k0_off20 (v49 : BitVec 32) : Fin 3 → Nat :=
  let c0_i32_46 : BitVec 32 := 0#32
  let c0_i32_47 : BitVec 32 := 0#32
  ![v49.toNat, 0, 0]

def k0_chk4 (i : grid0.Coords) (v0 : BitVec 32) (v5 : BitVec 32) (v7 : BitVec 32) (v15 : BitVec 32) (v49 : BitVec 32) : Prop :=
  (∀ (k0_h1 : k0_cond1 i v0 = 1#1), ∀ (k0_h3 : k0_cond3 i v5 v15 = 1#1), ∀ (k0_h4 : k0_cond4 v49 = 1#1), ∀ a, (k0_off16 v7) a + S1.size a ≤ S2.size a) ∧
  (∀ (k0_h1 : k0_cond1 i v0 = 1#1), ∀ (k0_h3 : k0_cond3 i v5 v15 = 1#1), ∀ (k0_h4 : k0_cond4 v49 = 1#1), ∀ a, (k0_off17 v7) a + S1x2048x512.size a ≤ S2x2048x512.size a) ∧
  (∀ (k0_h1 : k0_cond1 i v0 = 1#1), ∀ (k0_h3 : k0_cond3 i v5 v15 = 1#1), ∀ (k0_h4 : k0_cond4 v49 = 1#1), ∀ a, (k0_off18 v49) a + S1x2048x512.size a ≤ S32x2048x512.size a) ∧
  (∀ (k0_h1 : k0_cond1 i v0 = 1#1), ∀ (k0_h3 : k0_cond3 i v5 v15 = 1#1), ∀ (k0_h4 : k0_cond4 v49 = 1#1), ∀ a, (k0_off19 v7) a + S1x512x2048.size a ≤ S2x512x2048.size a) ∧
  (∀ (k0_h1 : k0_cond1 i v0 = 1#1), ∀ (k0_h3 : k0_cond3 i v5 v15 = 1#1), ∀ (k0_h4 : k0_cond4 v49 = 1#1), ∀ a, (k0_off20 v49) a + S1x512x2048.size a ≤ S32x512x2048.size a)
theorem k0_off16_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off16 v7) a + S1.size a ≤ S2.size a := fun i v0 v5 v7 v15 v49 k0_hw4 k0_h1 k0_h3 k0_h4 => k0_hw4.1 k0_h1 k0_h3 k0_h4
theorem k0_off17_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off17 v7) a + S1x2048x512.size a ≤ S2x2048x512.size a := fun i v0 v5 v7 v15 v49 k0_hw4 k0_h1 k0_h3 k0_h4 => k0_hw4.2.1 k0_h1 k0_h3 k0_h4
theorem k0_off18_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off18 v49) a + S1x2048x512.size a ≤ S32x2048x512.size a := fun i v0 v5 v7 v15 v49 k0_hw4 k0_h1 k0_h3 k0_h4 => k0_hw4.2.2.1 k0_h1 k0_h3 k0_h4
theorem k0_off19_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off19 v7) a + S1x512x2048.size a ≤ S2x512x2048.size a := fun i v0 v5 v7 v15 v49 k0_hw4 k0_h1 k0_h3 k0_h4 => k0_hw4.2.2.2.1 k0_h1 k0_h3 k0_h4
theorem k0_off20_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off20 v49) a + S1x512x2048.size a ≤ S32x512x2048.size a := fun i v0 v5 v7 v15 v49 k0_hw4 k0_h1 k0_h3 k0_h4 => k0_hw4.2.2.2.2 k0_h1 k0_h3 k0_h4

def k0_off21 (v7 : BitVec 32) : Fin 3 → Nat :=
  let v53 : Index := Scalar.indexCast v7
  let c0_23 : Index := 0#32
  let c0_24 : Index := 0#32
  ![v53.toNat, 0, 0]
def k0_off22 (v7 : BitVec 32) : Fin 3 → Nat :=
  let v67 : Index := Scalar.indexCast v7
  let c0_31 : Index := 0#32
  let c0_32 : Index := 0#32
  ![v67.toNat, 0, 0]

def k0_chk3 (i : grid0.Coords) (v0 : BitVec 32) (v5 : BitVec 32) (v7 : BitVec 32) (v15 : BitVec 32) : Prop :=
  (∀ (k0_h1 : k0_cond1 i v0 = 1#1), ∀ (k0_h3 : k0_cond3 i v5 v15 = 1#1), ∀ a, (k0_off10 v7) a + S1.size a ≤ S2.size a) ∧
  (∀ (k0_h1 : k0_cond1 i v0 = 1#1), ∀ (k0_h3 : k0_cond3 i v5 v15 = 1#1), ∀ a, (k0_off11 v7) a + S1x2048x512.size a ≤ S2x2048x512.size a) ∧
  (∀ (k0_h1 : k0_cond1 i v0 = 1#1), ∀ (k0_h3 : k0_cond3 i v5 v15 = 1#1), ∀ a, (k0_off12 v5) a + S1x2048x512.size a ≤ S32x2048x512.size a) ∧
  (∀ (k0_h1 : k0_cond1 i v0 = 1#1), ∀ (k0_h3 : k0_cond3 i v5 v15 = 1#1), ∀ a, (k0_off13 v7) a + S1x512x2048.size a ≤ S2x512x2048.size a) ∧
  (∀ (k0_h1 : k0_cond1 i v0 = 1#1), ∀ (k0_h3 : k0_cond3 i v5 v15 = 1#1), ∀ a, (k0_off14 v5) a + S1x512x2048.size a ≤ S32x512x2048.size a) ∧
  (∀ (k0_h1 : k0_cond1 i v0 = 1#1), ∀ (k0_h3 : k0_cond3 i v5 v15 = 1#1), ∀ a, (k0_off21 v7) a + S1x2048x512.size a ≤ S2x2048x512.size a) ∧
  (∀ (k0_h1 : k0_cond1 i v0 = 1#1), ∀ (k0_h3 : k0_cond3 i v5 v15 = 1#1), ∀ a, (k0_off22 v7) a + S1x512x2048.size a ≤ S2x512x2048.size a)
theorem k0_off10_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off10 v7) a + S1.size a ≤ S2.size a := fun i v0 v5 v7 v15 k0_hw3 k0_h1 k0_h3 => k0_hw3.1 k0_h1 k0_h3
theorem k0_off11_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off11 v7) a + S1x2048x512.size a ≤ S2x2048x512.size a := fun i v0 v5 v7 v15 k0_hw3 k0_h1 k0_h3 => k0_hw3.2.1 k0_h1 k0_h3
theorem k0_off12_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off12 v5) a + S1x2048x512.size a ≤ S32x2048x512.size a := fun i v0 v5 v7 v15 k0_hw3 k0_h1 k0_h3 => k0_hw3.2.2.1 k0_h1 k0_h3
theorem k0_off13_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off13 v7) a + S1x512x2048.size a ≤ S2x512x2048.size a := fun i v0 v5 v7 v15 k0_hw3 k0_h1 k0_h3 => k0_hw3.2.2.2.1 k0_h1 k0_h3
theorem k0_off14_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off14 v5) a + S1x512x2048.size a ≤ S32x512x2048.size a := fun i v0 v5 v7 v15 k0_hw3 k0_h1 k0_h3 => k0_hw3.2.2.2.2.1 k0_h1 k0_h3
theorem k0_off21_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off21 v7) a + S1x2048x512.size a ≤ S2x2048x512.size a := fun i v0 v5 v7 v15 k0_hw3 k0_h1 k0_h3 => k0_hw3.2.2.2.2.2.1 k0_h1 k0_h3
theorem k0_off22_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off22 v7) a + S1x512x2048.size a ≤ S2x512x2048.size a := fun i v0 v5 v7 v15 k0_hw3 k0_h1 k0_h3 => k0_hw3.2.2.2.2.2.2 k0_h1 k0_h3

def k0_off23 (i : grid0.Coords) : Fin 1 → Nat :=
  let arg0 : BitVec 32 := BitVec.ofNat 32 (i 0).val
  let v20 : Index := Scalar.indexCast arg0
  ![v20.toNat]
def k0_off24 (i : grid0.Coords) : Fin 1 → Nat :=
  let arg0 : BitVec 32 := BitVec.ofNat 32 (i 0).val
  let v25 : Index := Scalar.indexCast arg0
  ![v25.toNat]
def k0_cond5 (v21 : BitVec 32) : BitVec 1 :=
  let c1_i32_5 : BitVec 32 := 1#32
  let v22 : BitVec 1 := Scalar.cmpi .eq v21 c1_i32_5
  let v23 : BitVec 32 := Scalar.extui v22
  let c0_i32_6 : BitVec 32 := 0#32
  let v24 : BitVec 1 := Scalar.cmpi .ne v23 c0_i32_6
  v24

def k0_cond6 (v26 : BitVec 32) : BitVec 1 :=
  let c0_i32_7 : BitVec 32 := 0#32
  let v27 : BitVec 1 := Scalar.cmpi .eq v26 c0_i32_7
  let v28 : BitVec 32 := Scalar.extui v27
  let c0_i32_8 : BitVec 32 := 0#32
  let v29 : BitVec 1 := Scalar.cmpi .ne v28 c0_i32_8
  v29

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== KernelIdeal.lean ====
abbrev S80 : Shape := ⟨1, ![80]⟩
abbrev S1 : Shape := ⟨1, ![1]⟩
abbrev S40960x1024 : Shape := ⟨2, ![40960, 1024]⟩
abbrev S32x2048x512 : Shape := ⟨3, ![32, 2048, 512]⟩
abbrev S32x512x2048 : Shape := ⟨3, ![32, 512, 2048]⟩
abbrev S40960x2x1024 : Shape := ⟨3, ![40960, 2, 1024]⟩
abbrev S40960x1x1024 : Shape := ⟨3, ![40960, 1, 1024]⟩
abbrev S512x1024 : Shape := ⟨2, ![512, 1024]⟩
abbrev S512x2x1024 : Shape := ⟨3, ![512, 2, 1024]⟩
abbrev S512x1x1024 : Shape := ⟨3, ![512, 1, 1024]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2 : Shape := ⟨1, ![2]⟩
abbrev S_ : Shape := ⟨0, ![]⟩
abbrev S1x2048x512 : Shape := ⟨3, ![1, 2048, 512]⟩
abbrev S1x512x2048 : Shape := ⟨3, ![1, 512, 2048]⟩
abbrev S1024x512 : Shape := ⟨2, ![1024, 512]⟩
abbrev S512x512 : Shape := ⟨2, ![512, 512]⟩
abbrev S256x1024 : Shape := ⟨2, ![256, 1024]⟩
abbrev S256x512 : Shape := ⟨2, ![256, 512]⟩
abbrev S256x2048 : Shape := ⟨2, ![256, 2048]⟩
abbrev S256x2x1024 : Shape := ⟨3, ![256, 2, 1024]⟩
abbrev S256x1x1024 : Shape := ⟨3, ![256, 1, 1024]⟩
abbrev S40960x2048 : Shape := ⟨2, ![40960, 2048]⟩
abbrev S1024x1024 : Shape := ⟨2, ![1024, 1024]⟩

abbrev nBuf : Space → Nat
  | .hbm => 16
  | .vmem => 14
  | .smem => 5
  | _ => 0

abbrev bufTy : (tb : Table) → Fin (tcTables nBuf tb) → BufTy
  | .hbm, ⟨0, _⟩ => ⟨S40960x1024, .i32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S40960x2x1024, .bf16⟩
  | .hbm, ⟨5, _⟩ => ⟨S40960x2048, .f32⟩
  | .hbm, ⟨6, _⟩ => ⟨S40960x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S40960x2048, .i32⟩
  | .hbm, ⟨11, _⟩ => ⟨S40960x2048, .i1⟩
  | .hbm, ⟨12, _⟩ => ⟨S_, .f32⟩
  | .hbm, ⟨13, _⟩ => ⟨S_, .f32⟩
  | .hbm, ⟨14, _⟩ => ⟨S40960x2048, .f32⟩
  | .hbm, ⟨15, _⟩ => ⟨S40960x2048, .f32⟩
  | .local _ .vmem, ⟨0, _⟩ => ⟨S512x1024, .i32⟩
  | .local _ .vmem, ⟨1, _⟩ => ⟨S512x1024, .i32⟩
  | .local _ .vmem, ⟨2, _⟩ => ⟨S512x2x1024, .bf16⟩
  | .local _ .vmem, ⟨3, _⟩ => ⟨S512x2x1024, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2x1024, .bf16⟩
  | .local _ .vmem, ⟨11, _⟩ => ⟨S512x2x1024, .bf16⟩
  | .local _ .vmem, ⟨12, _⟩ => ⟨S512x2048, .f32⟩
  | .local _ .vmem, ⟨13, _⟩ => ⟨S512x2048, .f32⟩
  | .local _ .smem, ⟨0, _⟩ => ⟨S80, .i32⟩
  | .local _ .smem, ⟨1, _⟩ => ⟨S1, .i32⟩
  | .local _ .smem, ⟨2, _⟩ => ⟨S80, .i32⟩
  | .local _ .smem, ⟨3, _⟩ => ⟨S80, .i32⟩
  | .local _ .smem, ⟨4, _⟩ => ⟨S80, .i32⟩
  | _, _ => ⟨S40960x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def k0_cond2 (i : grid0.Coords) : BitVec 1 :=
  let arg0 : BitVec 32 := BitVec.ofNat 32 (i 0).val
  let c0_i32_0 : BitVec 32 := 0#32
  let v8 : BitVec 1 := Scalar.cmpi .eq arg0 c0_i32_0
  let v9 : BitVec 32 := Scalar.extui v8
  let c0_i32_1 : BitVec 32 := 0#32
  let v10 : BitVec 1 := Scalar.cmpi .ne v9 c0_i32_1
  v10

def k0_off2 (v7 : BitVec 32) : Fin 1 → Nat :=
  ![v7.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_off3 (v7 : BitVec 32) : Fin 3 → Nat :=
  let c0_i32_9 : BitVec 32 := 0#32
  let c0_i32_10 : BitVec 32 := 0#32
  ![v7.toNat, 0, 0]
def k0_off4 (v5 : BitVec 32) : Fin 3 → Nat :=
  let c0_i32_11 : BitVec 32 := 0#32
  let c0_i32_12 : BitVec 32 := 0#32
  ![v5.toNat, 0, 0]

def k0_off5 (v7 : BitVec 32) : Fin 1 → Nat :=
  ![v7.toNat]
def k0_off6 (v7 : BitVec 32) : Fin 3 → Nat :=
  let c0_i32_13 : BitVec 32 := 0#32
  let c0_i32_14 : BitVec 32 := 0#32
  ![v7.toNat, 0, 0]
def k0_off7 (v7 : BitVec 32) : Fin 3 → Nat :=
  let c0_i32_17 : BitVec 32 := 0#32
  let c0_i32_18 : BitVec 32 := 0#32
  ![v7.toNat, 0, 0]

def k0_chk1 (i : grid0.Coords) (v0 : BitVec 32) (v7 : BitVec 32) : Prop :=
  (∀ (k0_h1 : k0_cond1 i v0 = 1#1), ∀ (k0_h2 : k0_cond2 i = 1#1), ∀ a, (k0_off2 v7) a + S1.size a ≤ S2.size a) ∧
  (∀ (k0_h1 : k0_cond1 i v0 = 1#1), ∀ (k0_h2 : k0_cond2 i = 1#1), ∀ a, (k0_off3 v7) a + S1x2048x512.size a ≤ S2x2048x512.size a) ∧
  (∀ (k0_h1 : k0_cond1 i v0 = 1#1), ∀ (k0_h2 : k0_cond2 i = 1#1), ∀ a, (k0_off5 v7) a + S1.size a ≤ S2.size a) ∧
  (∀ (k0_h1 : k0_cond1 i v0 = 1#1), ∀ (k0_h2 : k0_cond2 i = 1#1), ∀ a, (k0_off6 v7) a + S1x2048x512.size a ≤ S2x2048x512.size a) ∧
  (∀ (k0_h1 : k0_cond1 i v0 = 1#1), ∀ (k0_h2 : k0_cond2 i = 1#1), ∀ a, (k0_off7 v7) a + S1x512x2048.size a ≤ S2x512x2048.size a)
theorem k0_off2_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off2 v7) a + S1.size a ≤ S2.size a := fun i v0 v7 k0_hw1 k0_h1 k0_h2 => k0_hw1.1 k0_h1 k0_h2
theorem k0_off3_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off3 v7) a + S1x2048x512.size a ≤ S2x2048x512.size a := fun i v0 v7 k0_hw1 k0_h1 k0_h2 => k0_hw1.2.1 k0_h1 k0_h2
theorem k0_off5_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off5 v7) a + S1.size a ≤ S2.size a := fun i v0 v7 k0_hw1 k0_h1 k0_h2 => k0_hw1.2.2.1 k0_h1 k0_h2
theorem k0_off6_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off6 v7) a + S1x2048x512.size a ≤ S2x2048x512.size a := fun i v0 v7 k0_hw1 k0_h1 k0_h2 => k0_hw1.2.2.2.1 k0_h1 k0_h2
theorem k0_off7_inb : ∀ (i : grid0.Coords) (v0 : BitVec 32) (v7 : BitVec 32) (k0_hw1 : k0_chk1 i v0 v7), ∀ (k0_h1 : k0_cond1 i v0 = 1#1), ∀ (k0_h2 : k0_cond2 i = 1#1), ∀ a, (k0_off7 v7) a + S1x512x2048.size a ≤ S2x512x2048.size a := fun i v0 v7 k0_hw1 k0_h1 k0_h2 => k0_hw1.2.2.2.2 k0_h1 k0_h2

def k0_off8 (v5 : BitVec 32) : Fin 3 → Nat :=
  let c0_i32_19 : BitVec 32 := 0#32
  let c0_i32_20 : BitVec 32 := 0#32
  ![v5.toNat, 0, 0]

def k0_chk2 (i : grid0.Coords) (v0 : BitVec 32) (v5 : BitVec 32) : Prop :=
  (∀ (k0_h1 : k0_cond1 i v0 = 1#1), ∀ (k0_h2 : k0_cond2 i = 1#1), ∀ a, (k0_off4 v5) a + S1x2048x512.size a ≤ S32x2048x512.size a) ∧
  (∀ (k0_h1 : k0_cond1 i v0 = 1#1), ∀ (k0_h2 : k0_cond2 i = 1#1), ∀ a, (k0_off8 v5) a + S1x512x2048.size a ≤ S32x512x2048.size a)
theorem k0_off4_inb : ∀ (i : grid0.Coords) (v0 : BitVec 32) (v5 : BitVec 32) (k0_hw2 : k0_chk2 i v0 v5), ∀ (k0_h1 : k0_cond1 i v0 = 1#1), ∀ (k0_h2 : k0_cond2 i = 1#1), ∀ a, (k0_off4 v5) a + S1x2048x512.size a ≤ S32x2048x512.size a := fun i v0 v5 k0_hw2 k0_h1 k0_h2 => k0_hw2.1 k0_h1 k0_h2
theorem k0_off8_inb : ∀ (i : grid0.Coords) (v0 : BitVec 32) (v5 : BitVec 32) (k0_hw2 : k0_chk2 i v0 v5), ∀ (k0_h1 : k0_cond1 i v0 = 1#1), ∀ (k0_h2 : k0_cond2 i = 1#1), ∀ a, (k0_off8 v5) a + S1x512x2048.size a ≤ S32x512x2048.size a := fun i v0 v5 k0_hw2 k0_h1 k0_h2 => k0_hw2.2 k0_h1 k0_h2

def k0_off9 (i : grid0.Coords) : Fin 1 → Nat :=
  let arg0 : BitVec 32 := BitVec.ofNat 32 (i 0).val
  let c1_i32 : BitVec 32 := 1#32
  let v12 : BitVec 32 := Scalar.subi arg0 c1_i32
  let c0_i32_3 : BitVec 32 := 0#32
  let v13 : BitVec 32 := Scalar.maxsi v12 c0_i32_3
  let v14 : Index := Scalar.indexCast v13
  ![v14.toNat]
def k0_off10 (v7 : BitVec 32) : Fin 1 → Nat :=
  ![v7.toNat]
def k0_cond3 (i : grid0.Coords) (v5 : BitVec 32) (v15 : BitVec 32) : BitVec 1 :=
  let arg0 : BitVec 32 := BitVec.ofNat 32 (i 0).val
  let c0_i32_2 : BitVec 32 := 0#32
  let v11 : BitVec 1 := Scalar.cmpi .eq arg0 c0_i32_2
  let v16 : BitVec 1 := Scalar.cmpi .ne v5 v15
  let v17 : BitVec 1 := Scalar.ori v11 v16
  let v18 : BitVec 32 := Scalar.extui v17
  let c0_i32_4 : BitVec 32 := 0#32
  let v19 : BitVec 1 := Scalar.cmpi .ne v18 c0_i32_4
  v19

def k0_off11 (v7 : BitVec 32) : Fin 3 → Nat :=
  let c0_i32_9 : BitVec 32 := 0#32
  let c0_i32_10 : BitVec 32 := 0#32
  ![v7.toNat, 0, 0]
def k0_off12 (v5 : BitVec 32) : Fin 3 → Nat :=
  let c0_i32_11 : BitVec 32 := 0#32
  let c0_i32_12 : BitVec 32 := 0#32
  ![v5.toNat, 0, 0]
def k0_off13 (v7 : BitVec 32) : Fin 3 → Nat :=
  let c0_i32_17 : BitVec 32 := 0#32
  let c0_i32_18 : BitVec 32 := 0#32
  ![v7.toNat, 0, 0]
def k0_off14 (v5 : BitVec 32) : Fin 3 → Nat :=
  let c0_i32_19 : BitVec 32 := 0#32
  let c0_i32_20 : BitVec 32 := 0#32
  ![v5.toNat, 0, 0]
def k0_off15 (i : grid0.Coords) : Fin 1 → Nat :=
  let arg0 : BitVec 32 := BitVec.ofNat 32 (i 0).val
  let v48 : Index := Scalar.indexCast arg0
  ![v48.toNat]
def k0_off16 (v7 : BitVec 32) : Fin 1 → Nat :=
  let c1_i32_35 : BitVec 32 := 1#32
  let v74 : BitVec 32 := Scalar.subi c1_i32_35 v7
  ![v74.toNat]
def k0_cond4 (v49 : BitVec 32) : BitVec 1 :=
  let c0_i32_21 : BitVec 32 := 0#32
  let v50 : BitVec 1 := Scalar.cmpi .sge v49 c0_i32_21
  let v51 : BitVec 32 := Scalar.extui v50
  let c0_i32_22 : BitVec 32 := 0#32
  let v52 : BitVec 1 := Scalar.cmpi .ne v51 c0_i32_22
  v52

def k0_off17 (v7 : BitVec 32) : Fin 3 → Nat :=
  let c1_i32_35 : BitVec 32 := 1#32
  let v74 : BitVec 32 := Scalar.subi c1_i32_35 v7
  let c0_i32_36 : BitVec 32 := 0#32
  let c0_i32_37 : BitVec 32 := 0#32
  ![v74.toNat, 0, 0]
def k0_off18 (v49 : BitVec 32) : Fin 3 → Nat :=
  let c0_i32_38 : BitVec 32 := 0#32
  let c0_i32_39 : BitVec 32 := 0#32
  ![v49.toNat, 0, 0]
def k0_off19 (v7 : BitVec 32) : Fin 3 → Nat :=
  let c1_i32_35 : BitVec 32 := 1#32
  let v74 : BitVec 32 := Scalar.subi c1_i32_35 v7
  let c0_i32_44 : BitVec 32 := 0#32
  let c0_i32_45 : BitVec 32 := 0#32
  ![v74.toNat, 0, 0]
def k0_off20 (v49 : BitVec 32) : Fin 3 → Nat :=
  let c0_i32_46 : BitVec 32 := 0#32
  let c0_i32_47 : BitVec 32 := 0#32
  ![v49.toNat, 0, 0]

def k0_chk4 (i : grid0.Coords) (v0 : BitVec 32) (v5 : BitVec 32) (v7 : BitVec 32) (v15 : BitVec 32) (v49 : BitVec 32) : Prop :=
  (∀ (k0_h1 : k0_cond1 i v0 = 1#1), ∀ (k0_h3 : k0_cond3 i v5 v15 = 1#1), ∀ (k0_h4 : k0_cond4 v49 = 1#1), ∀ a, (k0_off16 v7) a + S1.size a ≤ S2.size a) ∧
  (∀ (k0_h1 : k0_cond1 i v0 = 1#1), ∀ (k0_h3 : k0_cond3 i v5 v15 = 1#1), ∀ (k0_h4 : k0_cond4 v49 = 1#1), ∀ a, (k0_off17 v7) a + S1x2048x512.size a ≤ S2x2048x512.size a) ∧
  (∀ (k0_h1 : k0_cond1 i v0 = 1#1), ∀ (k0_h3 : k0_cond3 i v5 v15 = 1#1), ∀ (k0_h4 : k0_cond4 v49 = 1#1), ∀ a, (k0_off18 v49) a + S1x2048x512.size a ≤ S32x2048x512.size a) ∧
  (∀ (k0_h1 : k0_cond1 i v0 = 1#1), ∀ (k0_h3 : k0_cond3 i v5 v15 = 1#1), ∀ (k0_h4 : k0_cond4 v49 = 1#1), ∀ a, (k0_off19 v7) a + S1x512x2048.size a ≤ S2x512x2048.size a) ∧
  (∀ (k0_h1 : k0_cond1 i v0 = 1#1), ∀ (k0_h3 : k0_cond3 i v5 v15 = 1#1), ∀ (k0_h4 : k0_cond4 v49 = 1#1), ∀ a, (k0_off20 v49) a + S1x512x2048.size a ≤ S32x512x2048.size a)
theorem k0_off16_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off16 v7) a + S1.size a ≤ S2.size a := fun i v0 v5 v7 v15 v49 k0_hw4 k0_h1 k0_h3 k0_h4 => k0_hw4.1 k0_h1 k0_h3 k0_h4
theorem k0_off17_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off17 v7) a + S1x2048x512.size a ≤ S2x2048x512.size a := fun i v0 v5 v7 v15 v49 k0_hw4 k0_h1 k0_h3 k0_h4 => k0_hw4.2.1 k0_h1 k0_h3 k0_h4
theorem k0_off18_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off18 v49) a + S1x2048x512.size a ≤ S32x2048x512.size a := fun i v0 v5 v7 v15 v49 k0_hw4 k0_h1 k0_h3 k0_h4 => k0_hw4.2.2.1 k0_h1 k0_h3 k0_h4
theorem k0_off19_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off19 v7) a + S1x512x2048.size a ≤ S2x512x2048.size a := fun i v0 v5 v7 v15 v49 k0_hw4 k0_h1 k0_h3 k0_h4 => k0_hw4.2.2.2.1 k0_h1 k0_h3 k0_h4
theorem k0_off20_inb : ∀ (i : grid0.Coords) (v0 : BitVec 32) (v5 : BitVec 32) (v7 : BitVec 32) (v15 : BitVec 32) (v49 : BitVec 32) (k0_hw4 : k0_chk4 i v0 v5 v7 v15 v49), ∀ (k0_h1 : k0_cond1 i v0 = 1#1), ∀ (k0_h3 : k0_cond3 i v5 v15 = 1#1), ∀ (k0_h4 : k0_cond4 v49 = 1#1), ∀ a, (k0_off20 v49) a + S1x512x2048.size a ≤ S32x512x2048.size a := fun i v0 v5 v7 v15 v49 k0_hw4 k0_h1 k0_h3 k0_h4 => k0_hw4.2.2.2.2 k0_h1 k0_h3 k0_h4

def k0_off21 (v7 : BitVec 32) : Fin 3 → Nat :=
  let v53 : Index := Scalar.indexCast v7
  let c0_23 : Index := 0#32
  let c0_24 : Index := 0#32
  ![v53.toNat, 0, 0]
def k0_off22 (v7 : BitVec 32) : Fin 3 → Nat :=
  let v67 : Index := Scalar.indexCast v7
  let c0_31 : Index := 0#32
  let c0_32 : Index := 0#32
  ![v67.toNat, 0, 0]

def k0_chk3 (i : grid0.Coords) (v0 : BitVec 32) (v5 : BitVec 32) (v7 : BitVec 32) (v15 : BitVec 32) : Prop :=
  (∀ (k0_h1 : k0_cond1 i v0 = 1#1), ∀ (k0_h3 : k0_cond3 i v5 v15 = 1#1), ∀ a, (k0_off10 v7) a + S1.size a ≤ S2.size a) ∧
  (∀ (k0_h1 : k0_cond1 i v0 = 1#1), ∀ (k0_h3 : k0_cond3 i v5 v15 = 1#1), ∀ a, (k0_off11 v7) a + S1x2048x512.size a ≤ S2x2048x512.size a) ∧
  (∀ (k0_h1 : k0_cond1 i v0 = 1#1), ∀ (k0_h3 : k0_cond3 i v5 v15 = 1#1), ∀ a, (k0_off12 v5) a + S1x2048x512.size a ≤ S32x2048x512.size a) ∧
  (∀ (k0_h1 : k0_cond1 i v0 = 1#1), ∀ (k0_h3 : k0_cond3 i v5 v15 = 1#1), ∀ a, (k0_off13 v7) a + S1x512x2048.size a ≤ S2x512x2048.size a) ∧
  (∀ (k0_h1 : k0_cond1 i v0 = 1#1), ∀ (k0_h3 : k0_cond3 i v5 v15 = 1#1), ∀ a, (k0_off14 v5) a + S1x512x2048.size a ≤ S32x512x2048.size a) ∧
  (∀ (k0_h1 : k0_cond1 i v0 = 1#1), ∀ (k0_h3 : k0_cond3 i v5 v15 = 1#1), ∀ a, (k0_off21 v7) a + S1x2048x512.size a ≤ S2x2048x512.size a) ∧
  (∀ (k0_h1 : k0_cond1 i v0 = 1#1), ∀ (k0_h3 : k0_cond3 i v5 v15 = 1#1), ∀ a, (k0_off22 v7) a + S1x512x2048.size a ≤ S2x512x2048.size a)
theorem k0_off10_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off10 v7) a + S1.size a ≤ S2.size a := fun i v0 v5 v7 v15 k0_hw3 k0_h1 k0_h3 => k0_hw3.1 k0_h1 k0_h3
theorem k0_off11_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off11 v7) a + S1x2048x512.size a ≤ S2x2048x512.size a := fun i v0 v5 v7 v15 k0_hw3 k0_h1 k0_h3 => k0_hw3.2.1 k0_h1 k0_h3
theorem k0_off12_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off12 v5) a + S1x2048x512.size a ≤ S32x2048x512.size a := fun i v0 v5 v7 v15 k0_hw3 k0_h1 k0_h3 => k0_hw3.2.2.1 k0_h1 k0_h3
theorem k0_off13_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off13 v7) a + S1x512x2048.size a ≤ S2x512x2048.size a := fun i v0 v5 v7 v15 k0_hw3 k0_h1 k0_h3 => k0_hw3.2.2.2.1 k0_h1 k0_h3
theorem k0_off14_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off14 v5) a + S1x512x2048.size a ≤ S32x512x2048.size a := fun i v0 v5 v7 v15 k0_hw3 k0_h1 k0_h3 => k0_hw3.2.2.2.2.1 k0_h1 k0_h3
theorem k0_off21_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off21 v7) a + S1x2048x512.size a ≤ S2x2048x512.size a := fun i v0 v5 v7 v15 k0_hw3 k0_h1 k0_h3 => k0_hw3.2.2.2.2.2.1 k0_h1 k0_h3
theorem k0_off22_inb : ∀ (i : grid0.Coords) (v0 : BitVec 32) (v5 : BitVec 32) (v7 : BitVec 32) (v15 : BitVec 32) (k0_hw3 : k0_chk3 i v0 v5 v7 v15), ∀ (k0_h1 : k0_cond1 i v0 = 1#1), ∀ (k0_h3 : k0_cond3 i v5 v15 = 1#1), ∀ a, (k0_off22 v7) a + S1x512x2048.size a ≤ S2x512x2048.size a := fun i v0 v5 v7 v15 k0_hw3 k0_h1 k0_h3 => k0_hw3.2.2.2.2.2.2 k0_h1 k0_h3

def k0_off23 (i : grid0.Coords) : Fin 1 → Nat :=
  let arg0 : BitVec 32 := BitVec.ofNat 32 (i 0).val
  let v20 : Index := Scalar.indexCast arg0
  ![v20.toNat]
def k0_off24 (i : grid0.Coords) : Fin 1 → Nat :=
  let arg0 : BitVec 32 := BitVec.ofNat 32 (i 0).val
  let v25 : Index := Scalar.indexCast arg0
  ![v25.toNat]
def k0_cond5 (v21 : BitVec 32) : BitVec 1 :=
  let c1_i32_5 : BitVec 32 := 1#32
  let v22 : BitVec 1 := Scalar.cmpi .eq v21 c1_i32_5
  let v23 : BitVec 32 := Scalar.extui v22
  let c0_i32_6 : BitVec 32 := 0#32
  let v24 : BitVec 1 := Scalar.cmpi .ne v23 c0_i32_6
  v24

def k0_cond6 (v26 : BitVec 32) : BitVec 1 :=
  let c0_i32_7 : BitVec 32 := 0#32
  let v27 : BitVec 1 := Scalar.cmpi .eq v26 c0_i32_7
  let v28 : BitVec 32 := Scalar.extui v27
  let c0_i32_8 : BitVec 32 := 0#32
  let v29 : BitVec 1 := Scalar.cmpi .ne v28 c0_i32_8
  v29

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, 0, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![80], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S80 : Shape := ⟨1, ![80]⟩
abbrev S1 : Shape := ⟨1, ![1]⟩
abbrev S40960x1024 : Shape := ⟨2, ![40960, 1024]⟩
abbrev S32x2048x512 : Shape := ⟨3, ![32, 2048, 512]⟩
abbrev S32x512x2048 : Shape := ⟨3, ![32, 512, 2048]⟩
abbrev S40960x2048 : Shape := ⟨2, ![40960, 2048]⟩
abbrev S80x512 : Shape := ⟨2, ![80, 512]⟩
abbrev S40960 : Shape := ⟨1, ![40960]⟩
abbrev S_ : Shape := ⟨0, ![]⟩
abbrev S512 : Shape := ⟨1, ![512]⟩
abbrev S80x1 : Shape := ⟨2, ![80, 1]⟩
abbrev S1x512 : Shape := ⟨2, ![1, 512]⟩
abbrev S32x512x40960 : Shape := ⟨3, ![32, 512, 40960]⟩
abbrev S32x40960x512 : Shape := ⟨3, ![32, 40960, 512]⟩
abbrev S32x40960x2048 : Shape := ⟨3, ![32, 40960, 2048]⟩
abbrev S1x40960 : Shape := ⟨2, ![1, 40960]⟩
abbrev S32 : Shape := ⟨1, ![32]⟩
abbrev S32x1 : Shape := ⟨2, ![32, 1]⟩
abbrev S32x40960 : Shape := ⟨2, ![32, 40960]⟩
abbrev S32x40960x1 : Shape := ⟨3, ![32, 40960, 1]⟩

abbrev nBuf : Space → Nat
  | .hbm => 64
  | .vmem => 2
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S80, .i32⟩
  | .hbm, ⟨3, _⟩ => ⟨S80, .i32⟩
  | .hbm, ⟨4, _⟩ => ⟨S80, .i32⟩
  | .hbm, ⟨5, _⟩ => ⟨S40960x1024, .i32⟩
  | .hbm, ⟨6, _⟩ => ⟨S32x2048x512, .f32⟩
  | .hbm, ⟨7, _⟩ => ⟨S32x2048x512, .f32⟩
  | .hbm, ⟨8, _⟩ => ⟨S32x512x2048, .f32⟩
  | .hbm, ⟨9, _⟩ => ⟨S40960x2048, .f32⟩
  | .hbm, ⟨10, _⟩ => ⟨S80x512, .i32⟩
  | .hbm, ⟨11, _⟩ => ⟨S40960, .i32⟩
  | .hbm, ⟨12, _⟩ => ⟨S80, .i32⟩
  | .hbm, ⟨13, _⟩ => ⟨S_, .i32⟩
  | .hbm, ⟨14, _⟩ => ⟨S80, .i32⟩
  | .hbm, ⟨15, _⟩ => ⟨S80, .i1⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S80x1, .i1⟩
  | .hbm, ⟨21, _⟩ => ⟨S1x512, .i1⟩
  | .hbm, ⟨22, _⟩ => ⟨S_, .i32⟩
  | .hbm, ⟨23, _⟩ => ⟨S80, .i32⟩
  | .hbm, ⟨24, _⟩ => ⟨S80, .i1⟩
  | .hbm, ⟨25, _⟩ => ⟨S80x1, .i1⟩
  | .hbm, ⟨26, _⟩ => ⟨S80x512, .i1⟩
  | .hbm, ⟨27, _⟩ => ⟨S80x512, .i1⟩
  | .hbm, ⟨28, _⟩ => ⟨S80x512, .i1⟩
  | .hbm, ⟨29, _⟩ => ⟨S80x512, .i1⟩
  | .hbm, ⟨30, _⟩ => ⟨S80x512, .i1⟩
  | .hbm, ⟨31, _⟩ => ⟨S40960, .i1⟩
  | .hbm, ⟨32, _⟩ => ⟨S32x512x40960, .f32⟩
  | .hbm, ⟨33, _⟩ => ⟨S32x40960x512, .f32⟩
  | .hbm, ⟨34, _⟩ => ⟨S32x512x40960, .f32⟩
  | .hbm, ⟨35, _⟩ => ⟨S32x40960x512, .f32⟩
  | .hbm, ⟨36, _⟩ => ⟨S32x40960x512, .f32⟩
  | .hbm, ⟨37, _⟩ => ⟨S32x40960x512, .f32⟩
  | .hbm, ⟨38, _⟩ => ⟨S_, .f32⟩
  | .hbm, ⟨39, _⟩ => ⟨S32x40960x512, .f32⟩
  | .hbm, ⟨40, _⟩ => ⟨S32x40960x512, .f32⟩
  | .hbm, ⟨41, _⟩ => ⟨S_, .f32⟩
  | .hbm, ⟨42, _⟩ => ⟨S32x40960x512, .f32⟩
  | .hbm, ⟨43, _⟩ => ⟨S32x40960x512, .f32⟩
  | .hbm, ⟨44, _⟩ => ⟨S32x40960x512, .f32⟩
  | .hbm, ⟨45, _⟩ => ⟨S32x40960x512, .f32⟩
  | .hbm, ⟨46, _⟩ => ⟨S32x40960x2048, .f32⟩
  | .hbm, ⟨47, _⟩ => ⟨S1x40960, .i32⟩
  | .hbm, ⟨48, _⟩ => ⟨S32, .i32⟩
  | .hbm, ⟨49, _⟩ => ⟨S32x1, .i32⟩
  | .hbm, ⟨50, _⟩ => ⟨S32x40960, .i32⟩
  | .hbm, ⟨51, _⟩ => ⟨S32x40960, .i32⟩
  | .hbm, ⟨52, _⟩ => ⟨S32x40960, .i1⟩
  | .hbm, ⟨53, _⟩ => ⟨S1x40960, .i1⟩
  | .hbm, ⟨54, _⟩ => ⟨S32x40960, .i1⟩
  | .hbm, ⟨55, _⟩ => ⟨S32x40960, .i1⟩
  | .hbm, ⟨56, _⟩ => ⟨S32x40960x1, .i1⟩
  | .hbm, ⟨57, _⟩ => ⟨S_, .f32⟩
  | .hbm, ⟨58, _⟩ => ⟨S_, .f32⟩
  | .hbm, ⟨59, _⟩ => ⟨S32x40960x2048, .i1⟩
  | .hbm, ⟨60, _⟩ => ⟨S32x40960x2048, .f32⟩
  | .hbm, ⟨61, _⟩ => ⟨S32x40960x2048, .f32⟩
  | .hbm, ⟨62, _⟩ => ⟨S_, .f32⟩
  | .hbm, ⟨63, _⟩ => ⟨S40960x2048, .f32⟩
  | .local _ .vmem, ⟨0, _⟩ => ⟨S40960x1024, .i32⟩
  | .local _ .vmem, ⟨1, _⟩ => ⟨S40960x2048, .f32⟩
  | _, _ => ⟨S80, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S40960x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40960x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel2.lean ====
abbrev S4096x2048 : Shape := ⟨2, ![4096, 2048]⟩
abbrev S8x1x12288 : Shape := ⟨3, ![8, 1, 12288]⟩
abbrev S1x2048 : Shape := ⟨2, ![1, 2048]⟩
abbrev S2048x5648 : Shape := ⟨2, ![2048, 5648]⟩
abbrev S1x16 : Shape := ⟨2, ![1, 16]⟩
abbrev S1x128 : Shape := ⟨2, ![1, 128]⟩
abbrev S2048x128 : Shape := ⟨2, ![2048, 128]⟩
abbrev S2048x5632 : Shape := ⟨2, ![2048, 5632]⟩
abbrev S2048x16 : Shape := ⟨2, ![2048, 16]⟩
abbrev S_ : Shape := ⟨0, ![]⟩
abbrev S2048x256 : Shape := ⟨2, ![2048, 256]⟩
abbrev S4096x1024 : Shape := ⟨2, ![4096, 1024]⟩
abbrev S4096x256 : Shape := ⟨2, ![4096, 256]⟩
abbrev S16x1024x256 : Shape := ⟨3, ![16, 1024, 256]⟩
abbrev S16x40x256 : Shape := ⟨3, ![16, 40, 256]⟩
abbrev S4096x128 : Shape := ⟨2, ![4096, 128]⟩
abbrev S512x2048 : Shape := ⟨2, ![512, 2048]⟩
abbrev S1x1x12288 : Shape := ⟨3, ![1, 1, 12288]⟩
abbrev S512x128 : Shape := ⟨2, ![512, 128]⟩
abbrev S512x1024 : Shape := ⟨2, ![512, 1024]⟩
abbrev S512x256 : Shape := ⟨2, ![512, 256]⟩
abbrev S2x1024x256 : Shape := ⟨3, ![2, 1024, 256]⟩
abbrev S2x40x256 : Shape := ⟨3, ![2, 40, 256]⟩
abbrev S1x12288 : Shape := ⟨2, ![1, 12288]⟩
abbrev S512 : Shape := ⟨1, ![512]⟩
abbrev S512x1 : Shape := ⟨2, ![512, 1]⟩
abbrev S256x128 : Shape := ⟨2, ![256, 128]⟩
abbrev S8x256 : Shape := ⟨2, ![8, 256]⟩
abbrev S128x256 : Shape := ⟨2, ![128, 256]⟩
abbrev S8 : Shape := ⟨1, ![8]⟩
abbrev S8x1 : Shape := ⟨2, ![8, 1]⟩
abbrev S40x256 : Shape := ⟨2, ![40, 256]⟩
abbrev S88x256 : Shape := ⟨2, ![88, 256]⟩
abbrev S1x40x256 : Shape := ⟨3, ![1, 40, 256]⟩
abbrev S2048x1024 : Shape := ⟨2, ![2048, 1024]⟩
abbrev S2048x512 : Shape := ⟨2, ![2048, 512]⟩
abbrev S512x512 : Shape := ⟨2, ![512, 512]⟩
abbrev S256x1024 : Shape := ⟨2, ![256, 1024]⟩
abbrev S1024x256 : Shape := ⟨2, ![1024, 256]⟩
abbrev S1x1024x256 : Shape := ⟨3, ![1, 1024, 256]⟩

abbrev nBuf : Space → Nat
  | .hbm => 34
  | .vmem => 35
  | .smem => 0
  | _ => 0

abbrev bufTy : (tb : Table) → Fin (tcTables nBuf tb) → BufTy
  | .hbm, ⟨0, _⟩ => ⟨S4096x2048, .f32⟩
  | .hbm, ⟨1, _⟩ => ⟨S8x1x12288, .f32⟩
  | .hbm, ⟨2, _⟩ => ⟨S1x2048, .f32⟩
  | .hbm, ⟨3, _⟩ => ⟨S2048x5648, .f32⟩
  | .hbm, ⟨4, _⟩ => ⟨S1x16, .f32⟩
  | .hbm, ⟨5, _⟩ => ⟨S1x128, .f32⟩
  | .hbm, ⟨6, _⟩ => ⟨S1x128, .f32⟩
  | .hbm, ⟨7, _⟩ => ⟨S2048x128, .f32⟩
  | .hbm, ⟨8, _⟩ => ⟨S2048x128, .f32⟩
  | .hbm, ⟨9, _⟩ => ⟨S2048x5632, .f32⟩
  | .hbm, ⟨10, _⟩ => ⟨S2048x5632, .bf16⟩
  | .hbm, ⟨11, _⟩ => ⟨S2048x16, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S2048x128, .f32⟩
  | .hbm, ⟨17, _⟩ => ⟨S2048x128, .f32⟩
  | .hbm, ⟨18, _⟩ => ⟨S2048x128, .bf16⟩
  | .hbm, ⟨19, _⟩ => ⟨S2048x256, .bf16⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S4096x1024, .bf16⟩
  | .hbm, ⟨24, _⟩ => ⟨S4096x256, .bf16⟩
  | .hbm, ⟨25, _⟩ => ⟨S4096x256, .bf16⟩
  | .hbm, ⟨26, _⟩ => ⟨S4096x1024, .bf16⟩
  | .hbm, ⟨27, _⟩ => ⟨S16x1024x256, .bf16⟩
  | .hbm, ⟨28, _⟩ => ⟨S4096x1024, .bf16⟩
  | .hbm, ⟨29, _⟩ => ⟨S4096x1024, .bf16⟩
  | .hbm, ⟨30, _⟩ => ⟨S16x40x256, .f32⟩
  | .hbm, ⟨31, _⟩ => ⟨S4096x128, .f32⟩
  | .hbm, ⟨32, _⟩ => ⟨S4096x256, .f32⟩
  | .hbm, ⟨33, _⟩ => ⟨S4096x256, .f32⟩
  | .local _ .vmem, ⟨0, _⟩ => ⟨S512x2048, .f32⟩
  | .local _ .vmem, ⟨1, _⟩ => ⟨S512x2048, .f32⟩
  | .local _ .vmem, ⟨2, _⟩ => ⟨S1x1x12288, .f32⟩
  | .local _ .vmem, ⟨3, _⟩ => ⟨S1x2048, .f32⟩
  | .local _ .vmem, ⟨4, _⟩ => ⟨S2048x5632, .bf16⟩
  | .local _ .vmem, ⟨5, _⟩ => ⟨S2048x256, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x1024, .bf16⟩
  | .local _ .vmem, ⟨20, _⟩ => ⟨S512x1024, .bf16⟩
  | .local _ .vmem, ⟨21, _⟩ => ⟨S2x1024x256, .bf16⟩
  | .local _ .vmem, ⟨22, _⟩ => ⟨S2x1024x256, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S2x40x256, .f32⟩
  | .local _ .vmem, ⟨28, _⟩ => ⟨S2x40x256, .f32⟩
  | .local _ .vmem, ⟨29, _⟩ => ⟨S512x128, .f32⟩
  | .local _ .vmem, ⟨30, _⟩ => ⟨S512x128, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_call1_v0 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v10_6 : Ref sig .tc := ⟨.hbm, 29, rfl⟩
abbrev main_v10_7 : Ref sig .tc := ⟨.hbm, 30, rfl⟩
abbrev main_v10_8 : Ref sig .tc := ⟨.hbm, 31, rfl⟩
abbrev main_v10_9 : Ref sig .tc := ⟨.hbm, 32, rfl⟩
abbrev main_v10_10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x40x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S4096x2048 : Shape := ⟨2, ![4096, 2048]⟩
abbrev S8x1x12288 : Shape := ⟨3, ![8, 1, 12288]⟩
abbrev S1x2048 : Shape := ⟨2, ![1, 2048]⟩
abbrev S2048x5648 : Shape := ⟨2, ![2048, 5648]⟩
abbrev S1x16 : Shape := ⟨2, ![1, 16]⟩
abbrev S1x128 : Shape := ⟨2, ![1, 128]⟩
abbrev S2048x128 : Shape := ⟨2, ![2048, 128]⟩
abbrev S1x1x2048 : Shape := ⟨3, ![1, 1, 2048]⟩
abbrev S_ : Shape := ⟨0, ![]⟩
abbrev S4096 : Shape := ⟨1, ![4096]⟩
abbrev S4096x1 : Shape := ⟨2, ![4096, 1]⟩
abbrev S4096x5648 : Shape := ⟨2, ![4096, 5648]⟩
abbrev S4096x1024 : Shape := ⟨2, ![4096, 1024]⟩
abbrev S4096x256 : Shape := ⟨2, ![4096, 256]⟩
abbrev S4096x8x128 : Shape := ⟨3, ![4096, 8, 128]⟩
abbrev S4096x8 : Shape := ⟨2, ![4096, 8]⟩
abbrev S4096x8x1 : Shape := ⟨3, ![4096, 8, 1]⟩
abbrev S1x1x128 : Shape := ⟨3, ![1, 1, 128]⟩
abbrev S4096x2x128 : Shape := ⟨3, ![4096, 2, 128]⟩
abbrev S4096x2 : Shape := ⟨2, ![4096, 2]⟩
abbrev S4096x2x1 : Shape := ⟨3, ![4096, 2, 1]⟩
abbrev S16x256x1024 : Shape := ⟨3, ![16, 256, 1024]⟩
abbrev S16x1024x256 : Shape := ⟨3, ![16, 1024, 256]⟩

abbrev nBuf : Space → Nat
  | .hbm => 94
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x1x12288, .f32⟩
  | .hbm, ⟨2, _⟩ => ⟨S1x2048, .f32⟩
  | .hbm, ⟨3, _⟩ => ⟨S2048x5648, .f32⟩
  | .hbm, ⟨4, _⟩ => ⟨S1x16, .f32⟩
  | .hbm, ⟨5, _⟩ => ⟨S1x128, .f32⟩
  | .hbm, ⟨6, _⟩ => ⟨S1x128, .f32⟩
  | .hbm, ⟨7, _⟩ => ⟨S2048x128, .f32⟩
  | .hbm, ⟨8, _⟩ => ⟨S2048x128, .f32⟩
  | .hbm, ⟨9, _⟩ => ⟨S1x1x2048, .f32⟩
  | .hbm, ⟨10, _⟩ => ⟨S1x2048, .f32⟩
  | .hbm, ⟨11, _⟩ => ⟨S1x1x2048, .f32⟩
  | .hbm, ⟨12, _⟩ => ⟨S1x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x5648, .f32⟩
  | .hbm, ⟨36, _⟩ => ⟨S4096x1024, .f32⟩
  | .hbm, ⟨37, _⟩ => ⟨S4096x256, .f32⟩
  | .hbm, ⟨38, _⟩ => ⟨S4096x256, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x8x128, .f32⟩
  | .hbm, ⟨44, _⟩ => ⟨S4096x8x128, .f32⟩
  | .hbm, ⟨45, _⟩ => ⟨S_, .f32⟩
  | .hbm, ⟨46, _⟩ => ⟨S4096x8, .f32⟩
  | .hbm, ⟨47, _⟩ => ⟨S4096x8x1, .f32⟩
  | .hbm, ⟨48, _⟩ => ⟨S_, .f32⟩
  | .hbm, ⟨49, _⟩ => ⟨S4096x8x1, .f32⟩
  | .hbm, ⟨50, _⟩ => ⟨S4096x8x1, .f32⟩
  | .hbm, ⟨51, _⟩ => ⟨S_, .f32⟩
  | .hbm, ⟨52, _⟩ => ⟨S4096x8x1, .f32⟩
  | .hbm, ⟨53, _⟩ => ⟨S4096x8x1, .f32⟩
  | .hbm, ⟨54, _⟩ => ⟨S4096x8x1, .f32⟩
  | .hbm, ⟨55, _⟩ => ⟨S4096x8x128, .f32⟩
  | .hbm, ⟨56, _⟩ => ⟨S4096x8x128, .f32⟩
  | .hbm, ⟨57, _⟩ => ⟨S1x1x128, .f32⟩
  | .hbm, ⟨58, _⟩ => ⟨S4096x8x128, .f32⟩
  | .hbm, ⟨59, _⟩ => ⟨S4096x8x128, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x2x128, .f32⟩
  | .hbm, ⟨65, _⟩ => ⟨S4096x2x128, .f32⟩
  | .hbm, ⟨66, _⟩ => ⟨S_, .f32⟩
  | .hbm, ⟨67, _⟩ => ⟨S4096x2, .f32⟩
  | .hbm, ⟨68, _⟩ => ⟨S4096x2x1, .f32⟩
  | .hbm, ⟨69, _⟩ => ⟨S_, .f32⟩
  | .hbm, ⟨70, _⟩ => ⟨S4096x2x1, .f32⟩
  | .hbm, ⟨71, _⟩ => ⟨S4096x2x1, .f32⟩
  | .hbm, ⟨72, _⟩ => ⟨S_, .f32⟩
  | .hbm, ⟨73, _⟩ => ⟨S4096x2x1, .f32⟩
  | .hbm, ⟨74, _⟩ => ⟨S4096x2x1, .f32⟩
  | .hbm, ⟨75, _⟩ => ⟨S4096x2x1, .f32⟩
  | .hbm, ⟨76, _⟩ => ⟨S4096x2x128, .f32⟩
  | .hbm, ⟨77, _⟩ => ⟨S4096x2x128, .f32⟩
  | .hbm, ⟨78, _⟩ => ⟨S1x1x128, .f32⟩
  | .hbm, ⟨79, _⟩ => ⟨S4096x2x128, .f32⟩
  | .hbm, ⟨80, _⟩ => ⟨S4096x2x128, .f32⟩
  | .hbm, ⟨81, _⟩ => ⟨S4096x256, .f32⟩
  | .hbm, ⟨82, _⟩ => ⟨S16x256x1024, .f32⟩
  | .hbm, ⟨83, _⟩ => ⟨S16x1024x256, .f32⟩
  | .hbm, ⟨84, _⟩ => ⟨S_, .f32⟩
  | .hbm, ⟨85, _⟩ => ⟨S4096x1024, .f32⟩
  | .hbm, ⟨86, _⟩ => ⟨S4096x1024, .f32⟩
  | .hbm, ⟨87, _⟩ => ⟨S4096x1024, .bf16⟩
  | .hbm, ⟨88, _⟩ => ⟨S4096x256, .bf16⟩
  | .hbm, ⟨89, _⟩ => ⟨S4096x256, .bf16⟩
  | .hbm, ⟨90, _⟩ => ⟨S4096x1024, .bf16⟩
  | .hbm, ⟨91, _⟩ => ⟨S16x1024x256, .bf16⟩
  | .hbm, ⟨92, _⟩ => ⟨S4096x1024, .bf16⟩
  | .hbm, ⟨93, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Kernel3.lean ====
abbrev S4096x1024 : Shape := ⟨2, ![4096, 1024]⟩
abbrev S4096x256 : Shape := ⟨2, ![4096, 256]⟩
abbrev S_ : Shape := ⟨0, ![]⟩
abbrev S256x512 : Shape := ⟨2, ![256, 512]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x256, .bf16⟩
  | .hbm, ⟨12, _⟩ => ⟨S4096x256, .bf16⟩
  | .hbm, ⟨13, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S4096x1024 : Shape := ⟨2, ![4096, 1024]⟩
abbrev S4096x256 : Shape := ⟨2, ![4096, 256]⟩
abbrev S16x256x2x4x128 : Shape := ⟨5, ![16, 256, 2, 4, 128]⟩
abbrev S16x256x2x128 : Shape := ⟨4, ![16, 256, 2, 128]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S16x256x2x4x128, .f32⟩
  | .hbm, ⟨4, _⟩ => ⟨S16x256x2x128, .f32⟩
  | .hbm, ⟨5, _⟩ => ⟨S16x256x2x128, .f32⟩
  | .hbm, ⟨6, _⟩ => ⟨S16x2x256x256x4, .f32⟩
  | .hbm, ⟨7, _⟩ => ⟨S16x2x4x256x256, .f32⟩
  | .hbm, ⟨8, _⟩ => ⟨S_, .f32⟩
  | .hbm, ⟨9, _⟩ => ⟨S_, .f32⟩
  | .hbm, ⟨10, _⟩ => ⟨S16x2x4x256x256, .f32⟩
  | .hbm, ⟨11, _⟩ => ⟨S16x2x4x256x256, .f32⟩
  | .hbm, ⟨12, _⟩ => ⟨S_, .f32⟩
  | .hbm, ⟨13, _⟩ => ⟨S16x2x4x256, .f32⟩
  | .hbm, ⟨14, _⟩ => ⟨S_, .f32⟩
  | .hbm, ⟨15, _⟩ => ⟨S16x2x4x256, .f32⟩
  | .hbm, ⟨16, _⟩ => ⟨S16x2x4x256, .f32⟩
  | .hbm, ⟨17, _⟩ => ⟨S16x2x4x256x1, .f32⟩
  | .hbm, ⟨18, _⟩ => ⟨S16x2x4x256x256, .f32⟩
  | .hbm, ⟨19, _⟩ => ⟨S16x2x4x256x256, .f32⟩
  | .hbm, ⟨20, _⟩ => ⟨S16x2x4x256x256, .f32⟩
  | .hbm, ⟨21, _⟩ => ⟨S_, .f32⟩
  | .hbm, ⟨22, _⟩ => ⟨S16x2x4x256, .f32⟩
  | .hbm, ⟨23, _⟩ => ⟨S16x2x4x256x1, .f32⟩
  | .hbm, ⟨24, _⟩ => ⟨S16x2x4x256x256, .f32⟩
  | .hbm, ⟨25, _⟩ => ⟨S16x2x4x256x256, .f32⟩
  | .hbm, ⟨26, _⟩ => ⟨S16x2x128x4x256, .f32⟩
  | .hbm, ⟨27, _⟩ => ⟨S16x256x2x4x128, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.Ideal.Flights.lean ====
/-
The expert weights' transfers. Each of the three weight arrays has a two-slot scratch buffer; one tile's three copies
go to one slot and report on that slot's semaphore, so one slot's copies are one batch. This module names the slots,
the windows of the weight arrays, and the two rules the body uses: start the three copies of an expert, and wait for
them.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ
/-- The transfers' counters among the proof's ghost state. -/
local notation "EC" => countersEmb (U := Pipeline.UD sig nD τ)

theorem slot_inb (s : Fin 2) : ∀ a, (![s.val, 0, 0] : Fin 3 → ℕ) a + S1x2048x512.size a ≤ S2x2048x512.size a := by
  revert s; decide
theorem slotD_inb (s : Fin 2) : ∀ a, (![s.val, 0, 0] : Fin 3 → ℕ) a + S1x512x2048.size a ≤ S2x512x2048.size a := by
  revert s; decide
theorem win_inb (e : Fin 32) : ∀ a, (![e.val, 0, 0] : Fin 3 → ℕ) a + S1x2048x512.size a ≤ S32x2048x512.size a := by
  revert e; decide
theorem winD_inb (e : Fin 32) : ∀ a, (![e.val, 0, 0] : Fin 3 → ℕ) a + S1x512x2048.size a ≤ S32x512x2048.size a := by
  revert e; decide
theorem sem_inb (s : Fin 2) : ∀ a, (![s.val] : Fin 1 → ℕ) a + S1.size a ≤ S2.size a := by
  revert s; decide

/-- Slot `s` of a two-slot buffer of first-layer weights. -/
abbrev slotW (A : Memref sig .tc .vmem S2x2048x512 .f32) (s : Fin 2) : Memref sig .tc .vmem S2048x512 .f32 :=
  (A.slice (Rect.unit (s := S2x2048x512) ![s.val, 0, 0] S1x2048x512.size (slot_inb s)) (fun _ => rfl)).squeeze S2048x512 squeezes_S1x2048x512_S2048x512
/-- Slot `s` of the two-slot buffer of second-layer weights. -/
abbrev slotV (A : Memref sig .tc .vmem S2x512x2048 .f32) (s : Fin 2) : Memref sig .tc .vmem S512x2048 .f32 :=
  (A.slice (Rect.unit (s := S2x512x2048) ![s.val, 0, 0] S1x512x2048.size (slotD_inb s)) (fun _ => rfl)).squeeze S512x2048 squeezes_S1x512x2048_S512x2048
/-- Expert `e` of an array of first-layer weights. -/
abbrev winW (A : Memref sig .tc .hbm S32x2048x512 .f32) (e : Fin 32) : Memref sig .tc .hbm S2048x512 .f32 :=
  (A.slice (Rect.unit (s := S32x2048x512) ![e.val, 0, 0] S1x2048x512.size (win_inb e)) (fun _ => rfl)).squeeze S2048x512 squeezes_S1x2048x512_S2048x512
/-- Expert `e` of the array of second-layer weights. -/
abbrev winV (A : Memref sig .tc .hbm S32x512x2048 .f32) (e : Fin 32) : Memref sig .tc .hbm S512x2048 .f32 :=
  (A.slice (Rect.unit (s := S32x512x2048) ![e.val, 0, 0] S1x512x2048.size (winD_inb e)) (fun _ => rfl)).squeeze S512x2048 squeezes_S1x512x2048_S512x2048

/-- The gate weights' buffer, the up weights' and the down weights'. -/
abbrev slotG (s : Fin 2) := slotW (Memref.whole cc0_scratch0) s
abbrev slotU (s : Fin 2) := slotW (Memref.whole cc0_scratch1) s
abbrev slotD (s : Fin 2) := slotV (Memref.whole cc0_scratch2) s
/-- Expert `e` of the gate weights, of the up weights and of the down weights. -/
abbrev winG (e : Fin 32) := winW (Memref.whole main_arg6) e
abbrev winU (e : Fin 32) := winW (Memref.whole main_arg7) e
abbrev winD (e : Fin 32) := winV (Memref.whole main_arg8) e

/-- The semaphore slot `s`'s copies report on. -/
abbrev semAt (s : Fin 2) : DmaSem sig :=
  ((cc0_scratch6.slice (Rect.unit (s := S2) ![s.val] S1.size (sem_inb s))).squeeze S_ squeezes_S1_S_).sem

theorem semAt_zero : semAt 0 = 4 := by decide +kernel
theorem semAt_one : semAt 1 = 5 := by decide +kernel

/-- What one copy adds to its semaphore. -/
abbrev credit : ℕ := (slotG 0).view.amount (SemLoc.dma (semAt 0))

theorem credit_pos : 0 < credit := by decide +kernel

variable (c : Dev nD)
variable (fg : Buf (Elt F) ((c : Thread nD τ).loc main_arg6)) (fu : Buf (Elt F) ((c : Thread nD τ).loc main_arg7))
variable (fd : Buf (Elt F) ((c : Thread nD τ).loc main_arg8))

/-- Expert `e`'s gate weights, up weights and down weights. -/
abbrev gOf (e : Fin 32) : Vec F S2048x512 .f32 := (winG e).view.read (Elt F) fg
abbrev uOf (e : Fin 32) : Vec F S2048x512 .f32 := (winU e).view.read (Elt F) fu
abbrev dOf (e : Fin 32) : Vec F S512x2048 .f32 := (winD e).view.read (Elt F) fd

/-- A slot held at some contents, for all three buffers. -/
def slotAny (s : Fin 2) : sProp 𝕄 :=
  iprop((∃ f, (slotG s).view.loc (c : Thread nD τ) ↦[(slotG s).view.set]{fullShare} f)
    ∗ (∃ f, (slotU s).view.loc (c : Thread nD τ) ↦[(slotU s).view.set]{fullShare} f)
    ∗ (∃ f, (slotD s).view.loc (c : Thread nD τ) ↦[(slotD s).view.set]{fullShare} f))

/-- A slot holding expert `e`'s weights. -/
def slotAt (s : Fin 2) (e : Fin 32) : sProp 𝕄 :=
  iprop(owns (c : Thread nD τ) (slotG s) fullShare (gOf c fg e) ∗ owns (c : Thread nD τ) (slotU s) fullShare (uOf c fu e)
    ∗ owns (c : Thread nD τ) (slotD s) fullShare (dOf c fd e))

theorem slotAt_any (s : Fin 2) (e : Fin 32) : slotAt c fg fu fd s e ⊢ (slotAny c s : sProp 𝕄) := by
  unfold slotAt slotAny owns
  iintro ⟨⟨%f, %h, H⟩, ⟨%f', %h', H'⟩, %f'', %h'', H''⟩
  isplitl [H]; · iexists f; iexact H
  isplitl [H']; · iexists f'; iexact H'
  iexists f''; iexact H''

/-- The weight arrays held whole. -/
def hbm : sProp 𝕄 :=
  iprop(((c : Thread nD τ).loc main_arg6 ↦{fullShare} fg) ∗ ((c : Thread nD τ).loc main_arg7 ↦{fullShare} fu)
    ∗ ((c : Thread nD τ).loc main_arg8 ↦{fullShare} fd))

/-- The weight arrays without expert `e`'s windows. -/
def rests (e : Fin 32) : sProp 𝕄 :=
  iprop(((winG e).view.loc (c : Thread nD τ) ↦[Finset.univ \ (winG e).view.set]{fullShare} fg)
    ∗ ((winU e).view.loc (c : Thread nD τ) ↦[Finset.univ \ (winU e).view.set]{fullShare} fu)
    ∗ ((winD e).view.loc (c : Thread nD τ) ↦[Finset.univ \ (winD e).view.set]{fullShare} fd))

/-- Expert `e`'s windows. -/
def wins (e : Fin 32) : sProp 𝕄 :=
  iprop(((winG e).view.loc (c : Thread nD τ) ↦[(winG e).view.set]{fullShare} fg)
    ∗ ((winU e).view.loc (c : Thread nD τ) ↦[(winU e).view.set]{fullShare} fu)
    ∗ ((winD e).view.loc (c : Thread nD τ) ↦[(winD e).view.set]{fullShare} fd))

theorem hbm_split (e : Fin 32) : hbm c fg fu fd ⊢ (iprop(wins c fg fu fd e ∗ rests c fg fu fd e) : sProp 𝕄) := by
  unfold hbm wins rests
  iintro ⟨Hg, Hu, Hd⟩
  ihave Hg := (pointsTo_split_subset (Finset.subset_univ (winG e).view.set)).1 $$ Hg
  icases Hg with ⟨Hg, Hg'⟩
  ihave Hu := (pointsTo_split_subset (Finset.subset_univ (winU e).view.set)).1 $$ Hu
  icases Hu with ⟨Hu, Hu'⟩
  ihave Hd := (pointsTo_split_subset (Finset.subset_univ (winD e).view.set)).1 $$ Hd
  icases Hd with ⟨Hd, Hd'⟩
  isplitl [Hg Hu Hd]
  · isplitl [Hg]; · iexact Hg
    isplitl [Hu]; · iexact Hu
    iexact Hd
  · isplitl [Hg']; · iexact Hg'
    isplitl [Hu']; · iexact Hu'
    iexact Hd'

theorem hbm_join (e : Fin 32) : iprop(wins c fg fu fd e ∗ rests c fg fu fd e) ⊢ (hbm c fg fu fd : sProp 𝕄) := by
  unfold hbm wins rests
  iintro ⟨⟨Hg, Hu, Hd⟩, Hg', Hu', Hd'⟩
  isplitl [Hg Hg']
  · iapply (pointsTo_split_subset (Finset.subset_univ (winG e).view.set)).2
    isplitl [Hg]; · iexact Hg
    iexact Hg'
  isplitl [Hu Hu']
  · iapply (pointsTo_split_subset (Finset.subset_univ (winU e).view.set)).2
    isplitl [Hu]; · iexact Hu
    iexact Hu'
  · iapply (pointsTo_split_subset (Finset.subset_univ (winD e).view.set)).2
    isplitl [Hd]; · iexact Hd
    iexact Hd'

/-- The deliveries of the three copies of expert `e` into slot `s`: the slot's part landed, the window back. -/
def deliv (s : Fin 2) (e : Fin 32) : Fin 3 → sProp 𝕄
  | 0 => iprop(owns (c : Thread nD τ) (slotG s) fullShare (gOf c fg e) ∗ ((winG e).view.loc (c : Thread nD τ) ↦[(winG e).view.set]{fullShare} fg))
  | 1 => iprop(owns (c : Thread nD τ) (slotU s) fullShare (uOf c fu e) ∗ ((winU e).view.loc (c : Thread nD τ) ↦[(winU e).view.set]{fullShare} fu))
  | 2 => iprop(owns (c : Thread nD τ) (slotD s) fullShare (dOf c fd e) ∗ ((winD e).view.loc (c : Thread nD τ) ↦[(winD e).view.set]{fullShare} fd))

instance deliv_storable (s : Fin 2) (e : Fin 32) : ∀ t, Storable (upEmb : UEmb _ 𝕄) (deliv c fg fu fd s e t)
  | 0 => by unfold deliv; infer_instance
  | 1 => by unfold deliv; infer_instance
  | 2 => by unfold deliv; infer_instance

theorem deliv_all (s : Fin 2) (e : Fin 32) :
    bigSep Finset.univ (deliv c fg fu fd s e) ⊢ (iprop(slotAt c fg fu fd s e ∗ wins c fg fu fd e) : sProp 𝕄) := by
  rw [Idealize.SL.BI.bigSep_univ_eq_bigSepL [0, 1, 2] (by decide) (by decide) _]
  show iprop(deliv c fg fu fd s e 0 ∗ deliv c fg fu fd s e 1 ∗ deliv c fg fu fd s e 2) ⊢ _
  unfold deliv slotAt wins
  iintro ⟨⟨H1, H1'⟩, ⟨H2, H2'⟩, H3, H3'⟩
  isplitl [H1 H2 H3]
  · isplitl [H1]; · iexact H1
    isplitl [H2]; · iexact H2
    iexact H3
  · isplitl [H1']; · iexact H1'
    isplitl [H2']; · iexact H2'
    iexact H3'

/-- Slot `s`'s three copies of expert `e`, `j` of them issued and `u` of the credit consumed. -/
abbrev flight (s : Fin 2) (e : Fin 32) (j u : ℕ) : sProp 𝕄 :=
  Transfers.Batch EC (c : Thread nD τ) (.dma (semAt s)) () credit (deliv c fg fu fd s e) j u

/-- Nothing in flight: the weight arrays whole, slot `s` free, and `X` of the other slot. -/
def idleX (s s' : Fin 2) (X : sProp 𝕄) : sProp 𝕄 :=
  iprop(hbm c fg fu fd ∗ slotAny c s ∗ semVal ((c : Thread nD τ), SemLoc.dma (semAt s)) 0 ∗ semVal ((c : Thread nD τ), SemLoc.dma (semAt s')) 0 ∗ X)

/-- Expert `e`'s copies in flight to slot `s`, and `X` of the other slot. -/
def flyX (e : Fin 32) (s s' : Fin 2) (X : sProp 𝕄) : sProp 𝕄 :=
  iprop(rests c fg fu fd e ∗ flight c fg fu fd s e 3 0 ∗ semVal ((c : Thread nD τ), SemLoc.dma (semAt s')) 0 ∗ X)

theorem landedG (s : Fin 2) (e : Fin 32) (f0) :
    iprop(((slotG s).view.loc (c : Thread nD τ) ↦[(slotG s).view.set]{fullShare} (slotG s).view.write (Elt F) f0 (ReadAs.same.apply ((winG e).view.read (Elt F) fg)) Finset.univ)
      ∗ ((winG e).view.loc (c : Thread nD τ) ↦[(winG e).view.set]{fullShare} fg)) ⊢ (deliv c fg fu fd s e 0 : sProp 𝕄) := by
  unfold deliv owns
  iintro ⟨H, H'⟩
  isplitl [H]
  · iexists ((slotG s).view.write (Elt F) f0 (ReadAs.same.apply ((winG e).view.read (Elt F) fg)) Finset.univ); isplitr
    · ipureintro; exact View.read_write_univ _ _
    · iexact H
  · iexact H'
theorem landedU (s : Fin 2) (e : Fin 32) (f0) :
    iprop(((slotU s).view.loc (c : Thread nD τ) ↦[(slotU s).view.set]{fullShare} (slotU s).view.write (Elt F) f0 (ReadAs.same.apply ((winU e).view.read (Elt F) fu)) Finset.univ)
      ∗ ((winU e).view.loc (c : Thread nD τ) ↦[(winU e).view.set]{fullShare} fu)) ⊢ (deliv c fg fu fd s e 1 : sProp 𝕄) := by
  unfold deliv owns
  iintro ⟨H, H'⟩
  isplitl [H]
  · iexists ((slotU s).view.write (Elt F) f0 (ReadAs.same.apply ((winU e).view.read (Elt F) fu)) Finset.univ); isplitr
    · ipureintro; exact View.read_write_univ _ _
    · iexact H
  · iexact H'
theorem landedD (s : Fin 2) (e : Fin 32) (f0) :
    iprop(((slotD s).view.loc (c : Thread nD τ) ↦[(slotD s).view.set]{fullShare} (slotD s).view.write (Elt F) f0 (ReadAs.same.apply ((winD e).view.read (Elt F) fd)) Finset.univ)
      ∗ ((winD e).view.loc (c : Thread nD τ) ↦[(winD e).view.set]{fullShare} fd)) ⊢ (deliv c fg fu fd s e 2 : sProp 𝕄) := by
  unfold deliv owns
  iintro ⟨H, H'⟩
  isplitl [H]
  · iexists ((slotD s).view.write (Elt F) f0 (ReadAs.same.apply ((winD e).view.read (Elt F) fd)) Finset.univ); isplitr
    · ipureintro; exact View.read_write_univ _ _
    · iexact H
  · iexact H'

variable {α : Type}

/-- Starting expert `e`'s three copies into the free slot `s`. -/
theorem wp_start (s s' : Fin 2) (e : Fin 32) (X : sProp 𝕄) (Q : α → sProp 𝕄)
    {o1 o2 o3 p1 p3 : Fin 3 → ℕ} {q1 q2 : Fin 1 → ℕ} (ho1 : o1 = ![s.val, 0, 0]) (ho2 : o2 = ![s.val, 0, 0]) (ho3 : o3 = ![s.val, 0, 0])
    (hp1 : p1 = ![e.val, 0, 0]) (hp3 : p3 = ![e.val, 0, 0]) (hq1 : q1 = ![s.val]) (hq2 : q2 = ![s.val])
    {b1 b2 b3 d1 d2 d3 r1 r2 r3 w1 w2 w3 w4 w5 w6 x1 x2 x3} (k : PUnit → Prog (TpuEff nD τ sig (Elt F) Λ₀ .tc) α) :
    idleX c fg fu fd s s' X ⊢ iprop((flyX c fg fu fd e s s' X -∗ wp frame (wpE (defs₀ (F := F)) Variants.none (c : Thread nD τ) none) Set.univ (k ⟨⟩) Q)
      -∗ wp frame (wpE (defs₀ (F := F)) Variants.none (c : Thread nD τ) none) Set.univ
        (.op (.enqueueDma (((Memref.whole main_arg6).slice (Rect.unit (s := S32x2048x512) p1 S1x2048x512.size d1) (fun _ => rfl)).squeeze S2048x512 squeezes_S1x2048x512_S2048x512)
            (.here (((Memref.whole cc0_scratch0).slice (Rect.unit (s := S2x2048x512) o1 S1x2048x512.size b1) (fun _ => rfl)).squeeze S2048x512 squeezes_S1x2048x512_S2048x512))
            (.dma ((cc0_scratch6.slice (Rect.unit (s := S2) q1 S1.size r1)).squeeze S_ squeezes_S1_S_).sem) w1 w2 x1) fun _ =>
        .op (.enqueueDma (((Memref.whole main_arg7).slice (Rect.unit (s := S32x2048x512) p1 S1x2048x512.size d2) (fun _ => rfl)).squeeze S2048x512 squeezes_S1x2048x512_S2048x512)
            (.here (((Memref.whole cc0_scratch1).slice (Rect.unit (s := S2x2048x512) o2 S1x2048x512.size b2) (fun _ => rfl)).squeeze S2048x512 squeezes_S1x2048x512_S2048x512))
            (.dma ((cc0_scratch6.slice (Rect.unit (s := S2) q2 S1.size r2)).squeeze S_ squeezes_S1_S_).sem) w3 w4 x2) fun _ =>
        .op (.enqueueDma (((Memref.whole main_arg8).slice (Rect.unit (s := S32x512x2048) p3 S1x512x2048.size d3) (fun _ => rfl)).squeeze S512x2048 squeezes_S1x512x2048_S512x2048)
            (.here (((Memref.whole cc0_scratch2).slice (Rect.unit (s := S2x512x2048) o3 S1x512x2048.size b3) (fun _ => rfl)).squeeze S512x2048 squeezes_S1x512x2048_S512x2048))
            (.dma ((cc0_scratch6.slice (Rect.unit (s := S2) q2 S1.size r3)).squeeze S_ squeezes_S1_S_).sem) w5 w6 x3) k) Q) := by
  subst ho1 ho2 ho3 hp1 hp3 hq1 hq2
  unfold idleX flyX
  iintro ⟨Hh, Ha, Hs, Hs', HX⟩ Hk
  ihave Hh := (hbm_split c fg fu fd e) $$ Hh
  icases Hh with ⟨Hw, Hr⟩
  unfold wins slotAny
  icases Hw with ⟨Hg, Hu, Hd⟩
  icases Ha with ⟨⟨%f1, H1⟩, ⟨%f2, H2⟩, %f3, H3⟩
  imod (Transfers.batch_alloc' (Lvl := ℕ) EC (c : Thread nD τ) () credit (deliv c fg fu fd s e) (sm := .dma (semAt s)) (E := Set.univ)) $$ Hs with HB
  iapply (Transfers.wp_dmaBatch EC Variants.none (c : Thread nD τ) none (src := winG e) (dst := slotG s) () credit rfl subset_rfl
    (D := deliv c fg fu fd s e) (j := 0) (u := 0) (by decide) (Nat.zero_le _) (landedG c fg fu fd s e _)) $$ [Hg H1 HB]
  · isplitl [Hg]; · iexact Hg
    isplitl [H1]; · iexact H1
    iexact HB
  iintro HB
  iapply (Transfers.wp_dmaBatch EC Variants.none (c : Thread nD τ) none (src := winU e) (dst := slotU s) () credit rfl subset_rfl
    (D := deliv c fg fu fd s e) (j := 1) (u := 0) (by decide) (Nat.zero_le _) (landedU c fg fu fd s e _)) $$ [Hu H2 HB]
  · isplitl [Hu]; · iexact Hu
    isplitl [H2]; · iexact H2
    iexact HB
  iintro HB
  iapply (Transfers.wp_dmaBatch EC Variants.none (c : Thread nD τ) none (src := winD e) (dst := slotD s) () credit rfl subset_rfl
    (D := deliv c fg fu fd s e) (j := 2) (u := 0) (by decide) (Nat.zero_le _) (landedD c fg fu fd s e _)) $$ [Hd H3 HB]
  · isplitl [Hd]; · iexact Hd
    isplitl [H3]; · iexact H3
    iexact HB
  iintro HB
  iapply Hk
  isplitl [Hr]; · iexact Hr
  isplitl [HB]; · iexact HB
  isplitl [Hs']; · iexact Hs'
  iexact HX

/-- Waiting for the three copies of expert `e` in flight to slot `s`. -/
theorem wp_wait (s s' : Fin 2) (e : Fin 32) (Q : α → sProp 𝕄) (W : Waits sig Unit)
    {q : Fin 1 → ℕ} (hq : q = ![s.val])
    {r1 r2 r3} {a1 a2 : Memref sig .tc .hbm S2048x512 .f32} {a3 : Memref sig .tc .hbm S512x2048 .f32}
    {o1 o2 o3 : Fin 3 → ℕ} {b1 b2 b3 w1 w2 w3 w4 w5 w6} (k : PUnit → Prog (TpuEff nD τ sig (Elt F) Λ₀ .tc) α) :
    iprop(flyX c fg fu fd e s s' (slotAny c s') ∗ owes (c : Thread nD τ) 0 W) ⊢ iprop(((idleX c fg fu fd s' s (slotAt c fg fu fd s e) ∗ ∃ W', owes (c : Thread nD τ) 0 W') -∗ wp frame (wpE (defs₀ (F := F)) Variants.none (c : Thread nD τ) none) Set.univ (k ⟨⟩) Q)
      -∗ wp frame (wpE (defs₀ (F := F)) Variants.none (c : Thread nD τ) none) Set.univ
        (.op (.waitDma2 ((cc0_scratch6.slice (Rect.unit (s := S2) q S1.size r1)).squeeze S_ squeezes_S1_S_).sem a1
            (((Memref.whole cc0_scratch0).slice (Rect.unit (s := S2x2048x512) o1 S1x2048x512.size b1) (fun _ => rfl)).squeeze S2048x512 squeezes_S1x2048x512_S2048x512) w1 w2) fun _ =>
        .op (.waitDma2 ((cc0_scratch6.slice (Rect.unit (s := S2) q S1.size r2)).squeeze S_ squeezes_S1_S_).sem a2
            (((Memref.whole cc0_scratch1).slice (Rect.unit (s := S2x2048x512) o2 S1x2048x512.size b2) (fun _ => rfl)).squeeze S2048x512 squeezes_S1x2048x512_S2048x512) w3 w4) fun _ =>
        .op (.waitDma2 ((cc0_scratch6.slice (Rect.unit (s := S2) q S1.size r3)).squeeze S_ squeezes_S1_S_).sem a3
            (((Memref.whole cc0_scratch2).slice (Rect.unit (s := S2x512x2048) o3 S1x512x2048.size b3) (fun _ => rfl)).squeeze S512x2048 squeezes_S1x512x2048_S512x2048) w5 w6) k) Q) := by
  subst hq
  unfold idleX flyX
  iintro ⟨⟨Hr, HB, Hs', HX⟩, HO⟩ Hk
  iapply (Transfers.wp_waitBatch EC Variants.none (c : Thread nD τ) none () (dstw := (((Memref.whole cc0_scratch0).slice (Rect.unit (s := S2x2048x512) o1 S1x2048x512.size b1) (fun _ => rfl)).squeeze S2048x512 squeezes_S1x2048x512_S2048x512)) (N := credit) rfl (D := deliv c fg fu fd s e) (u := 0) (by have := credit_pos; omega)) $$ [HB HO]
  · isplitl [HB] <;> iassumption
  iintro ⟨HB, HO⟩
  iapply (Transfers.wp_waitBatch EC Variants.none (c : Thread nD τ) none () (dstw := (((Memref.whole cc0_scratch1).slice (Rect.unit (s := S2x2048x512) o2 S1x2048x512.size b2) (fun _ => rfl)).squeeze S2048x512 squeezes_S1x2048x512_S2048x512)) (N := credit) rfl (D := deliv c fg fu fd s e) (u := 0 + credit) (by have := credit_pos; omega)) $$ [HB HO]
  · isplitl [HB] <;> iassumption
  iintro ⟨HB, HO⟩
  iapply (Transfers.wp_waitBatchLast EC Variants.none (c : Thread nD τ) none () (dstw := (((Memref.whole cc0_scratch2).slice (Rect.unit (s := S2x512x2048) o3 S1x512x2048.size b3) (fun _ => rfl)).squeeze S512x2048 squeezes_S1x512x2048_S512x2048)) (N := credit) rfl credit_pos (D := deliv c fg fu fd s e) (u := 0 + credit + credit) (by omega)) $$ [HB HO]
  · isplitl [HB] <;> iassumption
  iintro ⟨HD, Hs, HO⟩
  ihave HD := (deliv_all c fg fu fd s e) $$ HD
  icases HD with ⟨Hat, Hw⟩
  iapply Hk
  isplitr [HO]
  · isplitl [Hw Hr]
    · iapply (hbm_join c fg fu fd e)
      isplitl [Hw]; · iexact Hw
      iexact Hr
    isplitl [HX]; · iexact HX
    isplitl [Hs']; · iexact Hs'
    isplitl [Hs]; · iexact Hs
    iexact Hat
  · iexists _; iexact HO

end Cert.KernelIdeal.Run
end
-- ==== Proof.Ideal.Tables.lean ====
/-
The routing tables' meaning. The kernel reads five integer tables; `Plan` says what they must say for the weights'
transfers to be in order: how many tiles are in use, each tile's expert and slot, the expert whose weights are fetched
next, and whether a tile's second half holds rows. The claims' precondition gives a plan (`plan_exists`).
-/
module

public import proofs.«01_k».proof.Pre_well_planned
public import proofs.«01_k».proof.Proof.Gen.Pre_well_planned
import Idealize.ShloMosaic.Lib.Pointwise.ShapeOpsCore

@[expose] public section

set_option maxRecDepth 16384

noncomputable section

namespace Cert.Tables

open Idealize.ShloMosaic
open Cert.Pre_well_planned (S80 S1)

/-- The index of entry `n` of an 80-entry table. -/
def at80 (n : ℕ) (h : n < 80) : S80.Idx := fun | ⟨0, _⟩ => ⟨n, h⟩

/-- Entry `n` of an 80-entry table of words (0 past its end). -/
def word (T : S80.Idx → BitVec 32) (n : ℕ) : BitVec 32 := if h : n < 80 then T (at80 n h) else 0#32

/-- A tile's word for the expert to fetch next: −1 for none. -/
def nextWord : Option (Fin 32) → BitVec 32
  | none => BitVec.ofInt 32 (-1)
  | some e => BitVec.ofNat 32 e.val

/-- The tables in numbers. -/
structure Tabs where
  te : ℕ → Fin 32
  sl : ℕ → Fin 2
  nx : ℕ → Option (Fin 32)
  fl : ℕ → Bool
  nu : ℕ

/-- What the tables say, and what a plan in order must satisfy. -/
structure Plan (T0 : S80.Idx → BitVec 32) (T1 : S1.Idx → BitVec 32) (T2 T3 T4 : S80.Idx → BitVec 32) (P : Tabs) : Prop where
  pos : 1 ≤ P.nu
  le : P.nu ≤ 80
  w1 : ∀ x, T1 x = BitVec.ofNat 32 P.nu
  w0 : ∀ j, j < P.nu → word T0 j = BitVec.ofNat 32 (P.te j).val
  w2 : ∀ j, j < P.nu → word T2 j = BitVec.ofNat 32 (P.sl j).val
  w3 : ∀ j, j < P.nu → word T3 j = nextWord (P.nx j)
  w4 : ∀ j, j < P.nu → word T4 j = if P.fl j then 1#32 else 0#32
  step : ∀ j, j + 1 < P.nu → (P.te (j + 1) = P.te j ∧ P.sl (j + 1) = P.sl j ∧ P.nx (j + 1) = P.nx j)
    ∨ (P.te (j + 1) ≠ P.te j ∧ P.sl (j + 1) = 1 - P.sl j ∧ P.nx j = some (P.te (j + 1)))
  last : P.nx (P.nu - 1) = none

/-! ## The precondition -/

/-- The one index of a one-entry table. -/
noncomputable def at1 : S1.Idx := fun _ => ⟨0, Nat.pos_of_ne_zero (by revert ‹Fin S1.rank›; decide)⟩

/-- A one-entry table has one index. -/
theorem at1_eq (x : S1.Idx) : x = at1 := by
  funext a
  obtain rfl : a = 0 := Subsingleton.elim _ _
  have h0 : (x 0).val < 1 := (x 0).isLt
  have h1 : (at1 0).val < 1 := (at1 0).isLt
  exact Fin.ext (by omega)

/-- An 80-entry table's index is its coordinate. -/
theorem at80_eq (x : S80.Idx) {n : ℕ} (h : n < 80) (e : (x 0).val = n) : x = at80 n h := by
  funext a
  obtain rfl : a = 0 := Subsingleton.elim _ _
  exact Fin.ext e

theorem word_of_lt (T : S80.Idx → BitVec 32) {n : ℕ} (h : n < 80) : word T n = T (at80 n h) := dif_pos h

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem ofBool_eq_one (b : Bool) : BitVec.ofBool b = 1#1 ↔ b = true := by revert b; decide
theorem sge_one (a b : BitVec 32) : IntOp.cmpi .sge a b = 1#1 ↔ b.toInt ≤ a.toInt :=
  (ofBool_eq_one _).trans decide_eq_true_iff
theorem sle_one (a b : BitVec 32) : IntOp.cmpi .sle a b = 1#1 ↔ a.toInt ≤ b.toInt :=
  (ofBool_eq_one _).trans decide_eq_true_iff
theorem slt_one (a b : BitVec 32) : IntOp.cmpi .slt a b = 1#1 ↔ a.toInt < b.toInt :=
  (ofBool_eq_one _).trans decide_eq_true_iff
theorem eq_one (a b : BitVec 32) : IntOp.cmpi .eq a b = 1#1 ↔ a = b :=
  (ofBool_eq_one _).trans beq_iff_eq
theorem ne_one (a b : BitVec 32) : IntOp.cmpi .ne a b = 1#1 ↔ a ≠ b :=
  (ofBool_eq_one _).trans bne_iff_ne

variable {F : FTy → Type} [FloatOps F] {T0 : IVec S80 32} {T1 : IVec S1 32} {T2 T3 T4 : IVec S80 32}
  {X : IVec Cert.Pre_well_planned.S40960x1024 32} {A B : FVec F Cert.Pre_well_planned.S32x2048x512 .f32} {D : FVec F Cert.Pre_well_planned.S32x512x2048 .f32}

/-- The number of tiles in use is between 1 and 80. -/
theorem used_range (h : (Cert.Pre_well_planned.fn (F := F) T0 T1 T2 T3 T4 X A B D).1 = fun _ => 1#1) :
    1 ≤ (T1 at1).toNat ∧ (T1 at1).toNat ≤ 80 := by
  have k : IntOp.andi (IntOp.cmpi .sge (T1 at1) 1#32) (IntOp.cmpi .sle (T1 at1) 80#32) = 1#1 := congrFun h at1
  rw [andi_one, sge_one, sle_one] at k
  have e1 : (1#32 : BitVec 32).toInt = 1 := by decide
  have e2 : (80#32 : BitVec 32).toInt = 80 := by decide
  have := BitVec.toInt_eq_toNat_cond (T1 at1)
  have := (T1 at1).isLt
  split at * <;> omega

/-- Every tile in use has its expert, slot, next expert and flag in range. -/
theorem entry_range (h0 : (T1 at1).toNat ≤ 80) (h : (Cert.Pre_well_planned.fn (F := F) T0 T1 T2 T3 T4 X A B D).2.1 = fun _ => 1#1)
    {n : ℕ} (hn : n < (T1 at1).toNat) :
    (word T0 n).toNat < 32 ∧ (word T2 n).toNat ≤ 1 ∧ (word T3 n = BitVec.ofInt 32 (-1) ∨ (word T3 n).toNat < 32) ∧ (word T4 n).toNat ≤ 1 := by
  have hn80 : n < 80 := by omega
  have k : IntOp.ori (IntOp.cmpi .sge (BitVec.ofNat 32 n) (shapeCast Cert.Pre_well_planned.S_ T1 Cert.Pre_well_planned.Facts.shapeCasts_S1_S_ (fun a => a.elim0)))
      (IntOp.andi (IntOp.andi (IntOp.andi (IntOp.andi (IntOp.andi (IntOp.andi (IntOp.andi
        (IntOp.cmpi .sge (T0 (at80 n hn80)) 0#32) (IntOp.cmpi .slt (T0 (at80 n hn80)) 32#32))
        (IntOp.cmpi .sge (T2 (at80 n hn80)) 0#32)) (IntOp.cmpi .sle (T2 (at80 n hn80)) 1#32))
        (IntOp.cmpi .sge (T3 (at80 n hn80)) 4294967295#32)) (IntOp.cmpi .slt (T3 (at80 n hn80)) 32#32))
        (IntOp.cmpi .sge (T4 (at80 n hn80)) 0#32)) (IntOp.cmpi .sle (T4 (at80 n hn80)) 1#32)) = 1#1 :=
    (congrArg (fun i => IntOp.ori (IntOp.cmpi .sge (BitVec.ofNat 32 n) (shapeCast Cert.Pre_well_planned.S_ T1 Cert.Pre_well_planned.Facts.shapeCasts_S1_S_ i)) _) (funext fun a => a.elim0)).trans
      (congrFun h (at80 n hn80))
  rw [show shapeCast Cert.Pre_well_planned.S_ T1 Cert.Pre_well_planned.Facts.shapeCasts_S1_S_ (fun a => a.elim0) = T1 at1 from congrArg T1 (at1_eq _)] at k
  simp only [andi_one, ori_one, sge_one, sle_one, slt_one] at k
  rw [word_of_lt T0 hn80, word_of_lt T2 hn80, word_of_lt T3 hn80, word_of_lt T4 hn80]
  generalize T0 (at80 n hn80) = w0 at *
  generalize T2 (at80 n hn80) = w2 at *
  generalize T3 (at80 n hn80) = w3 at *
  generalize T4 (at80 n hn80) = w4 at *
  generalize T1 at1 = w1 at *
  have e0 : (0#32 : BitVec 32).toInt = 0 := by decide
  have e1 : (1#32 : BitVec 32).toInt = 1 := by decide
  have e2 : (32#32 : BitVec 32).toInt = 32 := by decide
  have e3 : (4294967295#32 : BitVec 32).toInt = -1 := by decide
  have en : (BitVec.ofNat 32 n).toInt = n := by
    rw [BitVec.toInt_eq_toNat_cond, BitVec.toNat_ofNat]; split <;> omega
  rw [e0, e1, e2, e3, en] at k
  have c0 := BitVec.toInt_eq_toNat_cond w0
  have c1 := BitVec.toInt_eq_toNat_cond w1
  have c2 := BitVec.toInt_eq_toNat_cond w2
  have c3 := BitVec.toInt_eq_toNat_cond w3
  have c4 := BitVec.toInt_eq_toNat_cond w4
  have l0 := w0.isLt
  have l2 := w2.isLt
  have l3 := w3.isLt
  have l4 := w4.isLt
  have m3 : w3.toNat = 4294967295 → w3 = BitVec.ofInt 32 (-1) := fun e => BitVec.eq_of_toNat_eq (e.trans (by decide))
  rcases k with k | k
  · rw [c1] at k; split at k <;> omega
  · refine ⟨?_, ?_, ?_, ?_⟩
    · split at c0 <;> omega
    · split at c2 <;> omega
    · by_cases hm : w3.toNat = 4294967295
      · exact .inl (m3 hm)
      · right; split at c3 <;> omega
    · split at c4 <;> omega

/-- A tile in use continues the tile before it, or is the one that tile names as next, in the other slot. -/
theorem entry_step (h0 : (T1 at1).toNat ≤ 80) (h : (Cert.Pre_well_planned.fn (F := F) T0 T1 T2 T3 T4 X A B D).2.2.1 = fun _ => 1#1)
    {n : ℕ} (hn : n + 1 < (T1 at1).toNat) :
    (word T0 (n + 1) = word T0 n ∧ word T2 (n + 1) = word T2 n ∧ word T3 (n + 1) = word T3 n)
      ∨ (word T0 (n + 1) ≠ word T0 n ∧ word T2 (n + 1) = 1#32 - word T2 n ∧ word T0 (n + 1) = word T3 n) := by
  have hn80 : n < 80 := by omega
  have hm80 : n + 1 < 80 := by omega
  have hn79 : n < 79 := by omega
  have i1 : ∀ T : S80.Idx → BitVec 32, (extractStridedSlice Cert.Pre_well_planned.S79 ![1] T Cert.Pre_well_planned.Facts.slices_S80_S79_1) (fun | ⟨0, _⟩ => ⟨n, hn79⟩) = T (at80 (n + 1) hm80) :=
    fun T => congrArg T (at80_eq _ hm80 (Nat.add_comm 1 n))
  have i0 : ∀ T : S80.Idx → BitVec 32, (extractStridedSlice Cert.Pre_well_planned.S79 ![0] T Cert.Pre_well_planned.Facts.slices_S80_S79_0) (fun | ⟨0, _⟩ => ⟨n, hn79⟩) = T (at80 n hn80) :=
    fun T => congrArg T (at80_eq _ hn80 (Nat.zero_add n))
  have k := congrFun h (fun | ⟨0, _⟩ => ⟨n, hn79⟩)
  have k' : IntOp.ori (IntOp.ori (IntOp.cmpi .sge (BitVec.ofNat 32 (1 + n)) (shapeCast Cert.Pre_well_planned.S_ T1 Cert.Pre_well_planned.Facts.shapeCasts_S1_S_ (fun a => a.elim0)))
      (IntOp.andi (IntOp.andi (IntOp.cmpi .eq (T0 (at80 (n + 1) hm80)) (T0 (at80 n hn80))) (IntOp.cmpi .eq (T2 (at80 (n + 1) hm80)) (T2 (at80 n hn80))))
        (IntOp.cmpi .eq (T3 (at80 (n + 1) hm80)) (T3 (at80 n hn80)))))
      (IntOp.andi (IntOp.andi (IntOp.cmpi .ne (T0 (at80 (n + 1) hm80)) (T0 (at80 n hn80))) (IntOp.cmpi .eq (T2 (at80 (n + 1) hm80)) (1#32 - T2 (at80 n hn80))))
        (IntOp.cmpi .eq (T0 (at80 (n + 1) hm80)) (T3 (at80 n hn80)))) = 1#1 := by
    rw [← i1 T0, ← i1 T2, ← i1 T3, ← i0 T0, ← i0 T2, ← i0 T3]
    refine Eq.trans ?_ k
    exact congrArg (fun i => IntOp.ori (IntOp.ori (IntOp.cmpi .sge (BitVec.ofNat 32 (1 + n)) (shapeCast Cert.Pre_well_planned.S_ T1 Cert.Pre_well_planned.Facts.shapeCasts_S1_S_ i)) _) _) (funext fun a => a.elim0)
  rw [show shapeCast Cert.Pre_well_planned.S_ T1 Cert.Pre_well_planned.Facts.shapeCasts_S1_S_ (fun a => a.elim0) = T1 at1 from congrArg T1 (at1_eq _)] at k'
  simp only [andi_one, ori_one, sge_one, eq_one, ne_one] at k'
  rw [word_of_lt T0 hn80, word_of_lt T2 hn80, word_of_lt T3 hn80, word_of_lt T0 hm80, word_of_lt T2 hm80, word_of_lt T3 hm80]
  have en : (BitVec.ofNat 32 (1 + n)).toInt = 1 + n := by
    rw [BitVec.toInt_eq_toNat_cond, BitVec.toNat_ofNat]; split <;> omega
  have c1 := BitVec.toInt_eq_toNat_cond (T1 at1)
  rcases k' with (k' | ⟨⟨k1, k2⟩, k3⟩) | ⟨⟨k1, k2⟩, k3⟩
  · rw [en, c1] at k'; split at k' <;> omega
  · exact .inl ⟨k1, k2, k3⟩
  · exact .inr ⟨k1, k2, k3⟩

/-- The last tile in use names no expert to fetch. -/
theorem entry_last (h1 : 1 ≤ (T1 at1).toNat) (h0 : (T1 at1).toNat ≤ 80)
    (h : (Cert.Pre_well_planned.fn (F := F) T0 T1 T2 T3 T4 X A B D).2.2.2 = fun _ => 1#1) :
    word T3 ((T1 at1).toNat - 1) = BitVec.ofInt 32 (-1) := by
  obtain ⟨n, hn⟩ : ∃ n, n = (T1 at1).toNat - 1 := ⟨_, rfl⟩
  have hn80 : n < 80 := by omega
  rw [← hn, word_of_lt T3 hn80]
  have k : IntOp.ori (IntOp.cmpi .ne (BitVec.ofNat 32 n) ((shapeCast Cert.Pre_well_planned.S_ T1 Cert.Pre_well_planned.Facts.shapeCasts_S1_S_ (fun a => a.elim0)) - 1#32))
      (IntOp.cmpi .eq (T3 (at80 n hn80)) 4294967295#32) = 1#1 :=
    (congrArg (fun i => IntOp.ori (IntOp.cmpi .ne (BitVec.ofNat 32 n) ((shapeCast Cert.Pre_well_planned.S_ T1 Cert.Pre_well_planned.Facts.shapeCasts_S1_S_ i) - 1#32)) _) (funext fun a => a.elim0)).trans
      (congrFun h (at80 n hn80))
  rw [show shapeCast Cert.Pre_well_planned.S_ T1 Cert.Pre_well_planned.Facts.shapeCasts_S1_S_ (fun a => a.elim0) = T1 at1 from congrArg T1 (at1_eq _)] at k
  simp only [ori_one, eq_one, ne_one] at k
  rcases k with k | k
  · refine absurd (BitVec.eq_of_toNat_eq ?_) k
    have := (T1 at1).isLt
    rw [BitVec.toNat_ofNat, BitVec.toNat_sub, BitVec.toNat_ofNat]
    omega
  · exact k.trans (by decide)

/-- The tables in numbers, read off their words. -/
noncomputable def numbers (T0 : S80.Idx → BitVec 32) (T1 : S1.Idx → BitVec 32) (T2 T3 T4 : S80.Idx → BitVec 32) : Tabs where
  te n := ⟨(word T0 n).toNat % 32, Nat.mod_lt _ (by decide)⟩
  sl n := ⟨(word T2 n).toNat % 2, Nat.mod_lt _ (by decide)⟩
  nx n := if word T3 n = BitVec.ofInt 32 (-1) then none else some ⟨(word T3 n).toNat % 32, Nat.mod_lt _ (by decide)⟩
  fl n := decide (word T4 n = 1#32)
  nu := (T1 at1).toNat

/-- The precondition says that the tables are a plan. -/
theorem plan_exists (h1 : (Cert.Pre_well_planned.fn (F := F) T0 T1 T2 T3 T4 X A B D).1 = fun _ => 1#1)
    (h2 : (Cert.Pre_well_planned.fn (F := F) T0 T1 T2 T3 T4 X A B D).2.1 = fun _ => 1#1)
    (h3 : (Cert.Pre_well_planned.fn (F := F) T0 T1 T2 T3 T4 X A B D).2.2.1 = fun _ => 1#1)
    (h4 : (Cert.Pre_well_planned.fn (F := F) T0 T1 T2 T3 T4 X A B D).2.2.2 = fun _ => 1#1) :
    Plan T0 T1 T2 T3 T4 (numbers T0 T1 T2 T3 T4) := by
  obtain ⟨hlo, hhi⟩ := used_range h1
  have hr := @entry_range F _ T0 T1 T2 T3 T4 X A B D hhi h2
  have ofNat_self : ∀ w : BitVec 32, BitVec.ofNat 32 w.toNat = w := fun w => by
    apply BitVec.eq_of_toNat_eq; rw [BitVec.toNat_ofNat]; exact Nat.mod_eq_of_lt w.isLt
  refine ⟨hlo, hhi, fun x => ?_, fun j hj => ?_, fun j hj => ?_, fun j hj => ?_, fun j hj => ?_, fun j hj => ?_, ?_⟩
  · rw [at1_eq x]; exact (ofNat_self _).symm
  · obtain ⟨a, -, -, -⟩ := hr hj
    show _ = BitVec.ofNat 32 ((word T0 j).toNat % 32)
    rw [Nat.mod_eq_of_lt a, ofNat_self]
  · obtain ⟨-, a, -, -⟩ := hr hj
    show _ = BitVec.ofNat 32 ((word T2 j).toNat % 2)
    rw [Nat.mod_eq_of_lt (by omega), ofNat_self]
  · obtain ⟨-, -, a, -⟩ := hr hj
    show _ = nextWord (if _ then _ else _)
    split
    · next e => exact e
    · next e =>
      show _ = BitVec.ofNat 32 ((word T3 j).toNat % 32)
      rw [Nat.mod_eq_of_lt (a.resolve_left e), ofNat_self]
  · obtain ⟨-, -, -, a⟩ := hr hj
    show _ = if decide (word T4 j = 1#32) = true then 1#32 else 0#32
    by_cases e : word T4 j = 1#32
    · rw [if_pos (decide_eq_true e)]; exact e
    · rw [if_neg (fun c => e (of_decide_eq_true c))]
      apply BitVec.eq_of_toNat_eq
      have : (word T4 j).toNat ≠ 1 := fun c => e (BitVec.eq_of_toNat_eq c)
      show (word T4 j).toNat = 0
      omega
  · have ha := hr (show j < _ by have : j + 1 < (T1 at1).toNat := hj; omega)
    have hb := hr hj
    rcases entry_step hhi h3 hj with ⟨k1, k2, k3⟩ | ⟨k1, k2, k3⟩
    · refine .inl ⟨Fin.ext (by show _ % 32 = _ % 32; rw [k1]), Fin.ext (by show _ % 2 = _ % 2; rw [k2]), ?_⟩
      show (if _ then _ else _) = (if _ then _ else _)
      simp only [k3]
    · refine .inr ⟨fun c => k1 ?_, ?_, ?_⟩
      · have := congrArg Fin.val c
        have : (word T0 (j + 1)).toNat % 32 = (word T0 j).toNat % 32 := this
        exact BitVec.eq_of_toNat_eq (by omega)
      · have key : ∀ w : BitVec 32, w.toNat ≤ 1 → (⟨(1#32 - w).toNat % 2, Nat.mod_lt _ (by decide)⟩ : Fin 2) = 1 - ⟨w.toNat % 2, Nat.mod_lt _ (by decide)⟩ := by
          intro w hw
          obtain h | h : w.toNat = 0 ∨ w.toNat = 1 := by omega
          · obtain rfl : w = 0#32 := BitVec.eq_of_toNat_eq h
            decide
          · obtain rfl : w = 1#32 := BitVec.eq_of_toNat_eq h
            decide
        refine Eq.trans ?_ (key (word T2 j) ha.2.1)
        exact Fin.ext (by show _ % 2 = _ % 2; rw [k2])
      · show (if _ then _ else _) = some _
        have hne : word T3 j ≠ BitVec.ofInt 32 (-1) := by
          intro c
          have h32 : (word T0 (j + 1)).toNat < 32 := hb.1
          rw [k3, c] at h32
          exact absurd h32 (by decide)
        rw [if_neg hne]
        exact congrArg some (Fin.ext (by show _ % 32 = _ % 32; rw [k3]))
  · show (if _ then _ else _) = none
    exact if_pos (entry_last hlo hhi h4)

end Cert.Tables

end
-- ==== Proof.Ideal.Plan.lean ====
/-
The kernel's control read off the routing tables: from a `Plan` (Tables.lean) every condition and every offset the
kernel computes from the words has a closed form.
-/
module

public import proofs.«01_k».proof.Proof.Ideal.Flights
public import proofs.«01_k».proof.Proof.Ideal.Tables

@[expose] public section

set_option maxRecDepth 16384

noncomputable section

namespace Cert.KernelIdeal.Run

open Cert.KernelIdeal Cert.KernelIdeal.Gen
open Idealize.ShloMosaic Idealize.ShloMosaic.TcCoe
open Cert.Tables (at80 word nextWord Tabs Plan)

theorem coord_lt (i : grid0.Coords) : (i 0).val < 80 := (i 0).isLt

/-! ## The conditions -/

theorem cond1_iff (i : grid0.Coords) {n : ℕ} (h : n ≤ 80) : k0_cond1 i (BitVec.ofNat 32 n) = 1#1 ↔ (i 0).val < n := by
  have key : ∀ (j : Fin 80) (n : Fin 81), Scalar.cmpi .ne (Scalar.extui (Scalar.cmpi .slt (BitVec.ofNat 32 j.val) (BitVec.ofNat 32 n.val))) 0#32 = 1#1 ↔ j.val < n.val := by
    decide +kernel
  exact key ⟨(i 0).val, coord_lt i⟩ ⟨n, by omega⟩

theorem cond2_iff (i : grid0.Coords) : k0_cond2 i = 1#1 ↔ (i 0).val = 0 := by
  have key : ∀ (j : Fin 80), Scalar.cmpi .ne (Scalar.extui (Scalar.cmpi .eq (BitVec.ofNat 32 j.val) 0#32)) 0#32 = 1#1 ↔ j.val = 0 := by
    decide +kernel
  exact key ⟨(i 0).val, coord_lt i⟩

theorem cond3_iff (i : grid0.Coords) (a b : Fin 32) :
    k0_cond3 i (BitVec.ofNat 32 a.val) (BitVec.ofNat 32 b.val) = 1#1 ↔ (i 0).val = 0 ∨ a ≠ b := by
  have key : ∀ (p q : BitVec 1), Scalar.cmpi .ne (Scalar.extui (Scalar.ori p q)) 0#32 = 1#1 ↔ p = 1#1 ∨ q = 1#1 := by decide
  have k1 : ∀ (j : Fin 80), Scalar.cmpi .eq (BitVec.ofNat 32 j.val) 0#32 = 1#1 ↔ j.val = 0 := by decide +kernel
  have k2 : ∀ (a b : Fin 32), Scalar.cmpi .ne (BitVec.ofNat 32 a.val) (BitVec.ofNat 32 b.val) = 1#1 ↔ a ≠ b := by decide +kernel
  exact (key _ _).trans (or_congr (k1 ⟨(i 0).val, coord_lt i⟩) (k2 a b))

theorem cond4_none : ¬ k0_cond4 (nextWord none) = 1#1 := by decide
theorem cond4_some (e : Fin 32) : k0_cond4 (nextWord (some e)) = 1#1 := by revert e; decide

theorem cond5_iff (b : Bool) : k0_cond5 (if b then 1#32 else 0#32) = 1#1 ↔ b = true := by cases b <;> decide
theorem cond6_iff (b : Bool) : k0_cond6 (if b then 1#32 else 0#32) = 1#1 ↔ b = false := by cases b <;> decide

/-! ## The offsets -/

theorem off_toNat (j : Fin 80) : (BitVec.ofNat 32 j.val).toNat = j.val := by revert j; decide +kernel

theorem off1_eq (i : grid0.Coords) : k0_off1 i = ![(i 0).val] := congrArg (fun n => ![n]) (off_toNat ⟨(i 0).val, coord_lt i⟩)
theorem off15_eq (i : grid0.Coords) : k0_off15 i = ![(i 0).val] := congrArg (fun n => ![n]) (off_toNat ⟨(i 0).val, coord_lt i⟩)
theorem off23_eq (i : grid0.Coords) : k0_off23 i = ![(i 0).val] := congrArg (fun n => ![n]) (off_toNat ⟨(i 0).val, coord_lt i⟩)
theorem off24_eq (i : grid0.Coords) : k0_off24 i = ![(i 0).val] := congrArg (fun n => ![n]) (off_toNat ⟨(i 0).val, coord_lt i⟩)
theorem off9_eq (i : grid0.Coords) : k0_off9 i = ![(i 0).val - 1] := by
  have key : ∀ j : Fin 80, (Scalar.maxsi (Scalar.subi (BitVec.ofNat 32 j.val) 1#32) 0#32).toNat = j.val - 1 := by decide +kernel
  exact congrArg (fun n => ![n]) (key ⟨(i 0).val, coord_lt i⟩)

theorem slot_toNat (s : Fin 2) : (BitVec.ofNat 32 s.val).toNat = s.val := by revert s; decide
theorem other_toNat (s : Fin 2) : (Scalar.subi 1#32 (BitVec.ofNat 32 s.val)).toNat = (1 - s : Fin 2).val := by revert s; decide
theorem expert_toNat (e : Fin 32) : (BitVec.ofNat 32 e.val).toNat = e.val := by revert e; decide

theorem off2_eq (s : Fin 2) : k0_off2 (BitVec.ofNat 32 s.val) = ![s.val] := congrArg (fun n => ![n]) (slot_toNat s)
theorem off3_eq (s : Fin 2) : k0_off3 (BitVec.ofNat 32 s.val) = ![s.val, 0, 0] := congrArg (fun n => ![n, 0, 0]) (slot_toNat s)
theorem off4_eq (e : Fin 32) : k0_off4 (BitVec.ofNat 32 e.val) = ![e.val, 0, 0] := congrArg (fun n => ![n, 0, 0]) (expert_toNat e)
theorem off5_eq (s : Fin 2) : k0_off5 (BitVec.ofNat 32 s.val) = ![s.val] := congrArg (fun n => ![n]) (slot_toNat s)
theorem off6_eq (s : Fin 2) : k0_off6 (BitVec.ofNat 32 s.val) = ![s.val, 0, 0] := congrArg (fun n => ![n, 0, 0]) (slot_toNat s)
theorem off7_eq (s : Fin 2) : k0_off7 (BitVec.ofNat 32 s.val) = ![s.val, 0, 0] := congrArg (fun n => ![n, 0, 0]) (slot_toNat s)
theorem off8_eq (e : Fin 32) : k0_off8 (BitVec.ofNat 32 e.val) = ![e.val, 0, 0] := congrArg (fun n => ![n, 0, 0]) (expert_toNat e)
theorem off10_eq (s : Fin 2) : k0_off10 (BitVec.ofNat 32 s.val) = ![s.val] := congrArg (fun n => ![n]) (slot_toNat s)
theorem off11_eq (s : Fin 2) : k0_off11 (BitVec.ofNat 32 s.val) = ![s.val, 0, 0] := congrArg (fun n => ![n, 0, 0]) (slot_toNat s)
theorem off12_eq (e : Fin 32) : k0_off12 (BitVec.ofNat 32 e.val) = ![e.val, 0, 0] := congrArg (fun n => ![n, 0, 0]) (expert_toNat e)
theorem off13_eq (s : Fin 2) : k0_off13 (BitVec.ofNat 32 s.val) = ![s.val, 0, 0] := congrArg (fun n => ![n, 0, 0]) (slot_toNat s)
theorem off14_eq (e : Fin 32) : k0_off14 (BitVec.ofNat 32 e.val) = ![e.val, 0, 0] := congrArg (fun n => ![n, 0, 0]) (expert_toNat e)
theorem off16_eq (s : Fin 2) : k0_off16 (BitVec.ofNat 32 s.val) = ![(1 - s : Fin 2).val] := congrArg (fun n => ![n]) (other_toNat s)
theorem off17_eq (s : Fin 2) : k0_off17 (BitVec.ofNat 32 s.val) = ![(1 - s : Fin 2).val, 0, 0] := congrArg (fun n => ![n, 0, 0]) (other_toNat s)
theorem off18_eq (e : Fin 32) : k0_off18 (BitVec.ofNat 32 e.val) = ![e.val, 0, 0] := congrArg (fun n => ![n, 0, 0]) (expert_toNat e)
theorem off19_eq (s : Fin 2) : k0_off19 (BitVec.ofNat 32 s.val) = ![(1 - s : Fin 2).val, 0, 0] := congrArg (fun n => ![n, 0, 0]) (other_toNat s)
theorem off20_eq (e : Fin 32) : k0_off20 (BitVec.ofNat 32 e.val) = ![e.val, 0, 0] := congrArg (fun n => ![n, 0, 0]) (expert_toNat e)
theorem off21_eq (s : Fin 2) : k0_off21 (BitVec.ofNat 32 s.val) = ![s.val, 0, 0] := congrArg (fun n => ![n, 0, 0]) (slot_toNat s)
theorem off22_eq (s : Fin 2) : k0_off22 (BitVec.ofNat 32 s.val) = ![s.val, 0, 0] := congrArg (fun n => ![n, 0, 0]) (slot_toNat s)

/-! ## The assumptions the kernel's accesses rest on -/

theorem chk1_holds (i : grid0.Coords) (v0 : BitVec 32) (s : Fin 2) : k0_chk1 i v0 (BitVec.ofNat 32 s.val) := by
  refine ⟨fun _ _ => ?_, fun _ _ => ?_, fun _ _ => ?_, fun _ _ => ?_, fun _ _ => ?_⟩
  · rw [off2_eq]; exact sem_inb s
  · rw [off3_eq]; exact slot_inb s
  · rw [off5_eq]; exact sem_inb s
  · rw [off6_eq]; exact slot_inb s
  · rw [off7_eq]; exact slotD_inb s

theorem chk2_holds (i : grid0.Coords) (v0 : BitVec 32) (e : Fin 32) : k0_chk2 i v0 (BitVec.ofNat 32 e.val) := by
  refine ⟨fun _ _ => ?_, fun _ _ => ?_⟩
  · rw [off4_eq]; exact win_inb e
  · rw [off8_eq]; exact winD_inb e

theorem chk3_holds (i : grid0.Coords) (v0 v15 : BitVec 32) (e : Fin 32) (s : Fin 2) :
    k0_chk3 i v0 (BitVec.ofNat 32 e.val) (BitVec.ofNat 32 s.val) v15 := by
  refine ⟨fun _ _ => ?_, fun _ _ => ?_, fun _ _ => ?_, fun _ _ => ?_, fun _ _ => ?_, fun _ _ => ?_, fun _ _ => ?_⟩
  · rw [off10_eq]; exact sem_inb s
  · rw [off11_eq]; exact slot_inb s
  · rw [off12_eq]; exact win_inb e
  · rw [off13_eq]; exact slotD_inb s
  · rw [off14_eq]; exact winD_inb e
  · rw [off21_eq]; exact slot_inb s
  · rw [off22_eq]; exact slotD_inb s

theorem chk4_holds (i : grid0.Coords) (v0 v5 v15 : BitVec 32) (s : Fin 2) (o : Option (Fin 32)) :
    k0_chk4 i v0 v5 (BitVec.ofNat 32 s.val) v15 (nextWord o) := by
  cases o with
  | none =>
    exact ⟨fun _ _ h => absurd h cond4_none, fun _ _ h => absurd h cond4_none, fun _ _ h => absurd h cond4_none,
      fun _ _ h => absurd h cond4_none, fun _ _ h => absurd h cond4_none⟩
  | some e =>
    refine ⟨fun _ _ _ => ?_, fun _ _ _ => ?_, fun _ _ _ => ?_, fun _ _ _ => ?_, fun _ _ _ => ?_⟩
    · rw [off16_eq]; exact sem_inb _
    · rw [off17_eq]; exact slot_inb _
    · show ∀ a, k0_off18 (BitVec.ofNat 32 e.val) a + _ ≤ _
      rw [off18_eq]; exact win_inb e
    · rw [off19_eq]; exact slotD_inb _
    · show ∀ a, k0_off20 (BitVec.ofNat 32 e.val) a + _ ≤ _
      rw [off20_eq]; exact winD_inb e

/-- A word read off a table at the offset `n`. -/
theorem read_word {off : Fin 1 → ℕ} {n : ℕ} (h : off = ![n]) {inb} {sh} (T : S80.Idx → BitVec 32) :
    T ((Rect.unit (s := S80) off S1.size inb).emb (Shape.Idx.first sh)) = word T n := by
  subst h
  have hn : n < 80 := Nat.lt_of_succ_le (inb 0)
  unfold word
  rw [dif_pos hn]
  congr 1
  funext a
  apply Fin.ext
  match a with
  | ⟨0, _⟩ => rfl

end Cert.KernelIdeal.Run
end
-- ==== Proof.Ideal.Body.lean ====
/-
One tile's run of the expert kernel.
-/
module

public import proofs.«01_k».proof.Proof.Ideal.Plan
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ

/-! ## Loads and stores of buffers known by what their views read -/

section Accesses
variable {α : Type} (c : Dev nD) {cs : CoreSpace} {s : Shape} {e : EltTy}

/-- A load through a view whose buffer reads `X` gives `X` on the rectangle. -/
theorem wp_load_owns (Q : α → sProp 𝕄) (m : Memref sig .tc cs s e) (q : PosShare TreeShare) (X : s.Idx → Elt F e) {r : Rect s}
    {hl : m.view.LoadsAt r.toLoadRect} (k : (r.shape.Idx → Elt F e) → Prog (TpuEff nD τ sig (Elt F) Λ₀ .tc) α) :
    (owns (c : Thread nD τ) m q X : sProp 𝕄)
      ⊢ iprop((owns (c : Thread nD τ) m q X -∗ wp frame (wpE (defs₀ (F := F)) Variants.none (c : Thread nD τ) none) Set.univ (k (fun j => X (r.emb j))) Q)
        -∗ wp frame (wpE (defs₀ (F := F)) Variants.none (c : Thread nD τ) none) Set.univ (.op (.load m r.toLoadRect hl) k) Q) := by
  unfold owns
  iintro ⟨%f, %hf, H⟩ Hk
  subst hf
  iapply (wp_load Variants.none (c : Thread nD τ) none Set.univ (m := m) (View.setOn_subset_set _ _)) $$ H
  iintro H
  iapply Hk
  iexists f
  isplitr; · ipureintro; rfl
  iexact H

/-- A store through a view whose buffer reads `X` leaves the payload on the rectangle and `X` off it. -/
theorem wp_store_owns (Q : α → sProp 𝕄) (m : Memref sig .tc cs s e) (X : s.Idx → Elt F e) {r : Rect s} {w : r.shape.Idx → Elt F e}
    {hx : (m.access r).Stores Finset.univ} {hm : Finset.univ = Finset.univ ∨ ∀ a, r.stride a = 1} (k : PUnit → Prog (TpuEff nD τ sig (Elt F) Λ₀ .tc) α)
    (Y : s.Idx → Elt F e) (h1 : ∀ j, Y (r.emb j) = w j) (h2 : ∀ y, y ∉ r.set → Y y = X y) :
    (owns (c : Thread nD τ) m fullShare X : sProp 𝕄)
      ⊢ iprop((owns (c : Thread nD τ) m fullShare Y -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ Hk
  subst hf
  iapply (wp_store Variants.none (c : Thread nD τ) none Set.univ (m := m) (r := r) (Mk := Finset.univ) (S := m.view.set) (View.set_slice_subset _ _)) $$ H
  iintro H
  iapply Hk
  iexists ((m.access r).write (Elt F) f w Finset.univ)
  isplitr
  · ipureintro
    funext y
    by_cases hy : y ∈ r.set
    · rw [← Rect.map_emb_univ, Finset.mem_map] at hy
      obtain ⟨j, -, rfl⟩ := hy
      rw [h1]
      exact View.read_write_of_mem (v := m.access r) f w (Finset.mem_univ j)
    · rw [h2 y hy, View.read_apply, View.read_apply, View.write_of_not_mem]
      rintro hmem
      rw [View.setOn_univ, View.set_slice, Finset.mem_map] at hmem
      obtain ⟨j, hj, he⟩ := hmem
      exact hy (m.view.emb.injective he ▸ hj)
  · iexact H

/-- A word of a table, loaded. -/
theorem wp_word (Q : α → sProp 𝕄) (m : Memref sig .tc .smem S80 .i32) (T : S80.Idx → BitVec 32) {off : Fin 1 → ℕ} {n : ℕ} (h : off = ![n]) {v : BitVec 32} (hv : word T n = v)
    {inb} {hw} {h1} (k : Elt F .i32 → Prog (TpuEff nD τ sig (Elt F) Λ₀ .tc) α) :
    (owns (c : Thread nD τ) m fullShare T : sProp 𝕄)
      ⊢ iprop((owns (c : Thread nD τ) m fullShare T -∗ wp frame (wpE (defs₀ (F := F)) Variants.none (c : Thread nD τ) none) Set.univ (k v) Q)
        -∗ wp frame (wpE (defs₀ (F := F)) Variants.none (c : Thread nD τ) none) Set.univ
          (smemLoadElt m (Rect.unit (s := S80) off S1.size inb) hw (Shape.Idx.first (s := S1) h1) k) Q) := by
  subst hv
  rw [← read_word h T (inb := inb) (sh := h1)]
  exact wp_load_owns c Q m fullShare T (fun f => k (f (Shape.Idx.first h1)))

/-- The count of live tiles, loaded. -/
theorem wp_count (Q : α → sProp 𝕄) (m : Memref sig .tc .smem S1 .i32) (T : S1.Idx → BitVec 32) {v : BitVec 32} (hv : ∀ x, T x = v)
    {r : Rect S1} {hw} {x} (k : Elt F .i32 → Prog (TpuEff nD τ sig (Elt F) Λ₀ .tc) α) :
    (owns (c : Thread nD τ) m fullShare T : sProp 𝕄)
      ⊢ iprop((owns (c : Thread nD τ) m fullShare T -∗ wp frame (wpE (defs₀ (F := F)) Variants.none (c : Thread nD τ) none) Set.univ (k v) Q)
        -∗ wp frame (wpE (defs₀ (F := F)) Variants.none (c : Thread nD τ) none) Set.univ (smemLoadElt m r hw x k) Q) := by
  rw [← hv (r.emb x)]
  exact wp_load_owns c Q m fullShare T (fun f => k (f x))

/-- A load of the rectangle a squeezed slice views. -/
theorem wp_load_slot (Q : α → sProp 𝕄) (m : Memref sig .tc cs s e) (q : PosShare TreeShare) (r : Rect s) (hr : ∀ a, r.stride a = 1) {s' : Shape}
    (hq : r.shape.Squeezes s') (hc : r.shape.ShapeCasts s') (X : s'.Idx → Elt F e)
    {hl : m.view.LoadsAt r.toLoadRect} (k : (r.shape.Idx → Elt F e) → Prog (TpuEff nD τ sig (Elt F) Λ₀ .tc) α) :
    (owns (c : Thread nD τ) ((m.slice r hr).squeeze s' hq) q X : sProp 𝕄)
      ⊢ iprop((owns (c : Thread nD τ) ((m.slice r hr).squeeze s' hq) q X -∗ ∀ v, ⌜shapeCast s' v hc = X⌝ -∗
          wp frame (wpE (defs₀ (F := F)) Variants.none (c : Thread nD τ) none) Set.univ (k v) Q)
        -∗ wp frame (wpE (defs₀ (F := F)) Variants.none (c : Thread nD τ) none) Set.univ (.op (.load m r.toLoadRect hl) k) Q) := by
  unfold owns
  iintro ⟨%f, %hf, H⟩ Hk
  subst hf
  iapply (wp_load Variants.none (c : Thread nD τ) none Set.univ (m := m) (S := ((m.slice r hr).squeeze s' hq).view.set) (by
    rw [show ((m.slice r hr).squeeze s' hq).view.set = (m.view.slice r).set from View.set_reshape _ _, View.set_slice]
    exact subset_rfl)) $$ H
  iintro H
  iapply Hk $$ [H]
  · iexists f
    isplitr; · ipureintro; rfl
    iexact H
  · ipureintro; rfl

end Accesses

/-- A weight slab rounded to bf16, first layer. -/
def castW (w : Vec F S2048x512 .f32) : FVec F S2048x512 .bf16 :=
  shapeCast S2048x512 (truncf .bf16 w bitsLt_bf16_f32 : FVec F S2048x512 .bf16) shapeCasts_S2048x512_S2048x512
/-- A weight slab rounded to bf16, second layer. -/
def castV (w : Vec F S512x2048 .f32) : FVec F S512x2048 .bf16 :=
  shapeCast S512x2048 (truncf .bf16 w bitsLt_bf16_f32 : FVec F S512x2048 .bf16) shapeCasts_S512x2048_S512x2048

/-- Rows 0 to 1023 and rows 1024 to 2047 of a first-layer slab. -/
abbrev topW (W : S2048x512.Idx → Elt F .bf16) : Vec F S1024x512 .bf16 :=
  fun j => W ((Rect.unit (s := S2048x512) ![0, 0] S1024x512.size inb_S2048x512_S1024x512_0_0).emb j)
abbrev botW (W : S2048x512.Idx → Elt F .bf16) : Vec F S1024x512 .bf16 :=
  fun j => W ((Rect.unit (s := S2048x512) ![1024, 0] S1024x512.size inb_S2048x512_S1024x512_1024_0).emb j)
/-- Rows 0 to 255 of a tile's words. -/
abbrev topX (X : S512x1024.Idx → Elt F .i32) : Vec F S256x1024 .i32 :=
  fun j => X ((Rect.unit (s := S512x1024) ![0, 0] S256x1024.size inb_S512x1024_S256x1024_0_0).emb j)

/-- A block of which rows 0 to 255 are `lo` and rows 256 to 511 are `hi`. -/
def halves (lo hi : Vec F S256x2x1024 .bf16) : Vec F S512x2x1024 .bf16 := fun y =>
  if h : (y 0).val < 256 then lo (fun | ⟨0, _⟩ => ⟨(y 0).val, h⟩ | ⟨1, _⟩ => y 1 | ⟨2, _⟩ => y 2)
  else hi (fun | ⟨0, _⟩ => ⟨(y 0).val - 256, by have := (y 0).isLt; show _ < 256; simp at this; omega⟩ | ⟨1, _⟩ => y 1 | ⟨2, _⟩ => y 2)

/-- What a tile computes: all its rows, or its first half with the second half zero. -/
def tileOut (full : Bool) (X : S512x1024.Idx → Elt F .i32) (W3 W4 : S2048x512.Idx → Elt F .bf16) (W5 : S512x2048.Idx → Elt F .bf16) : Vec F S512x2x1024 .bf16 :=
  if full then k0_pay3 X (topW W3) (botW W3) (topW W4) (botW W4) W5
  else halves (k0_pay7 (topX X) (topW W3) (botW W3) (topW W4) (botW W4) W5) (k0_pay4 (k0_pay9 (F := F)) (k0_pay10 (F := F)))

variable (c : Dev nD)
variable (fg : Buf (Elt F) ((c : Thread nD τ).loc main_arg6)) (fu : Buf (Elt F) ((c : Thread nD τ).loc main_arg7))
variable (fd : Buf (Elt F) ((c : Thread nD τ).loc main_arg8))
variable (T0 T2 T3 T4 : S80.Idx → BitVec 32) (T1 : S1.Idx → BitVec 32)

/-- The five tables held whole. -/
def tabs : sProp 𝕄 :=
  iprop(owns (c : Thread nD τ) (Memref.whole main_arg0) fullShare (T0 : S80.Idx → Elt F .i32) ∗ owns (c : Thread nD τ) (Memref.whole main_arg1) fullShare (T1 : S1.Idx → Elt F .i32)
    ∗ owns (c : Thread nD τ) (Memref.whole main_arg2) fullShare (T2 : S80.Idx → Elt F .i32) ∗ owns (c : Thread nD τ) (Memref.whole main_arg3) fullShare (T3 : S80.Idx → Elt F .i32)
    ∗ owns (c : Thread nD τ) (Memref.whole main_arg4) fullShare (T4 : S80.Idx → Elt F .i32))

/-- The bf16 weights' buffers reading `W3`, `W4`, `W5`. -/
def castsAt (W3 W4 : S2048x512.Idx → Elt F .bf16) (W5 : S512x2048.Idx → Elt F .bf16) : sProp 𝕄 :=
  iprop(owns (c : Thread nD τ) (Memref.whole cc0_scratch3) fullShare W3 ∗ owns (c : Thread nD τ) (Memref.whole cc0_scratch4) fullShare W4
    ∗ owns (c : Thread nD τ) (Memref.whole cc0_scratch5) fullShare W5)
/-- The bf16 weights' buffers reading expert `e`'s weights. -/
abbrev castsOf (e : Fin 32) : sProp 𝕄 := castsAt c (castW (gOf c fg e)) (castW (uOf c fu e)) (castV (dOf c fd e))

/-- The next expert's weights in flight to slot `s`, or none; and `X` of the other slot. -/
def pendX (o : Option (Fin 32)) (s s' : Fin 2) (X : sProp 𝕄) : sProp 𝕄 :=
  match o with
  | none => idleX c fg fu fd s s' X
  | some e => flyX c fg fu fd e s s' X
/-- The transfers between two tiles. -/
abbrev pend (o : Option (Fin 32)) (s s' : Fin 2) : sProp 𝕄 := pendX c fg fu fd o s s' (slotAny c s')

/-- What is said of the other slot can be taken out and replaced. -/
theorem pendX_open (o : Option (Fin 32)) (s s' : Fin 2) (X X' : sProp 𝕄) :
    pendX c fg fu fd o s s' X ⊢ iprop(X ∗ (X' -∗ pendX c fg fu fd o s s' X')) := by
  cases o with
  | none =>
    show idleX c fg fu fd s s' X ⊢ iprop(X ∗ (X' -∗ idleX c fg fu fd s s' X'))
    unfold idleX
    iintro ⟨H1, H2, H3, H4, HX⟩
    isplitl [HX]; · iexact HX
    iintro HX
    isplitl [H1]; · iexact H1
    isplitl [H2]; · iexact H2
    isplitl [H3]; · iexact H3
    isplitl [H4]; · iexact H4
    iexact HX
  | some e =>
    show flyX c fg fu fd e s s' X ⊢ iprop(X ∗ (X' -∗ flyX c fg fu fd e s s' X'))
    unfold flyX
    iintro ⟨H1, H2, H3, HX⟩
    isplitl [HX]; · iexact HX
    iintro HX
    isplitl [H1]; · iexact H1
    isplitl [H2]; · iexact H2
    isplitl [H3]; · iexact H3
    iexact HX

/-- Where the run stands before tile `n`: nothing done, or the weights of the last tile's expert in the bf16 buffers and
    the next expert's in flight. -/
def state (P : Tabs) (n : ℕ) : sProp 𝕄 :=
  match n with
  | 0 => iprop((∃ W3 W4 W5, castsAt c W3 W4 W5) ∗ idleX c fg fu fd (P.sl 0) (1 - P.sl 0) (slotAny c (1 - P.sl 0)))
  | n + 1 => iprop(castsOf c fg fu fd (P.te n) ∗ pend c fg fu fd (P.nx n) (1 - P.sl n) (P.sl n))

/-- The expert kernel at a tile. -/
abbrev tileProg (i : grid0.Coords) (A6 : Memref sig .tc .vmem S512x1024 .i32) (h6 : A6.IsWhole) (A10 : Memref sig .tc .vmem S512x2x1024 .bf16) (h10 : A10.IsWhole) :
    Prog (TpuEff nD τ sig (Elt F) Λ₀ .tc) PUnit :=
  cc0_experts i (Memref.whole main_arg0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) A6 h6 (Memref.whole main_arg6) (Memref.isWhole_whole _)
    (Memref.whole main_arg7) (Memref.isWhole_whole _) (Memref.whole main_arg8) (Memref.isWhole_whole _) A10 h10
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6

theorem tile_dead {P : Tabs} (hP : Plan T0 T1 T2 T3 T4 P) (i : grid0.Coords) (hi : ¬ (i 0).val < P.nu)
    (A6 : Memref sig .tc .vmem S512x1024 .i32) (h6 : A6.IsWhole) (A10 : Memref sig .tc .vmem S512x2x1024 .bf16) (h10 : A10.IsWhole) (Kt : PUnit → sProp 𝕄) :
    iprop(tabs c T0 T2 T3 T4 T1 ∗ (tabs c T0 T2 T3 T4 T1 -∗ Kt ⟨⟩))
      ⊢ wp frame (wpE (defs₀ (F := F)) Variants.none (c : Thread nD τ) none) Set.univ (tileProg i A6 h6 A10 h10) Kt := by
  unfold tileProg
  rw [cc0_experts_eq_skeleton]; unfold cc0_experts_skel
  simp only [smemLoad, smemLoadElt_bind, Prog.pure_eq_ret, Prog.lift, Prog.bind_op, Prog.bind_ret]
  unfold tabs
  iintro ⟨⟨Ht0, Ht1, Ht⟩, HK⟩
  iapply (wp_count c Kt (Memref.whole main_arg1) T1 hP.w1) $$ Ht1
  iintro Ht1
  rw [dif_neg (fun h => hi ((cond1_iff i hP.le).1 h))]
  rw [wp_ret]
  imodintro
  iapply HK
  isplitl [Ht0]; · iexact Ht0
  isplitl [Ht1]; · iexact Ht1
  iexact Ht

/-! ## Rows of a block -/

theorem off2_zero : (![0, 0] : Fin 2 → ℕ) = fun _ => 0 := by decide
theorem off3_zero : (![0, 0, 0] : Fin 3 → ℕ) = fun _ => 0 := by decide

/-- The rows 0 to 255 and the rows 256 to 511 of a block of 512. -/
abbrev rLo : Rect S512x2x1024 := Rect.unit (s := S512x2x1024) ![0, 0, 0] S256x2x1024.size inb_S512x2x1024_S256x2x1024_0_0_0
abbrev rHi : Rect S512x2x1024 := Rect.unit (s := S512x2x1024) ![256, 0, 0] S256x2x1024.size inb_S512x2x1024_S256x2x1024_256_0_0

theorem rLo_row (j : S256x2x1024.Idx) : ((rLo.emb j) 0).val = (j 0).val := by
  show 0 + 1 * (j 0).val = (j 0).val; omega
theorem rHi_row (j : S256x2x1024.Idx) : ((rHi.emb j) 0).val = 256 + (j 0).val := by
  show 256 + 1 * (j 0).val = 256 + (j 0).val; omega

theorem mem_rLo {y : S512x2x1024.Idx} (h : (y 0).val < 256) : y ∈ rLo.set := by
  rw [Rect.mem_set_unit]
  intro a
  match a with
  | ⟨0, _⟩ => exact ⟨Nat.zero_le _, by show (y 0).val < 0 + 256; omega⟩
  | ⟨1, _⟩ => exact ⟨Nat.zero_le _, by show (y 1).val < 0 + 2; have : (y 1).val < 2 := (y 1).isLt; omega⟩
  | ⟨2, _⟩ => exact ⟨Nat.zero_le _, by show (y 2).val < 0 + 1024; have : (y 2).val < 1024 := (y 2).isLt; omega⟩
theorem mem_rHi {y : S512x2x1024.Idx} (h : ¬ (y 0).val < 256) : y ∈ rHi.set := by
  rw [Rect.mem_set_unit]
  intro a
  match a with
  | ⟨0, _⟩ => exact ⟨by show 256 ≤ (y 0).val; omega, by show (y 0).val < 256 + 256; have : (y 0).val < 512 := (y 0).isLt; omega⟩
  | ⟨1, _⟩ => exact ⟨Nat.zero_le _, by show (y 1).val < 0 + 2; have : (y 1).val < 2 := (y 1).isLt; omega⟩
  | ⟨2, _⟩ => exact ⟨Nat.zero_le _, by show (y 2).val < 0 + 1024; have : (y 2).val < 1024 := (y 2).isLt; omega⟩

theorem halves_lo (lo hi : Vec F S256x2x1024 .bf16) (j : S256x2x1024.Idx) : halves lo hi (rLo.emb j) = lo j := by
  have hj : (j 0).val < 256 := (j 0).isLt
  unfold halves
  rw [dif_pos (by rw [rLo_row]; exact hj)]
  congr 1; funext a; apply Fin.ext
  match a with
  | ⟨0, _⟩ => exact rLo_row j
  | ⟨1, _⟩ => show 0 + 1 * (j 1).val = (j 1).val; omega
  | ⟨2, _⟩ => show 0 + 1 * (j 2).val = (j 2).val; omega
theorem halves_hi (lo hi : Vec F S256x2x1024 .bf16) (j : S256x2x1024.Idx) : halves lo hi (rHi.emb j) = hi j := by
  unfold halves
  rw [dif_neg (by rw [rHi_row]; omega)]
  congr 1; funext a; apply Fin.ext
  match a with
  | ⟨0, _⟩ => show ((rHi.emb j) 0).val - 256 = (j 0).val; rw [rHi_row]; omega
  | ⟨1, _⟩ => show 0 + 1 * (j 1).val = (j 1).val; omega
  | ⟨2, _⟩ => show 0 + 1 * (j 2).val = (j 2).val; omega
/-- Off the first half's rows a block is its second half, and the other way round. -/
theorem halves_off_lo (lo : Vec F S256x2x1024 .bf16) (Y : S512x2x1024.Idx → Elt F .bf16) (y : S512x2x1024.Idx) (h : y ∉ rLo.set) :
    halves lo (fun j => Y (rHi.emb j)) y = Y y := by
  have hy : y ∈ rHi.set := mem_rHi fun h' => h (mem_rLo h')
  rw [← Rect.map_emb_univ, Finset.mem_map] at hy
  obtain ⟨j, -, rfl⟩ := hy
  exact halves_hi lo _ j
theorem halves_off_hi (lo hi hi' : Vec F S256x2x1024 .bf16) (y : S512x2x1024.Idx) (h : y ∉ rHi.set) :
    halves lo hi y = halves lo hi' y := by
  have hy : y ∈ rLo.set := by
    by_contra h'
    exact h (mem_rHi fun h'' => h' (mem_rLo h''))
  rw [← Rect.map_emb_univ, Finset.mem_map] at hy
  obtain ⟨j, -, rfl⟩ := hy
  rw [halves_lo]; exact (halves_lo lo hi' j).symm

section Parts
variable (i : grid0.Coords) (A6 : Memref sig .tc .vmem S512x1024 .i32) (h6 : A6.IsWhole) (A10 : Memref sig .tc .vmem S512x2x1024 .bf16) (h10 : A10.IsWhole)

/-- A tile's run from its products on. -/
def tailProg : Prog (TpuEff nD τ sig (Elt F) Λ₀ .tc) PUnit := do
  let v21 : Elt F .i32 ← smemLoad (Memref.whole main_arg4) (Rect.unit (s := S80) (k0_off23 i) S1.size (k0_off23_inb i)) numel1_S1 rfl
  if h5 : k0_cond5 v21 = 1#1 then do
    let v30 : Vec F S512x1024 .i32 ← Prog.lift (.load A6 (Rect.unit (s := S512x1024) ![0, 0] S512x1024.size inb_S512x1024_S512x1024_0_0).toLoadRect (View.loadsAt_vmem h_S512x1024))
    let v35 : Vec F S1024x512 .bf16 ← Prog.lift (.load (Memref.whole cc0_scratch3) (Rect.unit (s := S2048x512) ![0, 0] S1024x512.size inb_S2048x512_S1024x512_0_0).toLoadRect (View.loadsAt_vmem h_S1024x512))
    let v37 : Vec F S1024x512 .bf16 ← Prog.lift (.load (Memref.whole cc0_scratch3) (Rect.unit (s := S2048x512) ![1024, 0] S1024x512.size inb_S2048x512_S1024x512_1024_0).toLoadRect (View.loadsAt_vmem h_S1024x512))
    let v40 : Vec F S1024x512 .bf16 ← Prog.lift (.load (Memref.whole cc0_scratch4) (Rect.unit (s := S2048x512) ![0, 0] S1024x512.size inb_S2048x512_S1024x512_0_0).toLoadRect (View.loadsAt_vmem h_S1024x512))
    let v42 : Vec F S1024x512 .bf16 ← Prog.lift (.load (Memref.whole cc0_scratch4) (Rect.unit (s := S2048x512) ![1024, 0] S1024x512.size inb_S2048x512_S1024x512_1024_0).toLoadRect (View.loadsAt_vmem h_S1024x512))
    let v53 : Vec F S512x2048 .bf16 ← Prog.lift (.load (Memref.whole cc0_scratch5) (Rect.unit (s := S512x2048) ![0, 0] S512x2048.size inb_S512x2048_S512x2048_0_0).toLoadRect (View.loadsAt_vmem h_S512x2048))
    let v58 : Vec F S512x2x1024 .bf16 ← Prog.lift (.load A10 (Rect.unit (s := S512x2x1024) ![0, 0, 0] S512x2x1024.size inb_S512x2x1024_S512x2x1024_0_0_0).toLoadRect (View.loadsAt_vmem h_S512x2x1024))
    Prog.lift (.store A10 (Rect.unit (s := S512x2x1024) ![0, 0, 0] S512x2x1024.size inb_S512x2x1024_S512x2x1024_0_0_0) (k0_pay3 v30 v35 v37 v40 v42 v53) Finset.univ (View.stores_vmem h_S512x2x1024 ((h10.pairWhole rank2_S512x2x1024).storeExact_slice rfl _ (Rect.wholeRows_unit rank2_S512x2x1024 rfl rfl) pairs_S512x2x1024_bf16) (fun _ => rfl)) (.inl rfl))
    pure ⟨⟩
  else do
    pure ⟨⟩
  let v26 : Elt F .i32 ← smemLoad (Memref.whole main_arg4) (Rect.unit (s := S80) (k0_off24 i) S1.size (k0_off24_inb i)) numel1_S1 rfl
  if h6_ : k0_cond6 v26 = 1#1 then do
    let ⟨v62_lo, v62_hi⟩ : Σ' (v62_lo : FVec F S256x1024 .bf16), FVec F S256x1024 .bf16 ← k0_part2 i (Memref.whole main_arg0) (Memref.isWhole_whole main_arg0) (Memref.whole main_arg1) (Memref.isWhole_whole main_arg1) (Memref.whole main_arg2) (Memref.isWhole_whole main_arg2) (Memref.whole main_arg3) (Memref.isWhole_whole main_arg3) (Memref.whole main_arg4) (Memref.isWhole_whole main_arg4) A6 h6 (Memref.whole main_arg6) (Memref.isWhole_whole main_arg6) (Memref.whole main_arg7) (Memref.isWhole_whole main_arg7) (Memref.whole main_arg8) (Memref.isWhole_whole main_arg8) A10 h10 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) cc0_scratch6
    let v63 : Vec F S256x2x1024 .bf16 ← Prog.lift (.load A10 (Rect.unit (s := S512x2x1024) ![256, 0, 0] S256x2x1024.size inb_S512x2x1024_S256x2x1024_256_0_0).toLoadRect (View.loadsAt_vmem h_S256x2x1024))
    Prog.lift (.store A10 (Rect.unit (s := S512x2x1024) ![256, 0, 0] S256x2x1024.size inb_S512x2x1024_S256x2x1024_256_0_0) (k0_pay4 v62_lo v62_hi) Finset.univ (View.stores_vmem h_S256x2x1024 ((h10.pairWhole rank2_S512x2x1024).storeExact_slice rfl _ (Rect.wholeRows_unit rank2_S512x2x1024 rfl rfl) pairs_S512x2x1024_bf16) (fun _ => rfl)) (.inl rfl))
    pure ⟨⟩
  else do
    pure ⟨⟩

/-- A tile's run from the expert's change on. -/
def midProg (v0 : Elt F .i32) (h1 : k0_cond1 i v0 = 1#1) (v5 v7 : Elt F .i32) : Prog (TpuEff nD τ sig (Elt F) Λ₀ .tc) PUnit := do
  let v15 : Elt F .i32 ← smemLoad (Memref.whole main_arg0) (Rect.unit (s := S80) (k0_off9 i) S1.size (k0_off9_inb i)) numel1_S1 rfl
  have hw3 : k0_chk3 i v0 v5 v7 v15 := (← Prog.lift (TpuEff.assume (k0_chk3 i v0 v5 v7 v15) (k0_chk3.dec i v0 v5 v7 v15))).down
  if h3 : k0_cond3 i v5 v15 = 1#1 then do
    let v63 : FVec F S2048x512 .bf16 ← k0_part1 i (Memref.whole main_arg0) (Memref.isWhole_whole main_arg0) (Memref.whole main_arg1) (Memref.isWhole_whole main_arg1) (Memref.whole main_arg2) (Memref.isWhole_whole main_arg2) (Memref.whole main_arg3) (Memref.isWhole_whole main_arg3) (Memref.whole main_arg4) (Memref.isWhole_whole main_arg4) A6 h6 (Memref.whole main_arg6) (Memref.isWhole_whole main_arg6) (Memref.whole main_arg7) (Memref.isWhole_whole main_arg7) (Memref.whole main_arg8) (Memref.isWhole_whole main_arg8) A10 h10 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) cc0_scratch6 (BitVec.ofNat 32 (i 0).val) v0 h1 v5 v7 v15 hw3 h3
    let v64 : Vec F S2048x512 .bf16 ← Prog.lift (.load (Memref.whole cc0_scratch4) (Rect.unit (s := S2048x512) ![0, 0] S2048x512.size inb_S2048x512_S2048x512_0_0).toLoadRect (View.loadsAt_vmem h_S2048x512))
    Prog.lift (.store (Memref.whole cc0_scratch4) (Rect.unit (s := S2048x512) ![0, 0] S2048x512.size inb_S2048x512_S2048x512_0_0) (k0_pay1 v63) Finset.univ (View.stores_vmem h_S2048x512 ((Memref.isWhole_whole cc0_scratch4).storeExact_slice rfl _ packedbf16_S2048x512_S2048x512_0_0) (fun _ => rfl)) (.inl rfl))
    let v68 : Vec F S1x512x2048 .f32 ← Prog.lift (.load (Memref.whole cc0_scratch2) (Rect.unit (s := S2x512x2048) (k0_off22 v7) S1x512x2048.size (k0_off22_inb i v0 v5 v7 v15 hw3 h1 h3)).toLoadRect (View.loadsAt_vmem h_S1x512x2048))
    let v71 : Vec F S512x2048 .bf16 ← Prog.lift (.load (Memref.whole cc0_scratch5) (Rect.unit (s := S512x2048) ![0, 0] S512x2048.size inb_S512x2048_S512x2048_0_0).toLoadRect (View.loadsAt_vmem h_S512x2048))
    Prog.lift (.store (Memref.whole cc0_scratch5) (Rect.unit (s := S512x2048) ![0, 0] S512x2048.size inb_S512x2048_S512x2048_0_0) (k0_pay2 v68) Finset.univ (View.stores_vmem h_S512x2048 ((Memref.isWhole_whole cc0_scratch5).storeExact_slice rfl _ packedbf16_S512x2048_S512x2048_0_0) (fun _ => rfl)) (.inl rfl))
    pure ⟨⟩
  else do
    pure ⟨⟩
  tailProg i A6 h6 A10 h10

/-- The half tile's products: rows 0 to 255 stored. -/
theorem part2 (X : S512x1024.Idx → Elt F .i32) (W3 W4 : S2048x512.Idx → Elt F .bf16) (W5 : S512x2048.Idx → Elt F .bf16) (Y : S512x2x1024.Idx → Elt F .bf16)
    (Q : (Σ' (_ : FVec F S256x1024 .bf16), FVec F S256x1024 .bf16) → sProp 𝕄) :
    iprop(castsAt c W3 W4 W5 ∗ owns (c : Thread nD τ) A6 fullShare X ∗ owns (c : Thread nD τ) A10 fullShare Y
      ∗ ((castsAt c W3 W4 W5 ∗ owns (c : Thread nD τ) A6 fullShare X
        ∗ owns (c : Thread nD τ) A10 fullShare (halves (k0_pay7 (topX X) (topW W3) (botW W3) (topW W4) (botW W4) W5) (fun j => Y (rHi.emb j)))) -∗ Q ⟨k0_pay9 (F := F), k0_pay10 (F := F)⟩))
      ⊢ wp frame (wpE (defs₀ (F := F)) Variants.none (c : Thread nD τ) none) Set.univ (k0_part2 i (Memref.whole main_arg0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) A6 h6 (Memref.whole main_arg6) (Memref.isWhole_whole _)
    (Memref.whole main_arg7) (Memref.isWhole_whole _) (Memref.whole main_arg8) (Memref.isWhole_whole _) A10 h10
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6) Q := by
  rw [k0_part2_eq_skeleton]; unfold k0_part2_skel castsAt
  simp only [Prog.pure_eq_ret, Prog.lift, Prog.bind_op, Prog.bind_ret]
  iintro ⟨⟨H3, H4, H5⟩, H6, H10, HK⟩
  iapply (wp_load_owns c Q A6 fullShare X) $$ H6
  iintro H6
  iapply (wp_load_owns c Q (Memref.whole cc0_scratch3) fullShare W3) $$ H3
  iintro H3
  iapply (wp_load_owns c Q (Memref.whole cc0_scratch3) fullShare W3) $$ H3
  iintro H3
  iapply (wp_load_owns c Q (Memref.whole cc0_scratch4) fullShare W4) $$ H4
  iintro H4
  iapply (wp_load_owns c Q (Memref.whole cc0_scratch4) fullShare W4) $$ H4
  iintro H4
  iapply (wp_load_owns c Q (Memref.whole cc0_scratch5) fullShare W5) $$ H5
  iintro H5
  iapply (wp_load_owns c Q A10 fullShare Y) $$ H10
  iintro H10
  have h5 : (fun j => W5 ((Rect.unit (s := S512x2048) ![0, 0] S512x2048.size inb_S512x2048_S512x2048_0_0).emb j)) = W5 := View.ld_unit_zero off2_zero _ W5
  iapply (wp_store_owns c Q A10 Y _ (halves (k0_pay7 (topX X) (topW W3) (botW W3) (topW W4) (botW W4) W5) (fun j => Y (rHi.emb j)))
    (fun j => (halves_lo _ _ j).trans (congrArg (fun w => k0_pay7 (topX X) (topW W3) (botW W3) (topW W4) (botW W4) w j) h5.symm)) (fun y hy => halves_off_lo _ Y y hy)) $$ H10
  iintro H10
  rw [wp_ret]
  imodintro
  iapply HK
  isplitl [H3 H4 H5]
  · isplitl [H3]; · iexact H3
    isplitl [H4]; · iexact H4
    iexact H5
  isplitl [H6]; · iexact H6
  iexact H10

/-- From the products on: the tile's result is stored. -/
theorem tail_run {P : Tabs} (hP : Plan T0 T1 T2 T3 T4 P) (hi : (i 0).val < P.nu) (X : S512x1024.Idx → Elt F .i32) (W3 W4 : S2048x512.Idx → Elt F .bf16)
    (W5 : S512x2048.Idx → Elt F .bf16) (Y : S512x2x1024.Idx → Elt F .bf16) (Q : PUnit → sProp 𝕄) :
    iprop(tabs c T0 T2 T3 T4 T1 ∗ castsAt c W3 W4 W5 ∗ owns (c : Thread nD τ) A6 fullShare X ∗ owns (c : Thread nD τ) A10 fullShare Y
      ∗ ((tabs c T0 T2 T3 T4 T1 ∗ castsAt c W3 W4 W5 ∗ owns (c : Thread nD τ) A6 fullShare X
        ∗ owns (c : Thread nD τ) A10 fullShare (tileOut (P.fl (i 0).val) X W3 W4 W5)) -∗ Q ⟨⟩))
      ⊢ wp frame (wpE (defs₀ (F := F)) Variants.none (c : Thread nD τ) none) Set.univ (tailProg i A6 h6 A10 h10) Q := by
  have hw := hP.w4 _ hi
  have h5 : (fun j => W5 ((Rect.unit (s := S512x2048) ![0, 0] S512x2048.size inb_S512x2048_S512x2048_0_0).emb j)) = W5 := View.ld_unit_zero off2_zero _ W5
  have hX : (fun j => X ((Rect.unit (s := S512x1024) ![0, 0] S512x1024.size inb_S512x1024_S512x1024_0_0).emb j)) = X := View.ld_unit_zero off2_zero _ X
  unfold tailProg tabs
  simp only [smemLoad, smemLoadElt_bind, Prog.pure_eq_ret, Prog.lift, Prog.bind_op, Prog.bind_ret]
  iintro ⟨⟨Ht0, Ht1, Ht2, Ht3, Ht4⟩, HC, H6, H10, HK⟩
  iapply (wp_word c Q (Memref.whole main_arg4) T4 (off23_eq i) hw) $$ Ht4
  iintro Ht4
  generalize P.fl (i 0).val = b at hw
  cases b
  · rw [dif_neg (fun h => Bool.noConfusion ((cond5_iff false).1 h))]
    iapply (wp_word c Q (Memref.whole main_arg4) T4 (off24_eq i) hw) $$ Ht4
    iintro Ht4
    rw [dif_pos ((cond6_iff false).2 rfl), wp_bind]
    iapply (part2 c i A6 h6 A10 h10 X W3 W4 W5 Y _)
    isplitl [HC]; · iexact HC
    isplitl [H6]; · iexact H6
    isplitl [H10]; · iexact H10
    iintro ⟨HC, H6, H10⟩
    iapply (wp_load_owns c Q A10 fullShare _) $$ H10
    iintro H10
    iapply (wp_store_owns c Q A10 (r := rHi) _ _ (tileOut false X W3 W4 W5)
      (fun j => halves_hi _ _ j) (fun y hy => halves_off_hi _ _ _ y hy)) $$ H10
    iintro H10
    rw [wp_ret]
    imodintro
    iapply HK
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [HC]; · iexact HC
    isplitl [H6]; · iexact H6
    iexact H10
  · rw [dif_pos ((cond5_iff true).2 rfl)]
    unfold castsAt
    icases HC with ⟨H3, H4, H5⟩
    iapply (wp_load_owns c Q A6 fullShare X) $$ H6
    iintro H6
    iapply (wp_load_owns c Q (Memref.whole cc0_scratch3) fullShare W3) $$ H3
    iintro H3
    iapply (wp_load_owns c Q (Memref.whole cc0_scratch3) fullShare W3) $$ H3
    iintro H3
    iapply (wp_load_owns c Q (Memref.whole cc0_scratch4) fullShare W4) $$ H4
    iintro H4
    iapply (wp_load_owns c Q (Memref.whole cc0_scratch4) fullShare W4) $$ H4
    iintro H4
    iapply (wp_load_owns c Q (Memref.whole cc0_scratch5) fullShare W5) $$ H5
    iintro H5
    iapply (wp_load_owns c Q A10 fullShare Y) $$ H10
    iintro H10
    iapply (wp_store_owns c Q A10 Y _ (tileOut true X W3 W4 W5)
      (fun j => (congrFun (View.ld_unit_zero off3_zero _ (tileOut true X W3 W4 W5)) j).trans
        (congrArg₂ (fun x w => k0_pay3 x (topW W3) (botW W3) (topW W4) (botW W4) w j) hX.symm h5.symm))
      (fun y hy => absurd (View.mem_set_unit_zero off3_zero _ y) hy)) $$ H10
    iintro H10
    iapply (wp_word c Q (Memref.whole main_arg4) T4 (off24_eq i) hw) $$ Ht4
    iintro Ht4
    rw [dif_neg (fun h => Bool.noConfusion ((cond6_iff true).1 h)), wp_ret]
    imodintro
    iapply HK
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [H3 H4 H5]
    · isplitl [H3]; · iexact H3
      isplitl [H4]; · iexact H4
      iexact H5
    isplitl [H6]; · iexact H6
    iexact H10

end Parts

end Cert.KernelIdeal.Run
-- ==== Proof.Ideal.Change.lean ====
/-
A tile at which the expert changes: wait for its weights, start the next expert's, round the weights to bf16.
-/
module

public import proofs.«01_k».proof.Proof.Ideal.Body

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ

variable (c : Dev nD)
variable (fg : Buf (Elt F) ((c : Thread nD τ).loc main_arg6)) (fu : Buf (Elt F) ((c : Thread nD τ).loc main_arg7))
variable (fd : Buf (Elt F) ((c : Thread nD τ).loc main_arg8))
variable (T0 T2 T3 T4 : S80.Idx → BitVec 32) (T1 : S1.Idx → BitVec 32)

/-! ## A slot, loaded -/

theorem wp_load_slotG {α : Type} (Q : α → sProp 𝕄) (s : Fin 2) {o : Fin 3 → ℕ} (ho : o = ![s.val, 0, 0]) {inb} (X : Vec F S2048x512 .f32)
    {hl} (k : Vec F S1x2048x512 .f32 → Prog (TpuEff nD τ sig (Elt F) Λ₀ .tc) α) :
    (owns (c : Thread nD τ) (slotG s) fullShare X : sProp 𝕄)
      ⊢ iprop((owns (c : Thread nD τ) (slotG s) fullShare X -∗ ∀ v : Vec F S1x2048x512 .f32, ⌜shapeCast S2048x512 v shapeCasts_S1x2048x512_S2048x512 = X⌝ -∗ wp frame (wpE (defs₀ (F := F)) Variants.none (c : Thread nD τ) none) Set.univ (k v) Q)
        -∗ wp frame (wpE (defs₀ (F := F)) Variants.none (c : Thread nD τ) none) Set.univ (.op (.load (Memref.whole cc0_scratch0) (Rect.unit (s := S2x2048x512) o S1x2048x512.size inb).toLoadRect hl) k) Q) := by
  subst ho
  exact wp_load_slot c Q (Memref.whole cc0_scratch0) fullShare (Rect.unit (s := S2x2048x512) ![s.val, 0, 0] S1x2048x512.size inb) (fun _ => rfl)
    squeezes_S1x2048x512_S2048x512 shapeCasts_S1x2048x512_S2048x512 X k

theorem wp_load_slotU {α : Type} (Q : α → sProp 𝕄) (s : Fin 2) {o : Fin 3 → ℕ} (ho : o = ![s.val, 0, 0]) {inb} (X : Vec F S2048x512 .f32)
    {hl} (k : Vec F S1x2048x512 .f32 → Prog (TpuEff nD τ sig (Elt F) Λ₀ .tc) α) :
    (owns (c : Thread nD τ) (slotU s) fullShare X : sProp 𝕄)
      ⊢ iprop((owns (c : Thread nD τ) (slotU s) fullShare X -∗ ∀ v : Vec F S1x2048x512 .f32, ⌜shapeCast S2048x512 v shapeCasts_S1x2048x512_S2048x512 = X⌝ -∗ wp frame (wpE (defs₀ (F := F)) Variants.none (c : Thread nD τ) none) Set.univ (k v) Q)
        -∗ wp frame (wpE (defs₀ (F := F)) Variants.none (c : Thread nD τ) none) Set.univ (.op (.load (Memref.whole cc0_scratch1) (Rect.unit (s := S2x2048x512) o S1x2048x512.size inb).toLoadRect hl) k) Q) := by
  subst ho
  exact wp_load_slot c Q (Memref.whole cc0_scratch1) fullShare (Rect.unit (s := S2x2048x512) ![s.val, 0, 0] S1x2048x512.size inb) (fun _ => rfl)
    squeezes_S1x2048x512_S2048x512 shapeCasts_S1x2048x512_S2048x512 X k

theorem wp_load_slotD {α : Type} (Q : α → sProp 𝕄) (s : Fin 2) {o : Fin 3 → ℕ} (ho : o = ![s.val, 0, 0]) {inb} (X : Vec F S512x2048 .f32)
    {hl} (k : Vec F S1x512x2048 .f32 → Prog (TpuEff nD τ sig (Elt F) Λ₀ .tc) α) :
    (owns (c : Thread nD τ) (slotD s) fullShare X : sProp 𝕄)
      ⊢ iprop((owns (c : Thread nD τ) (slotD s) fullShare X -∗ ∀ v : Vec F S1x512x2048 .f32, ⌜shapeCast S512x2048 v shapeCasts_S1x512x2048_S512x2048 = X⌝ -∗ wp frame (wpE (defs₀ (F := F)) Variants.none (c : Thread nD τ) none) Set.univ (k v) Q)
        -∗ wp frame (wpE (defs₀ (F := F)) Variants.none (c : Thread nD τ) none) Set.univ (.op (.load (Memref.whole cc0_scratch2) (Rect.unit (s := S2x512x2048) o S1x512x2048.size inb).toLoadRect hl) k) Q) := by
  subst ho
  exact wp_load_slot c Q (Memref.whole cc0_scratch2) fullShare (Rect.unit (s := S2x512x2048) ![s.val, 0, 0] S1x512x2048.size inb) (fun _ => rfl)
    squeezes_S1x512x2048_S512x2048 shapeCasts_S1x512x2048_S512x2048 X k

theorem pay5_eq (v : Vec F S1x2048x512 .f32) (X : Vec F S2048x512 .f32) (h : shapeCast S2048x512 v shapeCasts_S1x2048x512_S2048x512 = X) :
    k0_pay5 v = castW X := by subst h; rfl
theorem pay6_eq (v : Vec F S1x2048x512 .f32) (X : Vec F S2048x512 .f32) (h : shapeCast S2048x512 v shapeCasts_S1x2048x512_S2048x512 = X) :
    k0_pay1 (k0_pay6 v) = castW X := by subst h; rfl
theorem pay2_eq (v : Vec F S1x512x2048 .f32) (X : Vec F S512x2048 .f32) (h : shapeCast S512x2048 v shapeCasts_S1x512x2048_S512x2048 = X) :
    k0_pay2 v = castV X := by subst h; rfl

/-- A store over a whole rank-2 buffer leaves the payload. -/
theorem wp_store_whole {α : Type} (Q : α → sProp 𝕄) {sh : Shape} {e : EltTy} (m : Memref sig .tc .vmem sh e) (X : sh.Idx → Elt F e) {off : Fin sh.rank → ℕ} (ho : off = fun _ => 0) {inb}
    (w Y : sh.Idx → Elt F e) (hw : w = Y)
    {hx : (m.access (Rect.unit off sh.size inb)).Stores Finset.univ} {hm : Finset.univ = Finset.univ ∨ ∀ a, (Rect.unit off sh.size inb).stride a = 1} (k : PUnit → Prog (TpuEff nD τ sig (Elt F) Λ₀ .tc) α) :
    (owns (c : Thread nD τ) m fullShare X : sProp 𝕄)
      ⊢ iprop((owns (c : Thread nD τ) m fullShare Y -∗ wp frame (wpE (defs₀ (F := F)) Variants.none (c : Thread nD τ) none) Set.univ (k ⟨⟩) Q)
        -∗ wp frame (wpE (defs₀ (F := F)) Variants.none (c : Thread nD τ) none) Set.univ (.op (.store m (Rect.unit off sh.size inb) w Finset.univ hx hm) k) Q) := by
  subst hw
  exact wp_store_owns c Q m X k w (fun j => congrFun (View.ld_unit_zero ho inb w) j) (fun y hy => absurd (View.mem_set_unit_zero ho inb y) hy)

section Parts
variable (i : grid0.Coords) (A6 : Memref sig .tc .vmem S512x1024 .i32) (h6 : A6.IsWhole) (A10 : Memref sig .tc .vmem S512x2x1024 .bf16) (h10 : A10.IsWhole)

/-- The end of the change's first part: the gate weights are rounded, the up weights are loaded. -/
theorem part1_end {α : Type} (Q : α → sProp 𝕄) (s : Fin 2) (e : Fin 32) (o : Option (Fin 32)) (W3 : S2048x512.Idx → Elt F .bf16)
    {o1 : Fin 3 → ℕ} (ho : o1 = ![s.val, 0, 0]) {b1 b2 l1 l2 l3 x1 x2} (k : FVec F S2048x512 .bf16 → Prog (TpuEff nD τ sig (Elt F) Λ₀ .tc) α) :
    iprop(pendX c fg fu fd o (1 - s) s (slotAt c fg fu fd s e) ∗ owns (c : Thread nD τ) (Memref.whole cc0_scratch3) fullShare W3)
      ⊢ iprop((∀ v, ⌜k0_pay1 v = castW (uOf c fu e)⌝ -∗ (pendX c fg fu fd o (1 - s) s (slotAt c fg fu fd s e)
          ∗ owns (c : Thread nD τ) (Memref.whole cc0_scratch3) fullShare (castW (gOf c fg e))) -∗ wp frame (wpE (defs₀ (F := F)) Variants.none (c : Thread nD τ) none) Set.univ (k v) Q)
        -∗ wp frame (wpE (defs₀ (F := F)) Variants.none (c : Thread nD τ) none) Set.univ (.op (.load (Memref.whole cc0_scratch0) (Rect.unit (s := S2x2048x512) o1 S1x2048x512.size b1).toLoadRect l1) fun v54 =>
          .op (.load (Memref.whole cc0_scratch3) (Rect.unit (s := S2048x512) ![0, 0] S2048x512.size inb_S2048x512_S2048x512_0_0).toLoadRect l2) fun _ =>
          .op (.store (Memref.whole cc0_scratch3) (Rect.unit (s := S2048x512) ![0, 0] S2048x512.size inb_S2048x512_S2048x512_0_0) (k0_pay5 v54) Finset.univ x1 x2) fun _ =>
          .op (.load (Memref.whole cc0_scratch1) (Rect.unit (s := S2x2048x512) o1 S1x2048x512.size b2).toLoadRect l3) fun v61 => k (k0_pay6 v61)) Q) := by
  iintro ⟨HP, H3⟩ HK
  ihave HP := (pendX_open c fg fu fd o (1 - s) s (slotAt c fg fu fd s e) (slotAt c fg fu fd s e)) $$ HP
  icases HP with ⟨HS, HP⟩
  unfold slotAt
  icases HS with ⟨HG, HU, HD⟩
  iapply (wp_load_slotG c Q s ho (gOf c fg e)) $$ HG
  iintro HG %v54 %h54
  iapply (wp_load_owns c Q (Memref.whole cc0_scratch3) fullShare W3) $$ H3
  iintro H3
  iapply (wp_store_whole c Q (Memref.whole cc0_scratch3) W3 off2_zero (k0_pay5 v54) (castW (gOf c fg e)) (pay5_eq v54 _ h54)) $$ H3
  iintro H3
  iapply (wp_load_slotU c Q s ho (uOf c fu e)) $$ HU
  iintro HU %v61 %h61
  iapply HK $$ %(k0_pay6 v61) []
  · ipureintro; exact pay6_eq v61 _ h61
  isplitr [H3]
  · iapply HP
    isplitl [HG]; · iexact HG
    isplitl [HU]; · iexact HU
    iexact HD
  · iexact H3

theorem pendX_none (s s' : Fin 2) (X : sProp 𝕄) : idleX c fg fu fd s s' X ⊢ pendX c fg fu fd none s s' X := show idleX c fg fu fd s s' X ⊢ idleX c fg fu fd s s' X from .rfl
theorem pendX_some (e : Fin 32) (s s' : Fin 2) (X : sProp 𝕄) : flyX c fg fu fd e s s' X ⊢ pendX c fg fu fd (some e) s s' X := show flyX c fg fu fd e s s' X ⊢ flyX c fg fu fd e s s' X from .rfl
theorem pendX_some' (e : Fin 32) (s s' : Fin 2) (X : sProp 𝕄) : pendX c fg fu fd (some e) s s' X ⊢ flyX c fg fu fd e s s' X := show flyX c fg fu fd e s s' X ⊢ flyX c fg fu fd e s s' X from .rfl

/-- The change's first part: the expert's weights have landed, the next expert's are under way. -/
theorem part1 (e : Fin 32) (s : Fin 2) (o : Option (Fin 32)) (hw : word T3 (i 0).val = nextWord o) (W3 : S2048x512.Idx → Elt F .bf16)
    (v0 v15 : BitVec 32) (h1) (hw3) (h3) (Q : FVec F S2048x512 .bf16 → sProp 𝕄) :
    iprop(flyX c fg fu fd e s (1 - s) (slotAny c (1 - s))
      ∗ (∃ W, owes (c : Thread nD τ) 0 W) ∗ owns (c : Thread nD τ) (Memref.whole main_arg3) fullShare (T3 : S80.Idx → Elt F .i32)
      ∗ owns (c : Thread nD τ) (Memref.whole cc0_scratch3) fullShare W3
      ∗ (∀ v, ⌜k0_pay1 v = castW (uOf c fu e)⌝ -∗
        (pendX c fg fu fd o (1 - s) s (slotAt c fg fu fd s e)
          ∗ (∃ W, owes (c : Thread nD τ) 0 W) ∗ owns (c : Thread nD τ) (Memref.whole main_arg3) fullShare (T3 : S80.Idx → Elt F .i32)
          ∗ owns (c : Thread nD τ) (Memref.whole cc0_scratch3) fullShare (castW (gOf c fg e))) -∗ Q v))
      ⊢ wp frame (wpE (defs₀ (F := F)) Variants.none (c : Thread nD τ) none) Set.univ (k0_part1 i (Memref.whole main_arg0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) A6 h6 (Memref.whole main_arg6) (Memref.isWhole_whole _)
    (Memref.whole main_arg7) (Memref.isWhole_whole _) (Memref.whole main_arg8) (Memref.isWhole_whole _) A10 h10
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6 (BitVec.ofNat 32 (i 0).val) v0 h1
          (BitVec.ofNat 32 e.val) (BitVec.ofNat 32 s.val) v15 hw3 h3) Q := by
  rw [k0_part1_eq_skeleton]; unfold k0_part1_skel
  simp only [smemLoad, smemLoadElt_bind, Prog.pure_eq_ret, Prog.lift, Prog.bind_op, Prog.bind_ret]
  iintro ⟨HF, ⟨%W, HO⟩, Ht3, H3, HK⟩
  iapply (wp_wait c fg fu fd s (1 - s) e Q W (off10_eq s)) $$ [HF HO]
  · isplitl [HF]; · iexact HF
    iexact HO
  iintro ⟨HI, HO⟩
  iapply (wp_word c Q (Memref.whole main_arg3) T3 (off15_eq i) hw) $$ Ht3
  iintro Ht3
  rw [wp_assume_of Variants.none (c : Thread nD τ) none Set.univ (chk4_holds i v0 _ v15 s o)]
  cases o with
  | none =>
    rw [dif_neg cond4_none]
    iapply (part1_end c fg fu fd Q s e none W3 (off21_eq s)) $$ [HI H3]
    · isplitl [HI]
      · iapply (pendX_none c fg fu fd (1 - s) s _)
        iexact HI
      iexact H3
    iintro %v %hv ⟨HP, H3⟩
    rw [wp_ret]
    imodintro
    iapply HK $$ %v []
    · ipureintro; exact hv
    isplitl [HP]; · iexact HP
    isplitl [HO]; · iexact HO
    isplitl [Ht3]; · iexact Ht3
    iexact H3
  | some e' =>
    rw [dif_pos (cond4_some e')]
    iapply (wp_start c fg fu fd (1 - s) s e' (slotAt c fg fu fd s e) Q (off17_eq s) (off17_eq s) (off19_eq s) (off18_eq e') (off20_eq e') (off16_eq s) (off16_eq s)) $$ HI
    iintro HI
    iapply (part1_end c fg fu fd Q s e (some e') W3 (off21_eq s)) $$ [HI H3]
    · isplitl [HI]
      · iapply (pendX_some c fg fu fd e' (1 - s) s _)
        iexact HI
      iexact H3
    iintro %v %hv ⟨HP, H3⟩
    rw [wp_ret]
    imodintro
    iapply HK $$ %v []
    · ipureintro; exact hv
    isplitl [HP]; · iexact HP
    isplitl [HO]; · iexact HO
    isplitl [Ht3]; · iexact Ht3
    iexact H3

/-- What tile `n` leaves in its block, of the words `X`. -/
def outOf (P : Tabs) (n : ℕ) (X : S512x1024.Idx → Elt F .i32) : Vec F S512x2x1024 .bf16 :=
  tileOut (P.fl n) X (castW (gOf c fg (P.te n))) (castW (uOf c fu (P.te n))) (castV (dOf c fd (P.te n)))

/-- The tile's run from the change on, where the expert changes. -/
theorem mid_change {P : Tabs} (hP : Plan T0 T1 T2 T3 T4 P) (hi : (i 0).val < P.nu) (hch : (i 0).val = 0 ∨ P.te (i 0).val ≠ P.te ((i 0).val - 1))
    (v0 : BitVec 32) (h1) (X : S512x1024.Idx → Elt F .i32) (W3 W4 : S2048x512.Idx → Elt F .bf16)
    (W5 : S512x2048.Idx → Elt F .bf16) (Y : S512x2x1024.Idx → Elt F .bf16) (Q : PUnit → sProp 𝕄) :
    iprop(tabs c T0 T2 T3 T4 T1 ∗ castsAt c W3 W4 W5 ∗ flyX c fg fu fd (P.te (i 0).val) (P.sl (i 0).val) (1 - P.sl (i 0).val) (slotAny c (1 - P.sl (i 0).val))
      ∗ (∃ W, owes (c : Thread nD τ) 0 W) ∗ owns (c : Thread nD τ) A6 fullShare X ∗ owns (c : Thread nD τ) A10 fullShare Y
      ∗ ((tabs c T0 T2 T3 T4 T1 ∗ castsOf c fg fu fd (P.te (i 0).val) ∗ pend c fg fu fd (P.nx (i 0).val) (1 - P.sl (i 0).val) (P.sl (i 0).val)
          ∗ (∃ W, owes (c : Thread nD τ) 0 W) ∗ owns (c : Thread nD τ) A6 fullShare X
          ∗ owns (c : Thread nD τ) A10 fullShare (outOf c fg fu fd P (i 0).val X)) -∗ Q ⟨⟩))
      ⊢ wp frame (wpE (defs₀ (F := F)) Variants.none (c : Thread nD τ) none) Set.univ (midProg i A6 h6 A10 h10 v0 h1 (BitVec.ofNat 32 (P.te (i 0).val).val) (BitVec.ofNat 32 (P.sl (i 0).val).val)) Q := by
  have hw0 : word T0 ((i 0).val - 1) = BitVec.ofNat 32 (P.te ((i 0).val - 1)).val := hP.w0 _ (by omega)
  unfold midProg
  simp only [smemLoad, smemLoadElt_bind, Prog.pure_eq_ret, Prog.lift, Prog.bind_op, Prog.bind_ret]
  unfold tabs castsAt
  iintro ⟨⟨Ht0, Ht1, Ht2, Ht3, Ht4⟩, ⟨H3, H4, H5⟩, HF, HO, H6, H10, HK⟩
  iapply (wp_word c Q (Memref.whole main_arg0) T0 (off9_eq i) hw0) $$ Ht0
  iintro Ht0
  rw [wp_assume_of Variants.none (c : Thread nD τ) none Set.univ (chk3_holds i v0 _ _ _), dif_pos ((cond3_iff i _ _).2 hch), wp_bind]
  iapply (part1 c fg fu fd T3 i A6 h6 A10 h10 (P.te (i 0).val) (P.sl (i 0).val) (P.nx (i 0).val) (hP.w3 _ hi) W3 v0 _ h1 _ _ _)
  isplitl [HF]; · iexact HF
  isplitl [HO]; · iexact HO
  isplitl [Ht3]; · iexact Ht3
  isplitl [H3]; · iexact H3
  iintro %v63 %h63 ⟨HP, HO, Ht3, H3⟩
  ihave HP := (pendX_open c fg fu fd (P.nx (i 0).val) (1 - P.sl (i 0).val) (P.sl (i 0).val) (slotAt c fg fu fd (P.sl (i 0).val) (P.te (i 0).val)) (slotAny c (P.sl (i 0).val))) $$ HP
  icases HP with ⟨HS, HP⟩
  unfold slotAt
  icases HS with ⟨HG, HU, HD⟩
  iapply (wp_load_owns c Q (Memref.whole cc0_scratch4) fullShare W4) $$ H4
  iintro H4
  iapply (wp_store_whole c Q (Memref.whole cc0_scratch4) W4 off2_zero (k0_pay1 v63) _ h63) $$ H4
  iintro H4
  iapply (wp_load_slotD c Q (P.sl (i 0).val) (off22_eq _) (dOf c fd (P.te (i 0).val))) $$ HD
  iintro HD %v68 %h68
  iapply (wp_load_owns c Q (Memref.whole cc0_scratch5) fullShare W5) $$ H5
  iintro H5
  iapply (wp_store_whole c Q (Memref.whole cc0_scratch5) W5 off2_zero (k0_pay2 v68) _ (pay2_eq v68 _ h68)) $$ H5
  iintro H5
  ihave HP := HP $$ [HG HU HD]
  · iapply (slotAt_any c fg fu fd (P.sl (i 0).val) (P.te (i 0).val))
    unfold slotAt
    isplitl [HG]; · iexact HG
    isplitl [HU]; · iexact HU
    iexact HD
  iapply (tail_run c T0 T2 T3 T4 T1 i A6 h6 A10 h10 hP hi X _ _ _ Y Q)
  isplitl [Ht0 Ht1 Ht2 Ht3 Ht4]
  · unfold tabs
    isplitl [Ht0]; · iexact Ht0
    isplitl [Ht1]; · iexact Ht1
    isplitl [Ht2]; · iexact Ht2
    isplitl [Ht3]; · iexact Ht3
    iexact Ht4
  isplitl [H3 H4 H5]
  · unfold castsAt
    isplitl [H3]; · iexact H3
    isplitl [H4]; · iexact H4
    iexact H5
  isplitl [H6]; · iexact H6
  isplitl [H10]; · iexact H10
  iintro ⟨HT, HC, H6, H10⟩
  iapply HK
  unfold tabs castsOf castsAt
  isplitl [HT]; · iexact HT
  isplitl [HC]; · iexact HC
  isplitl [HP]; · iexact HP
  isplitl [HO]; · iexact HO
  isplitl [H6]; · iexact H6
  iexact H10

/-- The tile's run from the change on, where the expert stays. -/
theorem mid_same {P : Tabs} (hP : Plan T0 T1 T2 T3 T4 P) (hi : (i 0).val < P.nu) (hch : ¬ ((i 0).val = 0 ∨ P.te (i 0).val ≠ P.te ((i 0).val - 1)))
    (v0 : BitVec 32) (h1) (X : S512x1024.Idx → Elt F .i32) (Y : S512x2x1024.Idx → Elt F .bf16) (Q : PUnit → sProp 𝕄) :
    iprop(tabs c T0 T2 T3 T4 T1 ∗ castsOf c fg fu fd (P.te (i 0).val) ∗ pend c fg fu fd (P.nx (i 0).val) (1 - P.sl (i 0).val) (P.sl (i 0).val)
      ∗ (∃ W, owes (c : Thread nD τ) 0 W) ∗ owns (c : Thread nD τ) A6 fullShare X ∗ owns (c : Thread nD τ) A10 fullShare Y
      ∗ ((tabs c T0 T2 T3 T4 T1 ∗ castsOf c fg fu fd (P.te (i 0).val) ∗ pend c fg fu fd (P.nx (i 0).val) (1 - P.sl (i 0).val) (P.sl (i 0).val)
          ∗ (∃ W, owes (c : Thread nD τ) 0 W) ∗ owns (c : Thread nD τ) A6 fullShare X
          ∗ owns (c : Thread nD τ) A10 fullShare (outOf c fg fu fd P (i 0).val X)) -∗ Q ⟨⟩))
      ⊢ wp frame (wpE (defs₀ (F := F)) Variants.none (c : Thread nD τ) none) Set.univ (midProg i A6 h6 A10 h10 v0 h1 (BitVec.ofNat 32 (P.te (i 0).val).val) (BitVec.ofNat 32 (P.sl (i 0).val).val)) Q := by
  have hw0 : word T0 ((i 0).val - 1) = BitVec.ofNat 32 (P.te ((i 0).val - 1)).val := hP.w0 _ (by omega)
  unfold midProg
  simp only [smemLoad, smemLoadElt_bind, Prog.pure_eq_ret, Prog.lift, Prog.bind_op, Prog.bind_ret]
  unfold tabs
  iintro ⟨⟨Ht0, Ht1, Ht2, Ht3, Ht4⟩, HC, HP, HO, H6, H10, HK⟩
  iapply (wp_word c Q (Memref.whole main_arg0) T0 (off9_eq i) hw0) $$ Ht0
  iintro Ht0
  rw [wp_assume_of Variants.none (c : Thread nD τ) none Set.univ (chk3_holds i v0 _ _ _), dif_neg (fun h => hch ((cond3_iff i _ _).1 h))]
  iapply (tail_run c T0 T2 T3 T4 T1 i A6 h6 A10 h10 hP hi X _ _ _ Y Q)
  isplitl [Ht0 Ht1 Ht2 Ht3 Ht4]
  · unfold tabs
    isplitl [Ht0]; · iexact Ht0
    isplitl [Ht1]; · iexact Ht1
    isplitl [Ht2]; · iexact Ht2
    isplitl [Ht3]; · iexact Ht3
    iexact Ht4
  isplitl [HC]; · iexact HC
  isplitl [H6]; · iexact H6
  isplitl [H10]; · iexact H10
  iintro ⟨HT, HC, H6, H10⟩
  iapply HK
  unfold tabs
  isplitl [HT]; · iexact HT
  isplitl [HC]; · iexact HC
  isplitl [HP]; · iexact HP
  isplitl [HO]; · iexact HO
  isplitl [H6]; · iexact H6
  iexact H10

/-- The state before the first tile, slots named as the first tile names them. -/
theorem state_zero (P : Tabs) {n : ℕ} (h : n = 0) :
    state c fg fu fd P n ⊢ iprop((∃ W3 W4 W5, castsAt c W3 W4 W5) ∗ idleX c fg fu fd (P.sl n) (1 - P.sl n) (slotAny c (1 - P.sl n))) := by
  subst h; exact .rfl
/-- The state before a tile of the same expert. -/
theorem state_same (P : Tabs) {n m : ℕ} (h : m = n + 1) (e1 : P.te m = P.te n) (e2 : P.sl m = P.sl n) (e3 : P.nx m = P.nx n) :
    state c fg fu fd P m ⊢ iprop(castsOf c fg fu fd (P.te m) ∗ pend c fg fu fd (P.nx m) (1 - P.sl m) (P.sl m)) := by
  rw [e1, e2, e3]; subst h; exact .rfl
/-- The state before a tile of another expert: its weights are in flight. -/
theorem state_moved (P : Tabs) {n m : ℕ} (h : m = n + 1) (e2 : P.sl m = 1 - P.sl n) (e3 : P.nx n = some (P.te m)) :
    state c fg fu fd P m ⊢ iprop(castsOf c fg fu fd (P.te n) ∗ flyX c fg fu fd (P.te m) (P.sl m) (1 - P.sl m) (slotAny c (1 - P.sl m))) := by
  have e4 : 1 - P.sl m = P.sl n := by
    rw [e2]; generalize P.sl n = s; revert s; decide
  rw [e4, e2]
  have e5 : state c fg fu fd P m = iprop(castsOf c fg fu fd (P.te n) ∗ pend c fg fu fd (P.nx n) (1 - P.sl n) (P.sl n)) := by subst h; rfl
  rw [e5, e3]; exact .rfl
theorem succ_state (P : Tabs) (n : ℕ) : iprop(castsOf c fg fu fd (P.te n) ∗ pend c fg fu fd (P.nx n) (1 - P.sl n) (P.sl n)) ⊢ state c fg fu fd P (n + 1) := .rfl

/-- A live tile's run. -/
theorem tile_live {P : Tabs} (hP : Plan T0 T1 T2 T3 T4 P) (hi : (i 0).val < P.nu)
    (X : S512x1024.Idx → Elt F .i32) (Y : S512x2x1024.Idx → Elt F .bf16) (Q : PUnit → sProp 𝕄) :
    iprop(state c fg fu fd P (i 0).val ∗ tabs c T0 T2 T3 T4 T1
      ∗ (∃ W, owes (c : Thread nD τ) 0 W) ∗ owns (c : Thread nD τ) A6 fullShare X ∗ owns (c : Thread nD τ) A10 fullShare Y
      ∗ ((state c fg fu fd P ((i 0).val + 1) ∗ tabs c T0 T2 T3 T4 T1
          ∗ (∃ W, owes (c : Thread nD τ) 0 W) ∗ owns (c : Thread nD τ) A6 fullShare X
          ∗ owns (c : Thread nD τ) A10 fullShare (outOf c fg fu fd P (i 0).val X)) -∗ Q ⟨⟩))
      ⊢ wp frame (wpE (defs₀ (F := F)) Variants.none (c : Thread nD τ) none) Set.univ (tileProg i A6 h6 A10 h10) Q := by
  have h1 := (cond1_iff i hP.le).2 hi
  have e := Eq.refl (midProg (F := F) i A6 h6 A10 h10 (BitVec.ofNat 32 P.nu) h1 (BitVec.ofNat 32 (P.te (i 0).val).val) (BitVec.ofNat 32 (P.sl (i 0).val).val))
  conv_rhs at e =>
    unfold midProg tailProg
    simp only [smemLoad, smemLoadElt_bind, Prog.pure_eq_ret, Prog.lift, Prog.bind_op, Prog.bind_ret]
  unfold tileProg
  rw [cc0_experts_eq_skeleton]; unfold cc0_experts_skel
  simp only [smemLoad, smemLoadElt_bind, Prog.pure_eq_ret, Prog.lift, Prog.bind_op, Prog.bind_ret]
  iintro ⟨HS, HT, HO, H6, H10, HK⟩
  unfold tabs
  icases HT with ⟨Ht0, Ht1, Ht2, Ht3, Ht4⟩
  iapply (wp_count c Q (Memref.whole main_arg1) T1 hP.w1) $$ Ht1
  iintro Ht1
  rw [dif_pos h1]
  iapply (wp_word c Q (Memref.whole main_arg0) T0 (off1_eq i) (hP.w0 _ hi)) $$ Ht0
  iintro Ht0
  rw [wp_assume_of Variants.none (c : Thread nD τ) none Set.univ (chk2_holds i _ _)]
  iapply (wp_word c Q (Memref.whole main_arg2) T2 (off1_eq i) (hP.w2 _ hi)) $$ Ht2
  iintro Ht2
  rw [wp_assume_of Variants.none (c : Thread nD τ) none Set.univ (chk1_holds i _ _)]
  by_cases h0 : (i 0).val = 0
  · rw [dif_pos ((cond2_iff i).2 h0)]
    ihave HS := (state_zero c fg fu fd P h0) $$ HS
    icases HS with ⟨⟨%W3, %W4, %W5, HC⟩, HI⟩
    iapply (wp_start c fg fu fd (P.sl (i 0).val) (1 - P.sl (i 0).val) (P.te (i 0).val) (slotAny c (1 - P.sl (i 0).val)) Q
      (off3_eq _) (off6_eq _) (off7_eq _) (off4_eq _) (off8_eq _) (off2_eq _) (off5_eq _)) $$ HI
    iintro HF
    rw [← e]
    iapply (mid_change c fg fu fd T0 T2 T3 T4 T1 i A6 h6 A10 h10 hP hi (Or.inl h0) _ h1 X W3 W4 W5 Y Q)
    isplitl [Ht0 Ht1 Ht2 Ht3 Ht4]
    · unfold tabs
      isplitl [Ht0]; · iexact Ht0
      isplitl [Ht1]; · iexact Ht1
      isplitl [Ht2]; · iexact Ht2
      isplitl [Ht3]; · iexact Ht3
      iexact Ht4
    isplitl [HC]; · iexact HC
    isplitl [HF]; · iexact HF
    isplitl [HO]; · iexact HO
    isplitl [H6]; · iexact H6
    isplitl [H10]; · iexact H10
    iintro ⟨HT, HC, HP, HO, H6, H10⟩
    iapply HK
    unfold tabs
    isplitl [HC HP]
    · iapply (succ_state c fg fu fd P (i 0).val)
      isplitl [HC]; · iexact HC
      iexact HP
    isplitl [HT]; · iexact HT
    isplitl [HO]; · iexact HO
    isplitl [H6]; · iexact H6
    iexact H10
  · rw [dif_neg (fun h => h0 ((cond2_iff i).1 h))]
    obtain ⟨n, hn⟩ : ∃ n, (i 0).val = n + 1 := ⟨(i 0).val - 1, by omega⟩
    have hn' : (i 0).val - 1 = n := by omega
    rcases hP.step n (by omega) with ⟨e1, e2, e3⟩ | ⟨e1, e2, e3⟩
    · rw [← hn] at e1 e2 e3
      ihave HS := (state_same c fg fu fd P hn e1 e2 e3) $$ HS
      icases HS with ⟨HC, HP⟩
      rw [← e]
      iapply (mid_same c fg fu fd T0 T2 T3 T4 T1 i A6 h6 A10 h10 hP hi (by rw [hn', e1]; exact fun h => h.elim h0 (fun h => h rfl)) _ h1 X Y Q)
      isplitl [Ht0 Ht1 Ht2 Ht3 Ht4]
      · unfold tabs
        isplitl [Ht0]; · iexact Ht0
        isplitl [Ht1]; · iexact Ht1
        isplitl [Ht2]; · iexact Ht2
        isplitl [Ht3]; · iexact Ht3
        iexact Ht4
      isplitl [HC]; · iexact HC
      isplitl [HP]; · iexact HP
      isplitl [HO]; · iexact HO
      isplitl [H6]; · iexact H6
      isplitl [H10]; · iexact H10
      iintro ⟨HT, HC, HP, HO, H6, H10⟩
      iapply HK
      unfold tabs
      isplitl [HC HP]
      · iapply (succ_state c fg fu fd P (i 0).val)
        isplitl [HC]; · iexact HC
        iexact HP
      isplitl [HT]; · iexact HT
      isplitl [HO]; · iexact HO
      isplitl [H6]; · iexact H6
      iexact H10
    · rw [← hn] at e1 e2 e3
      ihave HS := (state_moved c fg fu fd P hn e2 e3) $$ HS
      icases HS with ⟨HC, HP⟩
      rw [← e]
      iapply (mid_change c fg fu fd T0 T2 T3 T4 T1 i A6 h6 A10 h10 hP hi (Or.inr (by rw [hn']; exact e1)) _ h1 X _ _ _ Y Q)
      isplitl [Ht0 Ht1 Ht2 Ht3 Ht4]
      · unfold tabs
        isplitl [Ht0]; · iexact Ht0
        isplitl [Ht1]; · iexact Ht1
        isplitl [Ht2]; · iexact Ht2
        isplitl [Ht3]; · iexact Ht3
        iexact Ht4
      isplitl [HC]; · iexact HC
      isplitl [HP]; · iexact HP
      isplitl [HO]; · iexact HO
      isplitl [H6]; · iexact H6
      isplitl [H10]; · iexact H10
      iintro ⟨HT, HC, HP, HO, H6, H10⟩
      iapply HK
      unfold tabs
      isplitl [HC HP]
      · iapply (succ_state c fg fu fd P (i 0).val)
        isplitl [HC]; · iexact HC
        iexact HP
      isplitl [HT]; · iexact HT
      isplitl [HO]; · iexact HO
      isplitl [H6]; · iexact H6
      iexact H10

end Parts

end Cert.KernelIdeal.Run
-- ==== Proof.Ideal.Schedule.lean ====
/-
Which block each grid point works on. A point past the plan's last tile keeps the last tile's block, so the blocks move
below the last tile and stand still from there; the points past the last tile leave the result's buffer alone.
-/
module

public import proofs.«01_k».proof.Proof.Ideal.Change
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)

variable {F : FTy → Type} [FloatOps F]

/-- The tables' contents follow a plan. -/
abbrev Good (pf : pre0.Contents (Elt F)) (P : Tabs) : Prop := Plan (pf 0) (pf 1) (pf 2) (pf 3) (pf 4) P

/-- The tile whose block point `n` works on. -/
abbrev tileAt (P : Tabs) (n : ℕ) : ℕ := min n (P.nu - 1)

theorem min_word (j : Fin 80) (n : Fin 80) :
    (Scalar.minsi (BitVec.ofNat 32 j.val) (Scalar.subi (BitVec.ofNat 32 (n.val + 1)) 1#32)).toNat = min j.val n.val := by
  revert j n; decide +kernel

theorem tile_word {pf : pre0.Contents (Elt F)} {P : Tabs} (hP : Good pf P) (i : grid0.Coords) (x) :
    (Scalar.minsi (BitVec.ofNat 32 (i 0).val) (Scalar.subi (pf 1 x) 1#32)).toNat = tileAt P (i 0).val := by
  have h1 := hP.pos
  have h2 := hP.le
  have e : pf 1 x = BitVec.ofNat 32 (P.nu - 1 + 1) := (hP.w1 x).trans (by rw [Nat.sub_add_cancel h1])
  rw [e]
  exact min_word ⟨(i 0).val, coord_lt i⟩ ⟨P.nu - 1, by omega⟩

theorem index0 {pf : pre0.Contents (Elt F)} {P : Tabs} (hP : Good pf P) (i : grid0.Coords) :
    cc0_transform_0 inb_S1_S1_0 numel1_S1 pf i = ![tileAt P (i 0).val, 0] :=
  congrArg (fun n => ![n, 0]) (tile_word hP i _)

theorem index1 {pf : pre0.Contents (Elt F)} {P : Tabs} (hP : Good pf P) (i : grid0.Coords) :
    cc0_transform_4 inb_S1_S1_0 numel1_S1 pf i = ![tileAt P (i 0).val, 0, 0] :=
  congrArg (fun n => ![n, 0, 0]) (tile_word hP i _)

theorem tileAt_lt {P : Tabs} (h1 : 1 ≤ P.nu) (h2 : P.nu ≤ 80) (n : ℕ) : tileAt P n < 80 := by unfold tileAt; omega

theorem block0_inb (n : Fin 80) : ∀ a, ((![n.val, 0] : Fin 2 → ℕ) a + 1) * S512x1024.size a ≤ S40960x1024.size a := by
  revert n; decide
theorem block1_inb (n : Fin 80) : ∀ a, ((![n.val, 0, 0] : Fin 3 → ℕ) a + 1) * S512x2x1024.size a ≤ S40960x2x1024.size a := by
  revert n; decide

/-- A plan's tables pass the region's check: each block lies inside its array. -/
theorem ok_of_plan {pf : pre0.Contents (Elt F)} {P : Tabs} (hP : Good pf P) : ok0 pf := by
  refine ⟨fun i => ⟨?_, .inl rfl⟩, fun i => ⟨?_, .inr (Affine.block_words_dvd (of_decide_eq_true rfl) (by decide))⟩⟩
  · rw [index0 hP]; exact block0_inb ⟨_, tileAt_lt hP.pos hP.le _⟩
  · rw [index1 hP]; exact block1_inb ⟨_, tileAt_lt hP.pos hP.le _⟩

/-- A plan's tables as the region takes them. -/
abbrev adm {pf : pre0.Contents (Elt F)} {P : Tabs} (hP : Good pf P) : (pcfg0 (F := F)).Adm := ⟨pf, ok_of_plan hP⟩

theorem coords_val (t : Fin grid0.N) : (grid0.coords t 0).val = t.val := by revert t; decide +kernel

theorem flush_iff {pf : pre0.Contents (Elt F)} {P : Tabs} (hP : Good pf P) (t : Fin grid0.N) :
    ((cfg0 (adm hP)).win 1).flush t = true ↔ t.val + 1 = 80 ∨ t.val + 1 < P.nu := by
  have hpos := hP.pos
  have hix : ∀ t : Fin grid0.N, ((cfg0 (adm hP)).win 1).index t = ![tileAt P t.val, 0, 0] := fun t =>
    (index1 hP (grid0.coords t)).trans (by rw [coords_val])
  have hN : grid0.N = 80 := N_0
  have hlt := t.isLt
  unfold Pipeline.Window.flush
  simp only [Bool.and_eq_true, Bool.or_eq_true, decide_eq_true_eq]
  constructor
  · rintro ⟨-, h | ⟨h, hne⟩⟩
    · left; exact h.trans hN
    · right
      by_contra hc
      apply hne
      rw [hix, hix]
      have : tileAt P (t.val + 1) = tileAt P t.val := by unfold tileAt; omega
      exact congrArg (fun n => ![n, 0, 0]) this
  · rintro (h | h)
    · exact ⟨rfl, .inl (h.trans hN.symm)⟩
    · refine ⟨rfl, .inr ⟨?_, fun he => ?_⟩⟩
      · have := hP.le; exact lt_of_lt_of_eq (show t.val + 1 < 80 by omega) hN.symm
      · rw [hix, hix] at he
        have := congrFun he 0
        have : tileAt P (t.val + 1) = tileAt P t.val := this
        unfold tileAt at this; omega

theorem word_atD (T : S80.Idx → BitVec 32) {n : ℕ} (hn : n < 80) (f : S80.Idx) (hf : (f 0).val = n) : T f = word T n := by
  unfold word
  rw [dif_pos hn]
  congr 1
  funext a
  apply Fin.ext
  match a with
  | ⟨0, _⟩ => exact hf

theorem idle_iff {pf : pre0.Contents (Elt F)} {P : Tabs} (hP : Good pf P) (i : grid0.Coords) :
    (cfg0 (adm hP)).idle 1 i = decide (P.nu ≤ (i 0).val) := by
  show (!(k0_cond1 i (pf.atD 1 ![0]) == 1#1 && k0_cond5 (pf.atD 4 (k0_off23 i)) == 1#1)
    && !(k0_cond1 i (pf.atD 1 ![0]) == 1#1 && k0_cond6 (pf.atD 4 (k0_off24 i)) == 1#1)) = _
  have hi : ∀ a, (![0] : Fin 1 → ℕ) a + 1 ≤ S1.size a := by decide
  have h1 : pf.atD 1 ![0] = BitVec.ofNat 32 P.nu := (dif_pos hi).trans (hP.w1 _)
  have c1 := cond1_iff i (n := P.nu) hP.le
  rw [h1]
  by_cases hd : P.nu ≤ (i 0).val
  · have n1 : ¬ k0_cond1 i (BitVec.ofNat 32 P.nu) = 1#1 := fun h => by have := c1.mp h; omega
    rw [show (k0_cond1 i (BitVec.ofNat 32 P.nu) == 1#1) = false from beq_eq_false_iff_ne.mpr n1, decide_eq_true hd]
    rfl
  · have hl : (i 0).val < P.nu := by omega
    have y1 : k0_cond1 i (BitVec.ofNat 32 P.nu) = 1#1 := c1.mpr hl
    have hw := hP.w4 _ hl
    have hin : ∀ off : Fin 1 → ℕ, off = ![(i 0).val] → ∀ a, off a + 1 ≤ S80.size a := by
      rintro _ rfl a
      match a with
      | ⟨0, _⟩ => exact coord_lt i
    have hv : ∀ off : Fin 1 → ℕ, off = ![(i 0).val] → pf.atD 4 off = (if P.fl (i 0).val then 1#32 else 0#32) := fun off ho =>
      (dif_pos (hin off ho)).trans ((word_atD (pf 4) (coord_lt i) _ (by subst ho; rfl)).trans hw)
    rw [hv _ (off23_eq i), hv _ (off24_eq i), y1, decide_eq_false hd]
    cases P.fl (i 0).val <;> decide

/-- The result's buffer holds a computed block at every point past the last tile. -/
theorem fresh_dead {pf : pre0.Contents (Elt F)} {P : Tabs} (hP : Good pf P) :
    ∀ n, P.nu ≤ n → n < 80 → (cfg0 (adm hP)).fresh 1 n = false := by
  have hN : (cfg0 (adm hP)).N = 80 := N_0
  have hpos := hP.pos
  intro n h1 h2
  induction n with
  | zero => omega
  | succ n ih =>
    have hn : n < (cfg0 (adm hP)).N := by rw [hN]; omega
    rw [Pipeline.Cfg.fresh_succ _ _ _ hn]
    have hf : ((cfg0 (adm hP)).win 1).flush ⟨n, hn⟩ = false := by
      rw [Bool.eq_false_iff, ne_eq, flush_iff hP]; show ¬ (n + 1 = 80 ∨ n + 1 < P.nu); omega
    rw [hf, Bool.false_or]
    by_cases hc : P.nu ≤ n
    · rw [ih hc (by omega), Bool.and_false]
    · have hi : (cfg0 (adm hP)).idle 1 ((cfg0 (adm hP)).grid.coords ⟨n, hn⟩) = false :=
        (idle_iff hP _).trans (decide_eq_false (by
          have := coords_val ⟨n, hn⟩
          exact fun h => hc (le_of_le_of_eq h this)))
      rw [hi, Bool.false_and]

end Cert.KernelIdeal.Run
end
-- ==== Proof.Ideal.Region0.lean ====
/-
The expert kernel over its grid: what each staging buffer holds after every point, what is held between points, and
that the body at a point leads from one to the next.
-/
module

public import proofs.«01_k».proof.Proof.Ideal.Schedule
public import Idealize.ShloMosaic.Lib.Pipeline.FrameBody
public import Idealize.ShloMosaic.Lib.Pipeline.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ

theorem row_lt (n : ℕ) : n % 40960 < 40960 := Nat.mod_lt _ (by decide)

/-- Row `r` of tile `n` of the packed tokens, column `k`. -/
def tokAt (n : ℕ) (j : S512x1024.Idx) : S40960x1024.Idx :=
  fun | ⟨0, _⟩ => ⟨(n * 512 + (j 0).val) % 40960, row_lt _⟩ | ⟨1, _⟩ => ⟨(j 1).val, (j 1).isLt⟩

/-- Tile `n` of the packed tokens. -/
def tokens (f : S40960x1024.Idx → Elt F .i32) (n : ℕ) : S512x1024.Idx → Elt F .i32 := fun j => f (tokAt n j)

section

variable (c : Dev nD) (A : S40960x1024.Idx → Elt F .i32) (O : S40960x2x1024.Idx → Elt F .bf16)
variable (fg : Buf (Elt F) ((winG 0).view.loc (c : Thread nD τ))) (fu : Buf (Elt F) ((winU 0).view.loc (c : Thread nD τ)))
variable (fd : Buf (Elt F) ((winD 0).view.loc (c : Thread nD τ)))
variable {pf : pre0.Contents (Elt F)} {P : Tabs} (hP : Good pf P)

/-- The read kernel's staging buffers, which the expert kernel leaves alone. -/
def others : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- What is held before point `n`. -/
def phi (pf : pre0.Contents (Elt F)) (P : Tabs) (n : ℕ) : sProp 𝕄 :=
  iprop(others c ∗ (∃ r, prngReg c r) ∗ tabs c (pf 0) (pf 2) (pf 3) (pf 4) (pf 1) ∗ state c fg fu fd P (min n P.nu))

/-- The block point `n`'s result buffer holds: the last live tile's past the plan's end. -/
def blockOut (P : Tabs) (n : ℕ) : Vec F S512x2x1024 .bf16 := outOf c fg fu fd P (tileAt P n) (tokens A (tileAt P n))

/-- The expert kernel's proof data. -/
def dat0 : Dat τ (Elt F) Unit ℕ (Pipeline.UD sig nD τ) ℕ (cfg0 (adm hP)) c where
  A w := match w with
    | ⟨0, _⟩ => A
    | ⟨1, _⟩ => O
  after w t := match w with
    | ⟨0, _⟩ => tokens A (tileAt P t.val)
    | ⟨1, _⟩ => blockOut c A fg fu fd P t.val
  Φ n := phi c fg fu fd pf P n.val
  q _ := fullShare
  owed _ := 0

theorem after0 (t : Fin (cfg0 (adm hP)).N) : (dat0 c A O fg fu fd hP).after 0 t = tokens A (tileAt P t.val) := rfl
theorem after1 (t : Fin (cfg0 (adm hP)).N) : (dat0 c A O fg fu fd hP).after 1 t = blockOut c A fg fu fd P t.val := rfl

theorem blockOf0 (t : Fin (cfg0 (adm hP)).N) : (dat0 c A O fg fu fd hP).blockOf 0 t = tokens A (tileAt P t.val) := by
  have hix := (index0 hP (grid0.coords t)).trans (by rw [coords_val t] : _ = ![tileAt P t.val, 0])
  have hn := tileAt_lt hP.pos hP.le t.val
  refine funext fun (j : S512x1024.Idx) => congrArg A (funext fun a => Fin.ext ?_)
  match a with
  | ⟨0, _⟩ =>
    show cc0_transform_0 inb_S1_S1_0 numel1_S1 pf (grid0.coords t) 0 * 512 + 1 * (j 0).val = (tileAt P t.val * 512 + (j 0).val) % 40960
    rw [hix]
    have hj : (j 0).val < 512 := (j 0).isLt
    show tileAt P t.val * 512 + 1 * (j 0).val = _
    omega
  | ⟨1, _⟩ =>
    show cc0_transform_0 inb_S1_S1_0 numel1_S1 pf (grid0.coords t) 1 * 1024 + 1 * (j 1).val = (j 1).val
    rw [hix]
    show 0 * 1024 + 1 * (j 1).val = _
    omega

theorem before0 (t : Fin (cfg0 (adm hP)).N) (d) : (dat0 c A O fg fu fd hP).before 0 t d = tokens A (tileAt P t.val) :=
  ((dat0 c A O fg fu fd hP).before_in_eq_fetched 0 rfl (fun _ => rfl) (fun _ _ _ => rfl)
    (fun t => (blockOf0 c A O fg fu fd hP t).symm) t d).trans (blockOf0 c A O fg fu fd hP t)

theorem tileAt_dead {n : ℕ} (h : P.nu ≤ n) : tileAt P n = P.nu - 1 := by unfold tileAt; omega
theorem tileAt_live {n : ℕ} (h : n < P.nu) : tileAt P n = n := by unfold tileAt; omega

/-- Past the plan's end the result's buffer holds the last tile's block. -/
theorem before1 (t : Fin (cfg0 (adm hP)).N) (ht : P.nu ≤ t.val) (d) :
    (dat0 c A O fg fu fd hP).before 1 t d = blockOut c A fg fu fd P t.val := by
  have hN : t.val < 80 := lt_of_lt_of_eq t.isLt N_0
  have hpos := hP.pos
  rw [(dat0 c A O fg fu fd hP).before_out_traj 1 rfl (fun _ _ => rfl) ?_ t.val t rfl d, fresh_dead hP t.val ht hN, if_neg Bool.false_ne_true]
  · show blockOut c A fg fu fd P (t.val - 1) = _
    unfold blockOut
    rw [tileAt_dead ht, show tileAt P (t.val - 1) = P.nu - 1 by unfold tileAt; omega]
  · intro t ht hi hf
    show blockOut c A fg fu fd P t.val = blockOut c A fg fu fd P (t.val - 1)
    have hd : P.nu ≤ t.val := by
      have := (idle_iff hP _).symm.trans hi
      exact le_of_le_of_eq (of_decide_eq_true this) (coords_val t)
    unfold blockOut
    rw [tileAt_dead hd, show tileAt P (t.val - 1) = P.nu - 1 by unfold tileAt; omega]

theorem state_at (c : Dev nD) (fg fu fd) {n n' : ℕ} (h : n = n') : state c fg fu fd P n ⊢ (state c fg fu fd P n' : sProp 𝕄) := by subst h; exact .rfl
theorem owns_at (c : Dev nD) {sp : Space} {s : Shape} {e : EltTy} (m : Memref sig .tc sp s e) {X X' : s.Idx → Elt F e} (h : X = X') :
    owns (c : Thread nD τ) m fullShare X ⊢ (owns (c : Thread nD τ) m fullShare X' : sProp 𝕄) := by subst h; exact .rfl

/-- The body at a live tile. -/
theorem body_live (t : Fin (cfg0 (adm hP)).N) (ht : t.val < P.nu) (A6 h6 A10 h10) :
    iprop((dat0 c A O fg fu fd hP).Φ t.castSucc ∗ (dat0 c A O fg fu fd hP).owesAt () t.castSucc
      ∗ (∃ d, owns (c : Thread nD τ) A6 fullShare ((dat0 c A O fg fu fd hP).before 0 t d))
      ∗ (∃ d, owns (c : Thread nD τ) A10 fullShare ((dat0 c A O fg fu fd hP).before 1 t d)))
    ⊢ wp frame (wpE (defs₀ (F := F)) Variants.none (c : Thread nD τ) none) Set.univ (tileProg (grid0.coords t) A6 h6 A10 h10) (fun _ =>
      iprop((dat0 c A O fg fu fd hP).Φ t.succ ∗ (dat0 c A O fg fu fd hP).owesAt () t.succ
        ∗ owns (c : Thread nD τ) A6 fullShare ((dat0 c A O fg fu fd hP).after 0 t)
        ∗ owns (c : Thread nD τ) A10 fullShare ((dat0 c A O fg fu fd hP).after 1 t))) := by
  have hv := coords_val t
  have hi : (grid0.coords t 0).val < P.nu := lt_of_eq_of_lt hv ht
  show iprop(phi c fg fu fd pf P t.val ∗ _ ∗ _ ∗ _) ⊢ wp _ _ _ _ (fun _ => iprop(phi c fg fu fd pf P (t.val + 1) ∗ _ ∗ _ ∗ _))
  unfold phi Dat.owesAt Pipeline.owesWithin
  iintro ⟨⟨Ho, Hr, HT, HS⟩, ⟨%W, -, HW⟩, ⟨%d0, H0⟩, %d1, H1⟩
  ihave HS := (state_at (F := F) c fg fu fd (show min t.val P.nu = (grid0.coords t 0).val by rw [hv]; omega)) $$ HS
  ihave H0 := (owns_at c A6 (before0 c A O fg fu fd hP t d0)) $$ H0
  iapply (tile_live c fg fu fd (pf 0) (pf 2) (pf 3) (pf 4) (pf 1) (grid0.coords t) A6 h6 A10 h10 hP hi (tokens A (tileAt P t.val)) _ _)
  isplitl [HS]; · iexact HS
  isplitl [HT]; · iexact HT
  isplitl [HW]; · iexists W; iexact HW
  isplitl [H0]; · iexact H0
  isplitl [H1]; · iexact H1
  iintro ⟨HS, HT, ⟨%W', HW'⟩, H0, H1⟩
  isplitl [Ho Hr HT HS]
  · isplitl [Ho]; · iexact Ho
    isplitl [Hr]; · iexact Hr
    isplitl [HT]; · iexact HT
    iapply (state_at (F := F) c fg fu fd (show (grid0.coords t 0).val + 1 = min (t.val + 1) P.nu by rw [hv]; omega)) $$ HS
  isplitl [HW']
  · iexists W'; isplitr; · ipureintro; exact fun _ _ => Or.inl trivial
    iexact HW'
  isplitl [H0]; · iexact H0
  have hE : outOf c fg fu fd P (grid0.coords t 0).val (tokens A (tileAt P t.val)) = blockOut c A fg fu fd P t.val := by
    unfold blockOut; rw [hv, tileAt_live ht]
  iapply (owns_at c A10 hE)
  iexact H1

/-- The body past the plan's end: nothing changes. -/
theorem body_dead (t : Fin (cfg0 (adm hP)).N) (ht : P.nu ≤ t.val) (A6 h6 A10 h10) (R : sProp 𝕄)
    (hR : ∀ d, owns (c : Thread nD τ) A10 fullShare ((dat0 c A O fg fu fd hP).before 1 t d) ⊢ R) :
    iprop((dat0 c A O fg fu fd hP).Φ t.castSucc ∗ (dat0 c A O fg fu fd hP).owesAt () t.castSucc
      ∗ (∃ d, owns (c : Thread nD τ) A6 fullShare ((dat0 c A O fg fu fd hP).before 0 t d))
      ∗ (∃ d, owns (c : Thread nD τ) A10 fullShare ((dat0 c A O fg fu fd hP).before 1 t d)))
    ⊢ wp frame (wpE (defs₀ (F := F)) Variants.none (c : Thread nD τ) none) Set.univ (tileProg (grid0.coords t) A6 h6 A10 h10) (fun _ =>
      iprop((dat0 c A O fg fu fd hP).Φ t.succ ∗ (dat0 c A O fg fu fd hP).owesAt () t.succ
        ∗ owns (c : Thread nD τ) A6 fullShare ((dat0 c A O fg fu fd hP).after 0 t)
        ∗ R)) := by
  have hv := coords_val t
  have hi : ¬ (grid0.coords t 0).val < P.nu := by rw [hv]; omega
  show iprop(phi c fg fu fd pf P t.val ∗ _ ∗ _ ∗ _) ⊢ wp _ _ _ _ (fun _ => iprop(phi c fg fu fd pf P (t.val + 1) ∗ _ ∗ _ ∗ _))
  unfold phi Dat.owesAt Pipeline.owesWithin
  iintro ⟨⟨Ho, Hr, HT, HS⟩, ⟨%W, -, HW⟩, ⟨%d0, H0⟩, %d1, H1⟩
  ihave HS := (state_at (F := F) c fg fu fd (show min t.val P.nu = min (t.val + 1) P.nu by omega)) $$ HS
  ihave H0 := (owns_at c A6 (before0 c A O fg fu fd hP t d0)) $$ H0
  iapply (tile_dead c (pf 0) (pf 2) (pf 3) (pf 4) (pf 1) hP (grid0.coords t) hi A6 h6 A10 h10 _)
  isplitl [HT]; · iexact HT
  iintro HT
  isplitl [Ho Hr HT HS]
  · isplitl [Ho]; · iexact Ho
    isplitl [Hr]; · iexact Hr
    isplitl [HT]; · iexact HT
    iexact HS
  isplitl [HW]
  · iexists W; isplitr; · ipureintro; exact fun _ _ => Or.inl trivial
    iexact HW
  isplitl [H0]; · iexact H0
  iapply (hR d1) $$ H1

end

end Cert.KernelIdeal.Run
end
-- ==== Proof.Ideal.Ends.lean ====
/-
The expert kernel's launch and end: the buffers, semaphores and tables it starts from make what it holds before its
first point, and what it holds after its last point gives them back.
-/
module

public import proofs.«01_k».proof.Proof.Ideal.Region0

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ

/-- The two slots of a buffer of first-layer weights are its two halves. -/
theorem rest_slot (s : Fin 2) :
    Finset.univ \ (Rect.unit (s := S2x2048x512) ![s.val, 0, 0] S1x2048x512.size (slot_inb s)).set
      = (Rect.unit (s := S2x2048x512) ![(1 - s : Fin 2).val, 0, 0] S1x2048x512.size (slot_inb (1 - s))).set := by
  ext i
  rw [Finset.mem_sdiff, Rect.mem_set_unit, Rect.mem_set_unit]
  have h0 : (i 0).val < 2 := (i 0).isLt
  have h1 : (i 1).val < 2048 := (i 1).isLt
  have h2 : (i 2).val < 512 := (i 2).isLt
  have key : ∀ s : Fin 2, (∀ a : Fin 3, (![s.val, 0, 0] : Fin 3 → ℕ) a ≤ (i a).val ∧ (i a).val < (![s.val, 0, 0] : Fin 3 → ℕ) a + S1x2048x512.size a) ↔ (i 0).val = s.val := by
    intro s
    constructor
    · intro h
      have := h 0
      have e : s.val ≤ (i 0).val ∧ (i 0).val < s.val + 1 := this
      omega
    · intro h a
      match a with
      | ⟨0, _⟩ => show s.val ≤ (i 0).val ∧ (i 0).val < s.val + 1; omega
      | ⟨1, _⟩ => show 0 ≤ (i 1).val ∧ (i 1).val < 0 + 2048; omega
      | ⟨2, _⟩ => show 0 ≤ (i 2).val ∧ (i 2).val < 0 + 512; omega
  refine Iff.trans (and_congr Iff.rfl (not_congr (key s))) (Iff.trans ?_ (key (1 - s)).symm)
  have hs : (1 - s : Fin 2).val = 1 - s.val := by revert s; decide
  have hl := s.isLt
  rw [hs]
  simp only [Finset.mem_univ, true_and]
  omega

/-- The two slots of the buffer of second-layer weights are its two halves. -/
theorem rest_slotD (s : Fin 2) :
    Finset.univ \ (Rect.unit (s := S2x512x2048) ![s.val, 0, 0] S1x512x2048.size (slotD_inb s)).set
      = (Rect.unit (s := S2x512x2048) ![(1 - s : Fin 2).val, 0, 0] S1x512x2048.size (slotD_inb (1 - s))).set := by
  ext i
  rw [Finset.mem_sdiff, Rect.mem_set_unit, Rect.mem_set_unit]
  have h0 : (i 0).val < 2 := (i 0).isLt
  have h1 : (i 1).val < 512 := (i 1).isLt
  have h2 : (i 2).val < 2048 := (i 2).isLt
  have key : ∀ s : Fin 2, (∀ a : Fin 3, (![s.val, 0, 0] : Fin 3 → ℕ) a ≤ (i a).val ∧ (i a).val < (![s.val, 0, 0] : Fin 3 → ℕ) a + S1x512x2048.size a) ↔ (i 0).val = s.val := by
    intro s
    constructor
    · intro h
      have := h 0
      have e : s.val ≤ (i 0).val ∧ (i 0).val < s.val + 1 := this
      omega
    · intro h a
      match a with
      | ⟨0, _⟩ => show s.val ≤ (i 0).val ∧ (i 0).val < s.val + 1; omega
      | ⟨1, _⟩ => show 0 ≤ (i 1).val ∧ (i 1).val < 0 + 512; omega
      | ⟨2, _⟩ => show 0 ≤ (i 2).val ∧ (i 2).val < 0 + 2048; omega
  refine Iff.trans (and_congr Iff.rfl (not_congr (key s))) (Iff.trans ?_ (key (1 - s)).symm)
  have hs : (1 - s : Fin 2).val = 1 - s.val := by revert s; decide
  have hl := s.isLt
  rw [hs]
  simp only [Finset.mem_univ, true_and]
  omega

theorem slotG_set (s : Fin 2) : (slotG s).view.set = (Rect.unit (s := S2x2048x512) ![s.val, 0, 0] S1x2048x512.size (slot_inb s)).set :=
  (View.set_reshape _ _).trans (View.set_slice_whole _ _)
theorem slotU_set (s : Fin 2) : (slotU s).view.set = (Rect.unit (s := S2x2048x512) ![s.val, 0, 0] S1x2048x512.size (slot_inb s)).set :=
  (View.set_reshape _ _).trans (View.set_slice_whole _ _)
theorem slotD_set (s : Fin 2) : (slotD s).view.set = (Rect.unit (s := S2x512x2048) ![s.val, 0, 0] S1x512x2048.size (slotD_inb s)).set :=
  (View.set_reshape _ _).trans (View.set_slice_whole _ _)

theorem restG (s : Fin 2) : Finset.univ \ (slotG s).view.set = (slotG (1 - s)).view.set := by
  rw [slotG_set, slotG_set]; exact rest_slot s
theorem restU (s : Fin 2) : Finset.univ \ (slotU s).view.set = (slotU (1 - s)).view.set := by
  rw [slotU_set, slotU_set]; exact rest_slot s
theorem restD (s : Fin 2) : Finset.univ \ (slotD s).view.set = (slotD (1 - s)).view.set := by
  rw [slotD_set, slotD_set]; exact rest_slotD s

/-- A buffer held whole is a part of it and the rest. -/
theorem split_any (ℓ : Loc nD τ sig) {I J : Finset (Idx ℓ)} (h : Finset.univ \ I = J) :
    iprop(∃ f, ℓ ↦{fullShare} f) ⊢ (iprop((∃ f, ℓ ↦[I]{fullShare} f) ∗ ∃ f, ℓ ↦[J]{fullShare} f) : sProp 𝕄) := by
  subst h
  iintro ⟨%f, H⟩
  ihave H := (pointsTo_split_subset (Finset.subset_univ I)).1 $$ H
  icases H with ⟨H, H'⟩
  isplitl [H]; · iexists f; iexact H
  iexists f; iexact H'

/-- And back. -/
theorem join_any (ℓ : Loc nD τ sig) {I J : Finset (Idx ℓ)} (h : Finset.univ \ I = J) :
    iprop((∃ f, ℓ ↦[I]{fullShare} f) ∗ ∃ f, ℓ ↦[J]{fullShare} f) ⊢ (iprop(∃ f, ℓ ↦{fullShare} f) : sProp 𝕄) := by
  subst h
  iintro ⟨⟨%f, H⟩, %f', H'⟩
  iexists _
  iapply (pointsTo_join_subset (Finset.subset_univ I))
  isplitl [H]; · iexact H
  iexact H'

section

variable (c : Dev nD)
variable (fg : Buf (Elt F) ((winG 0).view.loc (c : Thread nD τ))) (fu : Buf (Elt F) ((winU 0).view.loc (c : Thread nD τ)))
variable (fd : Buf (Elt F) ((winD 0).view.loc (c : Thread nD τ)))

/-- The three two-slot buffers whole. -/
def slots : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem slots_split (s : Fin 2) : slots c ⊢ (iprop(slotAny c s ∗ slotAny c (1 - s)) : sProp 𝕄) := by
  unfold slots slotAny
  iintro ⟨HG, HU, HD⟩
  ihave HG := (split_any ((c : Thread nD τ).loc cc0_scratch0) (restG s)) $$ HG
  ihave HU := (split_any ((c : Thread nD τ).loc cc0_scratch1) (restU s)) $$ HU
  ihave HD := (split_any ((c : Thread nD τ).loc cc0_scratch2) (restD s)) $$ HD
  icases HG with ⟨HG, HG'⟩
  icases HU with ⟨HU, HU'⟩
  icases HD with ⟨HD, HD'⟩
  isplitl [HG HU HD]
  · isplitl [HG]; · iexact HG
    isplitl [HU]; · iexact HU
    iexact HD
  · isplitl [HG']; · iexact HG'
    isplitl [HU']; · iexact HU'
    iexact HD'

theorem slots_join (s : Fin 2) : iprop(slotAny c s ∗ slotAny c (1 - s)) ⊢ (slots c : sProp 𝕄) := by
  unfold slots slotAny
  iintro ⟨⟨HG, HU, HD⟩, HG', HU', HD'⟩
  isplitl [HG HG']
  · iapply (join_any ((c : Thread nD τ).loc cc0_scratch0) (restG s))
    isplitl [HG]; · iexact HG
    iexact HG'
  isplitl [HU HU']
  · iapply (join_any ((c : Thread nD τ).loc cc0_scratch1) (restU s))
    isplitl [HU]; · iexact HU
    iexact HU'
  · iapply (join_any ((c : Thread nD τ).loc cc0_scratch2) (restD s))
    isplitl [HD]; · iexact HD
    iexact HD'

/-- The two semaphores' counters at zero. -/
def sems0 : sProp 𝕄 := iprop(semVal ((c : Thread nD τ), SemLoc.dma 4) 0 ∗ semVal ((c : Thread nD τ), SemLoc.dma 5) 0)

theorem sems_split (s : Fin 2) : sems0 c ⊢ (iprop(semVal ((c : Thread nD τ), SemLoc.dma (semAt s)) 0
    ∗ semVal ((c : Thread nD τ), SemLoc.dma (semAt (1 - s))) 0) : sProp 𝕄) := by
  unfold sems0
  match s with
  | 0 => rw [semAt_zero, show (1 - 0 : Fin 2) = 1 from rfl, semAt_one]
  | 1 => rw [semAt_one, show (1 - 1 : Fin 2) = 0 from rfl, semAt_zero]; exact sep_comm.1

theorem sems_join (s : Fin 2) : (iprop(semVal ((c : Thread nD τ), SemLoc.dma (semAt s)) 0
    ∗ semVal ((c : Thread nD τ), SemLoc.dma (semAt (1 - s))) 0) : sProp 𝕄) ⊢ sems0 c := by
  unfold sems0
  match s with
  | 0 => rw [semAt_zero, show (1 - 0 : Fin 2) = 1 from rfl, semAt_one]
  | 1 => rw [semAt_one, show (1 - 1 : Fin 2) = 0 from rfl, semAt_zero]; exact sep_comm.1

/-- The bf16 weights' buffers whole. -/
def casts : sProp 𝕄 :=
  iprop((∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

theorem casts_open : casts c ⊢ (iprop(∃ W3 W4 W5, castsAt c W3 W4 W5) : sProp 𝕄) := by
  unfold casts castsAt
  iintro ⟨⟨%f3, H3⟩, ⟨%f4, H4⟩, %f5, H5⟩
  iexists f3; iexists f4; iexists f5
  isplitl [H3]; · iapply (Entails.of_eq (owns_whole (c : Thread nD τ) cc0_scratch3 fullShare f3).symm) $$ H3
  isplitl [H4]; · iapply (Entails.of_eq (owns_whole (c : Thread nD τ) cc0_scratch4 fullShare f4).symm) $$ H4
  iapply (Entails.of_eq (owns_whole (c : Thread nD τ) cc0_scratch5 fullShare f5).symm) $$ H5

theorem casts_close (W3 W4 W5) : castsAt c W3 W4 W5 ⊢ (casts c : sProp 𝕄) := by
  unfold casts castsAt
  iintro ⟨H3, H4, H5⟩
  isplitl [H3]; · iexists _; iapply (Entails.of_eq (owns_whole (c : Thread nD τ) cc0_scratch3 fullShare W3)) $$ H3
  isplitl [H4]; · iexists _; iapply (Entails.of_eq (owns_whole (c : Thread nD τ) cc0_scratch4 fullShare W4)) $$ H4
  iexists _; iapply (Entails.of_eq (owns_whole (c : Thread nD τ) cc0_scratch5 fullShare W5)) $$ H5

/-- What the kernel works with, at rest, makes the state before the first tile. -/
theorem state_start (P : Tabs) : iprop(slots c ∗ casts c ∗ sems0 c ∗ hbm c fg fu fd) ⊢ (state c fg fu fd P 0 : sProp 𝕄) := by
  show _ ⊢ iprop((∃ W3 W4 W5, castsAt c W3 W4 W5) ∗ idleX c fg fu fd (P.sl 0) (1 - P.sl 0) (slotAny c (1 - P.sl 0)))
  unfold idleX
  iintro ⟨HS, HC, Hq, HH⟩
  ihave HS := (slots_split c (P.sl 0)) $$ HS
  icases HS with ⟨HS, HS'⟩
  ihave Hq := (sems_split c (P.sl 0)) $$ Hq
  icases Hq with ⟨Hq, Hq'⟩
  isplitl [HC]; · iapply (casts_open c) $$ HC
  isplitl [HH]; · iexact HH
  isplitl [HS]; · iexact HS
  isplitl [Hq]; · iexact Hq
  isplitl [Hq']; · iexact Hq'
  iexact HS'

/-- After a plan's last tile nothing is in flight, and what the kernel works with is back at rest. -/
theorem state_end (P : Tabs) (hpos : 1 ≤ P.nu) (hlast : P.nx (P.nu - 1) = none) :
    state c fg fu fd P P.nu ⊢ (iprop(slots c ∗ casts c ∗ sems0 c ∗ hbm c fg fu fd) : sProp 𝕄) := by
  obtain ⟨n, hn⟩ : ∃ n, P.nu = n + 1 := ⟨P.nu - 1, by omega⟩
  rw [hn] at hlast ⊢
  have hl : P.nx n = none := hlast
  show iprop(castsOf c fg fu fd (P.te n) ∗ pendX c fg fu fd (P.nx n) (1 - P.sl n) (P.sl n) (slotAny c (P.sl n))) ⊢ _
  rw [hl]
  show iprop(castsOf c fg fu fd (P.te n) ∗ idleX c fg fu fd (1 - P.sl n) (P.sl n) (slotAny c (P.sl n))) ⊢ _
  unfold idleX
  iintro ⟨HC, HH, HS', Hq', Hq, HS⟩
  isplitl [HS HS']
  · iapply (slots_join c (P.sl n))
    isplitl [HS]; · iexact HS
    iexact HS'
  isplitl [HC]; · iapply (casts_close c) $$ HC
  isplitl [Hq Hq']
  · iapply (sems_join c (P.sl n))
    isplitl [Hq]; · iexact Hq
    iexact Hq'
  iexact HH

end

section

variable (c : Dev nD)

/-- The kernel's own semaphores. -/
abbrev osem0 : Fin 2 → SemLoc sig := fun j => (![SemLoc.dma 4, SemLoc.dma 5] : Fin 2 → SemLoc sig) j
theorem ownSemFacts0 : Pipeline.OwnSemFacts spec0 osem0 := by decide
theorem ownSems0_eq : (Pipeline.ownSems0 (Ix := Unit) (Name := ℕ) (U := Pipeline.UD sig nD τ) (Lvl := ℕ) (Val := Elt F) (τ := τ) osem0 c : sProp 𝕄) = sems0 c := by
  rw [Pipeline.ownSems0_eq_of_list c osem0 [0, 1] (by decide) (by decide)]; rfl

/-- The weight arrays, which the kernel reads where they lie. -/
def H0 : Finset (Ref sig .tc) := {main_arg6, main_arg7, main_arg8}
theorem H0_eq (V : (b : Ref sig .tc) → Buf (Elt F) ((c : Thread nD τ).loc b)) :
    (bigSep H0 (fun b => ((c : Thread nD τ).loc b) ↦{fullShare} V b) : sProp 𝕄) = hbm c (V main_arg6) (V main_arg7) (V main_arg8) := by
  rw [BI.bigSep_eq_bigSepL_of_eq [main_arg6, main_arg7, main_arg8] (by decide) (by decide)]; rfl

theorem tables_eq (pf : pre0.Contents (Elt F)) :
    (Pipeline.prefHeld pre0 c (fun _ => fullShare) pf : sProp 𝕄) = tabs c (pf 0) (pf 2) (pf 3) (pf 4) (pf 1) := by
  unfold Pipeline.prefHeld tabs
  rw [bigSep_univ_eq_bigSepL [(0 : Fin 5), 1, 2, 3, 4] (by decide) (by decide)]
  have e : ∀ X X' Y Y' : sProp 𝕄, X = X' → Y = Y' → iprop(X ∗ Y) = iprop(X' ∗ Y') := by rintro _ _ _ _ rfl rfl; rfl
  exact e _ _ _ _ (owns_whole (c : Thread nD τ) main_arg0 fullShare (pf 0)).symm
    (e _ _ _ _ (owns_whole (c : Thread nD τ) main_arg1 fullShare (pf 1)).symm
      (e _ _ _ _ (owns_whole (c : Thread nD τ) main_arg2 fullShare (pf 2)).symm
        (e _ _ _ _ (owns_whole (c : Thread nD τ) main_arg3 fullShare (pf 3)).symm
          (owns_whole (c : Thread nD τ) main_arg4 fullShare (pf 4)).symm)))

variable (fg : Buf (Elt F) ((winG 0).view.loc (c : Thread nD τ))) (fu : Buf (Elt F) ((winU 0).view.loc (c : Thread nD τ)))
variable (fd : Buf (Elt F) ((winD 0).view.loc (c : Thread nD τ)))

/-- The launch makes what is held before the first point. -/
theorem phi_start (pf : pre0.Contents (Elt F)) (P : Tabs) :
    iprop((Pipeline.scopedRest spec0 c ∗ (∃ r, prngReg c r) ∗ Pipeline.ownSems0 osem0 c ∗ hbm c fg fu fd)
      ∗ Pipeline.prefHeld pre0 c (fun _ => fullShare) pf) ⊢ (phi c fg fu fd pf P 0 : sProp 𝕄) := by
  rw [scopedRest0_eq, ownSems0_eq, tables_eq]
  unfold phi others
  iintro ⟨⟨⟨H0, H1, H2, H3, H4, H5, Ho⟩, Hr, Hq, HH⟩, HT⟩
  isplitl [Ho]; · iexact Ho
  isplitl [Hr]; · iexact Hr
  isplitl [HT]; · iexact HT
  iapply (state_at c fg fu fd (Nat.zero_min P.nu).symm)
  iapply (state_start c fg fu fd P)
  isplitl [H0 H1 H2]
  · unfold slots
    isplitl [H0]; · iexact H0
    isplitl [H1]; · iexact H1
    iexact H2
  isplitl [H3 H4 H5]
  · unfold casts
    isplitl [H3]; · iexact H3
    isplitl [H4]; · iexact H4
    iexact H5
  isplitl [Hq]; · iexact Hq
  iexact HH

/-- What is held after the last point is what the launch gave. -/
theorem phi_end (pf : pre0.Contents (Elt F)) (P : Tabs) (hpos : 1 ≤ P.nu) (hle : P.nu ≤ 80) (hlast : P.nx (P.nu - 1) = none) :
    phi c fg fu fd pf P 80 ⊢ (iprop((Pipeline.scopedRest spec0 c ∗ (∃ r, prngReg c r) ∗ Pipeline.ownSems0 osem0 c ∗ hbm c fg fu fd)
      ∗ Pipeline.prefHeld pre0 c (fun _ => fullShare) pf) : sProp 𝕄) := by
  rw [scopedRest0_eq, ownSems0_eq, tables_eq]
  unfold phi others
  iintro ⟨Ho, Hr, HT, HS⟩
  ihave HS := (state_at c fg fu fd (Nat.min_eq_right hle)) $$ HS
  ihave HS := (state_end c fg fu fd P hpos hlast) $$ HS
  unfold slots casts
  icases HS with ⟨⟨H0, H1, H2⟩, ⟨H3, H4, H5⟩, Hq, HH⟩
  isplitr [HT]
  · isplitl [H0 H1 H2 H3 H4 H5 Ho]
    · isplitl [H0]; · iexact H0
      isplitl [H1]; · iexact H1
      isplitl [H2]; · iexact H2
      isplitl [H3]; · iexact H3
      isplitl [H4]; · iexact H4
      isplitl [H5]; · iexact H5
      iexact Ho
    isplitl [Hr]; · iexact Hr
    isplitl [Hq]; · iexact Hq
    iexact HH
  iexact HT

end

section

variable (c : Dev nD) (A : S40960x1024.Idx → Elt F .i32) (O : S40960x2x1024.Idx → Elt F .bf16)
variable (fg : Buf (Elt F) ((winG 0).view.loc (c : Thread nD τ))) (fu : Buf (Elt F) ((winU 0).view.loc (c : Thread nD τ)))
variable (fd : Buf (Elt F) ((winD 0).view.loc (c : Thread nD τ)))
variable {pf : pre0.Contents (Elt F)} {P : Tabs} (hP : Good pf P)

theorem defs₀_row (t : Fin (cfg0 (adm hP)).N) :
    defs₀ (F := F) .tc (cfg0 (adm hP)).body ((cfg0 (adm hP)).bodyArgs t ((cfg0 (adm hP)).slots t))
      = tileProg (grid0.coords t) (spec0_0.stage ((cfg0 (adm hP)).slots t 0)) (hstage0_0 (((cfg0 (adm hP)).slots t 0).cast nbuf0_0))
          (spec0_1.stage ((cfg0 (adm hP)).slots t 1)) (hstage0_1 (((cfg0 (adm hP)).slots t 1).cast nbuf0_1)) := by
  unfold defs₀; rw [Defs.onTc_tc]

theorem idle_at (t : Fin (cfg0 (adm hP)).N) : (cfg0 (adm hP)).idle 1 ((cfg0 (adm hP)).grid.coords t) = decide (P.nu ≤ t.val) :=
  (idle_iff hP _).trans (congrArg (fun n => decide (P.nu ≤ n)) (coords_val t))

/-- What a buffer is handed back with at a point that is not idle, at an idle point and at one that writes it back. -/
theorem leaf_live {b f : Bool} {X Y : sProp 𝕄} :
    b = false → (Y ⊢ (match b with | true => (match f with | false => X | true => Y) | false => Y)) := by
  intro hb; subst hb; exact .rfl
theorem leaf_idle {b f : Bool} {X Y Z : sProp 𝕄} :
    b = true → (Z ⊢ X) → (Z ⊢ Y) → (Z ⊢ (match b with | true => (match f with | false => X | true => Y) | false => Y)) := by
  intro hb hX hY
  subst hb
  cases f
  · exact hX
  · exact hY

/-- The body at each point leads from what is held before it to what is held after it. -/
theorem body_obligation : BodyObligation (dat0 c A O fg fu fd hP) (defs₀ (F := F)) Variants.none () Set.univ := fun t => by
  rw [bigSep_W0, bigSep_W0, defs₀_row]
  by_cases ht : P.nu ≤ t.val
  · exact triple_restated (body_dead c A O fg fu fd hP t ht _ _ _ _
        (iprop(∃ d, owns (c : Thread nD τ) (spec0_1.stage ((cfg0 (adm hP)).slots t 1)) fullShare ((dat0 c A O fg fu fd hP).before 1 t d)))
        (fun d => by iintro H; iexists d; iexact H)) rfl .rfl
      fun _ => sep_mono .rfl (sep_mono .rfl (sep_mono .rfl (leaf_idle ((idle_at hP t).trans (decide_eq_true ht)) .rfl
        (exists_elim fun d => owns_at c _ (before1 c A O fg fu fd hP t ht d)))))
  · exact triple_restated (body_live c A O fg fu fd hP t (by omega) _ _ _ _) rfl .rfl
      fun _ => sep_mono .rfl (sep_mono .rfl (sep_mono .rfl (leaf_live ((idle_at hP t).trans (decide_eq_false ht)))))

end

end Cert.KernelIdeal.Run
end
-- ==== Proof.Ideal.Read.lean ====
/-
The read kernel over its grid: each point turns a tile of the expert kernel's packed rows into a tile of f32 rows, the
low halves of the words in the first 1024 columns and the high halves in the last 1024.
-/
module

public import proofs.«01_k».proof.Proof.Ideal.Ends
public import proofs.«01_k».proof.Proof.Gen.KernelIdeal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline's beside the transfers' counters. -/
local notation "𝕄" => MT nD τ sig Unit (Elt F) ℕ (Pipeline.UD sig nD τ) ℕ

/-- A packed tile. -/
abbrev Packed (F : FTy → Type) := S512x2x1024.Idx → Elt F .bf16

/-- The low halves of a packed tile's words, as f32. -/
def lows (X : Packed F) : Vec F S512x1024 .f32 :=
  extf .f32 (shapeCast S512x1024 (rowsOfParity 0 S512x1x1024 X bitcasts_S512x2x1024_w16_S512x1x1024_w32) shapeCasts_S512x1x1024_S512x1024 : FVec F S512x1024 .bf16)
/-- The high halves of a packed tile's words, as f32. -/
def highs (X : Packed F) : Vec F S512x1024 .f32 :=
  extf .f32 (shapeCast S512x1024 (rowsOfParity 1 S512x1x1024 X bitcasts_S512x2x1024_w16_S512x1x1024_w32) shapeCasts_S512x1x1024_S512x1024 : FVec F S512x1024 .bf16)

/-- An entry's place in its half of the columns. -/
def inHalf (y : S512x2048.Idx) : S512x1024.Idx :=
  fun | ⟨0, _⟩ => ⟨(y 0).val, (y 0).isLt⟩ | ⟨1, _⟩ => ⟨(y 1).val % 1024, Nat.mod_lt _ (by decide)⟩

/-- The tile of which the first 1024 columns are `lo` and the rest is as in `Y`. -/
def withLow (lo : Vec F S512x1024 .f32) (Y : S512x2048.Idx → Elt F .f32) : S512x2048.Idx → Elt F .f32 :=
  fun y => if (y 1).val < 1024 then lo (inHalf y) else Y y
/-- What a point of the read kernel stores. -/
def readOut (X : Packed F) : S512x2048.Idx → Elt F .f32 :=
  fun y => if (y 1).val < 1024 then lows X (inHalf y) else highs X (inHalf y)

abbrev rL : Rect S512x2048 := Rect.unit (s := S512x2048) ![0, 0] S512x1024.size inb_S512x2048_S512x1024_0_0
abbrev rR : Rect S512x2048 := Rect.unit (s := S512x2048) ![0, 1024] S512x1024.size inb_S512x2048_S512x1024_0_1024

theorem rL_col (j : S512x1024.Idx) : ((rL.emb j) 1).val = (j 1).val := by show 0 + 1 * (j 1).val = _; omega
theorem rR_col (j : S512x1024.Idx) : ((rR.emb j) 1).val = 1024 + (j 1).val := by show 1024 + 1 * (j 1).val = _; omega

theorem inHalf_L (j : S512x1024.Idx) : inHalf (rL.emb j) = j := by
  have hj : (j 1).val < 1024 := (j 1).isLt
  funext a; apply Fin.ext
  match a with
  | ⟨0, _⟩ => show 0 + 1 * (j 0).val = _; simp
  | ⟨1, _⟩ => show ((rL.emb j) 1).val % 1024 = _; rw [rL_col]; exact Nat.mod_eq_of_lt hj
theorem inHalf_R (j : S512x1024.Idx) : inHalf (rR.emb j) = j := by
  have hj : (j 1).val < 1024 := (j 1).isLt
  funext a; apply Fin.ext
  match a with
  | ⟨0, _⟩ => show 0 + 1 * (j 0).val = _; simp
  | ⟨1, _⟩ =>
    show ((rR.emb j) 1).val % 1024 = (j 1).val
    rw [rR_col]; omega

theorem mem_rL {y : S512x2048.Idx} (h : (y 1).val < 1024) : y ∈ rL.set :=
  Rect.mem_set_unit.mpr fun a => match a with
    | ⟨0, _⟩ => ⟨Nat.zero_le _, by show (y 0).val < 0 + 512; have : (y 0).val < 512 := (y 0).isLt; omega⟩
    | ⟨1, _⟩ => ⟨Nat.zero_le _, by show (y 1).val < 0 + 1024; omega⟩
theorem mem_rR {y : S512x2048.Idx} (h : ¬ (y 1).val < 1024) : y ∈ rR.set :=
  Rect.mem_set_unit.mpr fun a => match a with
    | ⟨0, _⟩ => ⟨Nat.zero_le _, by show (y 0).val < 0 + 512; have : (y 0).val < 512 := (y 0).isLt; omega⟩
    | ⟨1, _⟩ => ⟨by show 1024 ≤ (y 1).val; omega, by show (y 1).val < 1024 + 1024; have : (y 1).val < 2048 := (y 1).isLt; omega⟩

theorem withLow_on (lo : Vec F S512x1024 .f32) (Y : S512x2048.Idx → Elt F .f32) (j : S512x1024.Idx) : withLow lo Y (rL.emb j) = lo j := by
  unfold withLow; rw [if_pos (by rw [rL_col]; exact (j 1).isLt), inHalf_L]
theorem withLow_off (lo : Vec F S512x1024 .f32) (Y : S512x2048.Idx → Elt F .f32) (y : S512x2048.Idx) (h : y ∉ rL.set) : withLow lo Y y = Y y := by
  unfold withLow; exact if_neg fun h' => h (mem_rL h')
theorem readOut_on (X : Packed F) (j : S512x1024.Idx) : readOut X (rR.emb j) = highs X j := by
  unfold readOut; rw [if_neg (by rw [rR_col]; omega), inHalf_R]
theorem readOut_off (X : Packed F) (Y : S512x2048.Idx → Elt F .f32) (y : S512x2048.Idx) (h : y ∉ rR.set) :
    readOut X y = withLow (lows X) Y y := by
  have hy : (y 1).val < 1024 := by by_contra h'; exact h (mem_rR h')
  unfold readOut withLow; rw [if_pos hy, if_pos hy]

/-- The whole of a packed tile, at offset zero. -/
theorem packed_whole (X : Packed F) :
    (fun j => X ((Rect.unit (s := S512x2x1024) ![0, 0, 0] S512x2x1024.size inb_S512x2x1024_S512x2x1024_0_0_0).emb j)) = X :=
  View.ld_unit_zero (by funext a; fin_cases a <;> rfl) _ X

section

variable (c : Dev nD)

/-- One point's body. -/
theorem read_tile (i : grid1.Coords) (A1 : Memref sig .tc .vmem S512x2x1024 .bf16) (h1 : A1.IsWhole) (A2 : Memref sig .tc .vmem S512x2048 .f32) (h2 : A2.IsWhole)
    (X : Packed F) (Y : S512x2048.Idx → Elt F .f32) (Q : PUnit → sProp 𝕄) :
    iprop(owns (c : Thread nD τ) A1 fullShare X ∗ owns (c : Thread nD τ) A2 fullShare Y
      ∗ ((owns (c : Thread nD τ) A1 fullShare X ∗ owns (c : Thread nD τ) A2 fullShare (readOut X)) -∗ Q ⟨⟩))
      ⊢ wp frame (wpE (defs₀ (F := F)) Variants.none (c : Thread nD τ) none) Set.univ (cc1_read i A1 h1 A2 h2) Q := by
  unfold cc1_read
  simp only [Prog.pure_eq_ret, Prog.lift, Prog.bind_op, Prog.bind_ret]
  iintro ⟨H1, H2, HK⟩
  iapply (wp_load_owns c Q A1 fullShare X) $$ H1
  iintro H1
  iapply (wp_load_owns c Q A2 fullShare Y) $$ H2
  iintro H2
  iapply (wp_store_owns c Q A2 (r := rL) Y _ (withLow (lows X) Y)
    (fun j => (withLow_on (lows X) Y j).trans (congrArg (fun w => lows w j) (packed_whole X).symm)) (fun y hy => withLow_off _ Y y hy)) $$ H2
  iintro H2
  iapply (wp_load_owns c Q A2 fullShare (withLow (lows X) Y)) $$ H2
  iintro H2
  iapply (wp_store_owns c Q A2 (r := rR) (withLow (lows X) Y) _ (readOut X)
    (fun j => (readOut_on X j).trans (congrArg (fun w => highs w j) (packed_whole X).symm)) (fun y hy => readOut_off X Y y hy)) $$ H2
  iintro H2
  rw [wp_ret]
  imodintro
  iapply HK
  isplitl [H1]; · iexact H1
  iexact H2

/-- Row `j` of tile `n` of the packed rows. -/
def packAt (n : ℕ) (j : S512x2x1024.Idx) : S40960x2x1024.Idx :=
  fun | ⟨0, _⟩ => ⟨(n * 512 + (j 0).val) % 40960, row_lt _⟩ | ⟨1, _⟩ => ⟨(j 1).val, (j 1).isLt⟩ | ⟨2, _⟩ => ⟨(j 2).val, (j 2).isLt⟩
/-- Tile `n` of the packed rows. -/
def packed (B : S40960x2x1024.Idx → Elt F .bf16) (n : ℕ) : Packed F := fun j => B (packAt n j)

variable (B : S40960x2x1024.Idx → Elt F .bf16) (O : S40960x2048.Idx → Elt F .f32)

/-- The read kernel's proof data. -/
def dat1 : Dat τ (Elt F) Unit ℕ (Pipeline.UD sig nD τ) ℕ (cfg1) c where
  A w := match w with
    | ⟨0, _⟩ => B
    | ⟨1, _⟩ => O
  after w t := match w with
    | ⟨0, _⟩ => packed B t.val
    | ⟨1, _⟩ => readOut (packed B t.val)
  Φ _ := iprop(Pipeline.scopedRest spec1 c ∗ ∃ r, prngReg c r)
  q _ := fullShare
  owed _ := 0

theorem dat1_A0 : (dat1 c B O).A 0 = B := rfl

theorem coords1_val (t : Fin cfg1.N) : (grid1.coords t 0).val = t.val := by
  have hN : t.val < 80 := lt_of_lt_of_eq t.isLt N_1
  show t.val / 1 % 80 = t.val
  rw [Nat.div_one, Nat.mod_eq_of_lt hN]

theorem read_index (i : grid1.Coords) : cc1_transform_0 i = ![(i 0).val, 0, 0] ∧ cc1_transform_1 i = ![(i 0).val, 0] := by
  have h : (BitVec.ofNat 32 (i 0).val).toNat = (i 0).val := by
    rw [BitVec.toNat_ofNat]; exact Nat.mod_eq_of_lt (lt_trans (i 0).isLt (by decide))
  constructor
  · show ![(BitVec.ofNat 32 (i 0).val).toNat, 0, 0] = _; rw [h]
  · show ![(BitVec.ofNat 32 (i 0).val).toNat, 0] = _; rw [h]

theorem block1 (t : Fin cfg1.N) : (dat1 c B O).blockOf 0 t = packed B t.val := by
  have hix := (read_index (grid1.coords t)).1.trans (by rw [coords1_val t] : _ = ![t.val, 0, 0])
  have hN : t.val < 80 := lt_of_lt_of_eq t.isLt N_1
  refine funext fun (j : S512x2x1024.Idx) => congrArg B (funext fun a => Fin.ext ?_)
  match a with
  | ⟨0, _⟩ =>
    show cc1_transform_0 (grid1.coords t) 0 * 512 + 1 * (j 0).val = (t.val * 512 + (j 0).val) % 40960
    rw [hix]
    have hj : (j 0).val < 512 := (j 0).isLt
    show t.val * 512 + 1 * (j 0).val = _
    omega
  | ⟨1, _⟩ =>
    show cc1_transform_0 (grid1.coords t) 1 * 2 + 1 * (j 1).val = (j 1).val
    rw [hix]
    show 0 * 2 + 1 * (j 1).val = _
    omega
  | ⟨2, _⟩ =>
    show cc1_transform_0 (grid1.coords t) 2 * 1024 + 1 * (j 2).val = (j 2).val
    rw [hix]
    show 0 * 1024 + 1 * (j 2).val = _
    omega

theorem before1_0 (t : Fin cfg1.N) (d) : (dat1 c B O).before 0 t d = packed B t.val :=
  ((dat1 c B O).before_in_eq_fetched 0 rfl (fun _ => rfl) (fun _ _ _ => rfl)
    (fun t => (block1 c B O t).symm) t d).trans (block1 c B O t)

theorem defs₀_read (t : Fin cfg1.N) :
    defs₀ (F := F) .tc (cfg1).body ((cfg1).bodyArgs t ((cfg1).slots t)) = bodyAt1 t := by
  unfold defs₀; rw [Defs.onTc_tc]

/-- A point's body over the proof data. -/
theorem read_point (t : Fin cfg1.N) (A1 h1 A2 h2) :
    iprop((dat1 c B O).Φ t.castSucc ∗ (dat1 c B O).owesAt () t.castSucc
      ∗ (∃ d, owns (c : Thread nD τ) A1 fullShare ((dat1 c B O).before 0 t d))
      ∗ (∃ d, owns (c : Thread nD τ) A2 fullShare ((dat1 c B O).before 1 t d)))
    ⊢ wp frame (wpE (defs₀ (F := F)) Variants.none (c : Thread nD τ) none) Set.univ (cc1_read (grid1.coords t) A1 h1 A2 h2) (fun _ =>
      iprop((dat1 c B O).Φ t.succ ∗ (dat1 c B O).owesAt () t.succ
        ∗ owns (c : Thread nD τ) A1 fullShare ((dat1 c B O).after 0 t)
        ∗ owns (c : Thread nD τ) A2 fullShare ((dat1 c B O).after 1 t))) := by
  show iprop((Pipeline.scopedRest spec1 c ∗ ∃ r, prngReg c r) ∗ _ ∗ _ ∗ _) ⊢ wp _ _ _ _ (fun _ => iprop((Pipeline.scopedRest spec1 c ∗ ∃ r, prngReg c r) ∗ _ ∗ _ ∗ _))
  unfold Dat.owesAt Pipeline.owesWithin
  iintro ⟨HP, ⟨%W, -, HO⟩, ⟨%d0, H0⟩, %d1, H1⟩
  ihave H0 := (owns_at c A1 (before1_0 c B O t d0)) $$ H0
  iapply (read_tile c (grid1.coords t) A1 h1 A2 h2 (packed B t.val) _ _)
  isplitl [H0]; · iexact H0
  isplitl [H1]; · iexact H1
  iintro ⟨H0, H1⟩
  isplitl [HP]; · iexact HP
  isplitl [HO]
  · iexists W; isplitr; · ipureintro; exact fun _ _ => Or.inl trivial
    iexact HO
  isplitl [H0]; · iexact H0
  iexact H1

theorem read_obligation : BodyObligation (dat1 c B O) (defs₀ (F := F)) Variants.none () Set.univ := fun t => by
  rw [bigSep_W1, bigSep_W1, defs₀_read]
  exact read_point c B O t _ _ _ _

end

end Cert.KernelIdeal.Run
end
-- ==== Proof.Ideal.Run.lean ====
/-
The whole program: the expert kernel's launch, then the read kernel's, then the host lines. Every execution from a
memory whose tables follow a plan ends with each array at what `V4` names, and every semaphore counter at zero.
-/
module

public import proofs.«01_k».proof.Proof.Ideal.Read
public import proofs.«01_k».proof.Proof.Gen.KernelIdeal.Regions
public import Idealize.ShloMosaic.Lib.Pipeline.RegionArraysDT
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg)

variable {F : FTy → Type} [FloatOps F]

/-- The proof's resource algebra: the pipeline's beside the transfers' counters. -/
local notation "𝕄" => MT nD τ sig Unit (Elt F) ℕ (Pipeline.UD sig nD τ) ℕ

/-- The tables as a memory has them. -/
def tables (m : (ℓ : Loc nD τ sig) → Buf (Elt F) ℓ) : pre0.Contents (Elt F) := fun k => m ((0 : Dev nD), Proc.devRef .tc (pre0.ref k))

/-- A wait's index is at every TensorCore's cell, at level zero. -/
def levs (g : GSem nD τ sig) : Finset Unit := if g.1.2 = .tc then {()} else ∅
def lv0 (_ : GSem nD τ sig) (_ : Unit) : ℕ := 0

section

variable (m : (ℓ : Loc nD τ sig) → Buf (Elt F) ℓ) {P : Tabs} (hP : Good (tables m) P)

/-- The expert kernel's proof data at a memory. -/
def experts (c : Dev nD) : Dat τ (Elt F) Unit ℕ (Pipeline.UD sig nD τ) ℕ (cfg0 (adm hP)) c :=
  dat0 c (m ((c : Thread nD τ).loc main_arg5)) (m ((c : Thread nD τ).loc main_v0)) (m ((c : Thread nD τ).loc main_arg6))
    (m ((c : Thread nD τ).loc main_arg7)) (m ((c : Thread nD τ).loc main_arg8)) hP
/-- What the expert kernel leaves. -/
def packedRows (c : Dev nD) : S40960x2x1024.Idx → Elt F .bf16 := (experts m hP c).arrAt 1 (cfg0 (adm hP)).N
/-- The read kernel's proof data. -/
def reads (c : Dev nD) : Dat τ (Elt F) Unit ℕ (Pipeline.UD sig nD τ) ℕ cfg1 c := dat1 c (packedRows m hP c) (m ((c : Thread nD τ).loc main_v1))
/-- What the read kernel leaves. -/
def rows (c : Dev nD) : S40960x2048.Idx → Elt F .f32 := (reads m hP c).arrAt 1 cfg1.N

theorem packedRows_eq (c : Dev nD) : (experts m hP c).arrAt 1 (cfg0 (adm hP)).N = packedRows m hP c := rfl
theorem rows_eq (c : Dev nD) : (reads m hP c).arrAt 1 cfg1.N = rows m hP c := rfl
theorem reads_A0 (c : Dev nD) : (reads m hP c).A 0 = packedRows m hP c := by unfold reads; exact dat1_A0 c _ _
attribute [irreducible] packedRows rows

/-- What the two kernels leave in their result arrays. -/
def outs : Outs (F := F) := fun _ r c =>
  if h : r = main_v0 then h ▸ packedRows m hP c else if h : r = main_v1 then h ▸ rows m hP c else m ((c : Thread nD τ).loc r)
theorem outs_v0 (n : ℕ) (c : Dev nD) : outs m hP n main_v0 c = packedRows m hP c := by
  unfold outs; rw [dif_pos rfl]
theorem outs_v1 (n : ℕ) (c : Dev nD) : outs m hP n main_v1 c = rows m hP c := by
  unfold outs; rw [dif_neg (by decide), dif_pos rfl]

theorem V1_v0 (c : Dev nD) : V1 m (outs m hP) c main_v0 = packedRows m hP c :=
  (Function.update_self (Proc.devRef .tc main_v0 : DevRef τ sig) _ (V0 m c)).trans (outs_v0 m hP 1 c)
theorem V2_v1 (c : Dev nD) : V2 m (outs m hP) c main_v1 = rows m hP c :=
  (Function.update_self (Proc.devRef .tc main_v1 : DevRef τ sig) _ (V1 m (outs m hP) c)).trans (outs_v1 m hP 2 c)

/-- The contents the two pipelines run at. -/
def adms : (p : Fin 2) → (pcfgs (F := F) p).Adm
  | 0 => adm hP
  | 1 => Cfg.toPCfg_adm _
/-- The two pipelines' proof data. -/
def dats : (p : Fin 2) → (c : Dev nD) → Dat τ (Elt F) Unit ℕ (Pipeline.UD sig nD τ) ℕ (Pipeline.pin (pcfgs (F := F)) (adms m hP) p) c
  | 0 => experts m hP
  | 1 => reads m hP

theorem mem_levs (c : Dev nD) (sm : SemLoc sig) : () ∈ levs ((c : Thread nD τ), sm) := by
  show () ∈ (if _ = _ then _ else _); rw [if_pos rfl]; exact Finset.mem_singleton.mpr rfl

theorem cut (p : Fin 2) : Pipeline.LevelCut (pcfgs (F := F)) (adms m hP) () levs lv0 p (fun _ => 0) (fun _ => 0) :=
  ⟨fun c _ _ => mem_levs c _, fun _ _ _ => le_refl _, fun c g i h => absurd h (lt_irrefl 0)⟩

/-- A set of unscoped buffers has none of another. -/
theorem weights_apart : Pipeline.hbmRefs (τ := τ) H0 ⊆ (Pipeline.ucRefs τ sig \ Pipeline.arrRefs spec0) \ Pipeline.tblRefs pre0 := fun b hb => by
  refine Finset.mem_sdiff.mpr ⟨Finset.mem_sdiff.mpr ⟨Pipeline.hbmRefs_sub_ucRefs H0 (by decide) hb, fun h => ?_⟩, fun h => ?_⟩
  · obtain ⟨r, hr, rfl⟩ := Finset.mem_map.mp hb
    obtain ⟨r', hr', e⟩ := Finset.mem_map.mp h
    obtain rfl := Proc.devRef_injective _ e
    exact (by decide : ∀ r ∈ H0, r ∉ Finset.univ.image (Pipeline.arrRef spec0)) _ hr hr'
  · obtain ⟨r, hr, rfl⟩ := Finset.mem_map.mp hb
    obtain ⟨r', hr', e⟩ := Finset.mem_map.mp h
    obtain rfl := Proc.devRef_injective _ e
    exact (by decide : ∀ r ∈ H0, r ∉ Finset.univ.image pre0.ref) _ hr hr'

theorem table_at (c : Dev nD) (k : Fin 5) (V : Valuation τ sig (Elt F)) (h : V (Proc.devRef .tc (pre0.ref k)) = m (c, Proc.devRef .tc (pre0.ref k))) :
    tables m k = V (Proc.devRef .tc (pre0.ref k)) := by
  rw [h]; obtain rfl : c = 0 := Subsingleton.elim _ _; rfl

theorem experts_start (c : Dev nD) : iprop(iprop(Pipeline.scopedRest spec0 c ∗ (∃ r, prngReg c r) ∗ Pipeline.ownSems0 osem0 c
      ∗ (bigSep H0 fun b => ((c.tc : Thread nD τ).loc b) ↦{fullShare} V0 m c (Proc.devRef .tc b)) ∗ Transfers.MayWaits (c : Thread nD τ) () 0)
      ∗ Pipeline.prefHeld pre0 c (fun _ => fullShare) (tables m)) ⊢ (experts m hP c).Φ 0 := by
  rw [H0_eq c (fun b => V0 m c (Proc.devRef .tc b))]
  refine .trans ?_ (phi_start c (m ((c : Thread nD τ).loc main_arg6)) (m ((c : Thread nD τ).loc main_arg7)) (m ((c : Thread nD τ).loc main_arg8)) (tables m) P)
  iintro ⟨⟨Hs, Hr, Hq, HH, -⟩, HT⟩
  isplitl [Hs Hr Hq HH]
  · isplitl [Hs]; · iexact Hs
    isplitl [Hr]; · iexact Hr
    isplitl [Hq]; · iexact Hq
    iexact HH
  iexact HT

theorem experts_end (c : Dev nD) : (experts m hP c).Φ (Fin.last (cfg0 (adm hP)).N)
      ⊢ iprop(iprop(Pipeline.scopedRest spec0 c ∗ (∃ r, prngReg c r) ∗ Pipeline.ownSems0 osem0 c
      ∗ (bigSep H0 fun b => ((c.tc : Thread nD τ).loc b) ↦{fullShare} V0 m c (Proc.devRef .tc b)))
      ∗ Pipeline.prefHeld pre0 c (fun _ => fullShare) (tables m)) := by
  rw [H0_eq c (fun b => V0 m c (Proc.devRef .tc b))]
  show phi c _ _ _ (tables m) P grid0.N ⊢ _
  rw [N_0]
  exact phi_end c _ _ _ (tables m) P hP.pos hP.le hP.last

theorem experts_share (c : Dev nD) (w : Fin 2) : (experts m hP c).share w = fullShare := by
  match w with
  | ⟨0, _⟩ => rfl
  | ⟨1, _⟩ => rfl
theorem experts_from (c : Dev nD) (w : Fin 2) : (experts m hP c).arrAt w 0 = V0 m c (Proc.devRef .tc (Pipeline.arrRef spec0 w)) := by
  match w with
  | ⟨0, _⟩ => rfl
  | ⟨1, _⟩ => rfl
theorem experts_to (c : Dev nD) (w : Fin 2) : (experts m hP c).arrAt w (cfg0 (adm hP)).N = V1 m (outs m hP) c (Proc.devRef .tc (Pipeline.arrRef spec0 w)) := by
  match w with
  | ⟨0, _⟩ => exact ((experts m hP c).arrAt_in 0 rfl _).trans (V1_of m (outs m hP) c main_arg5 (by decide)).symm
  | ⟨1, _⟩ => exact (packedRows_eq m hP c).trans (V1_v0 m hP c).symm
theorem tables_from (c : Dev nD) (k : Fin 5) : tables m k = V0 m c (Proc.devRef .tc (pre0.ref k)) := table_at m c k (V0 m c) rfl
theorem tables_to (c : Dev nD) (k : Fin 5) : tables m k = V1 m (outs m hP) c (Proc.devRef .tc (pre0.ref k)) :=
  table_at m c k _ (V1_of m (outs m hP) c (pre0.ref k) ((by decide : ∀ k, pre0.ref k ∉ [main_v0]) k))
theorem mayWait (c : Dev nD) : (levAts levs lv0 : sProp 𝕄) ⊢ Transfers.MayWaits (c : Thread nD τ) () 0 :=
  .trans (by iintro -; iempintro) (Transfers.MayWaits.zero (c : Thread nD τ) ())

/-- The expert kernel's launch. -/
def region0 : RegionSeg (pcfgs (F := F)) (adms m hP) (dats m hP) () defs₀ Variants.none levs lv0 0 :=
  RegionSeg.ofHeldDHT (pcfgs (F := F)) (adms m hP) (dats m hP) () defs₀ Variants.none levs lv0 0 (fun _ => 0) () osem0 ownSemFacts0
    H0 ((Pipeline.ucRefs τ sig \ Pipeline.arrRefs spec0) \ Pipeline.tblRefs pre0) weights_apart launch0
    (fun c => (body_obligation c _ _ _ _ _ hP).loose) (fun c t => rfl) (fun c => rfl)
    (experts_share m hP) mayWait
    (V0 m) (V1 m (outs m hP)) (experts_start m hP) (experts_end m hP) (fun _ => 0) (cut m hP 0) (fun _ => iprop(emp))
    (experts_from m hP) (tables_from m) (experts_to m hP) (tables_to m hP)

/-- What the core keeps between the launches. -/
def rest (c : Dev nD) : sProp 𝕄 := iprop((∃ r, prngReg c r) ∗ ∃ W, owes (c : Thread nD τ) (0 : CellTallies nD τ sig Unit) W)

theorem region0_pre (c : Dev nD) : iprop(StableHlo.held (c : Thread nD τ) (Pipeline.ucRefs τ sig) (V0 m c) ∗ rest c) ⊢ (region0 m hP).pre c := by
  show _ ⊢ iprop(StableHlo.held (c.tc : Thread nD τ) (Pipeline.arrRefs spec0) (V0 m c) ∗ StableHlo.held (c.tc : Thread nD τ) (Pipeline.tblRefs pre0) (V0 m c) ∗ (∃ r, prngReg c r)
    ∗ (StableHlo.held (c.tc : Thread nD τ) ((Pipeline.ucRefs τ sig \ Pipeline.arrRefs spec0) \ Pipeline.tblRefs pre0) (V0 m c) ∗ iprop(emp)) ∗ ∃ Wd, owes (c : Thread nD τ) 0 Wd)
  rw [StableHlo.held_sub_split (c.tc : Thread nD τ) (Pipeline.arrRefs_sub_ucRefs spec0 (by decide)) (V0 m c),
    StableHlo.held_sub_split (c.tc : Thread nD τ) (Pipeline.tblRefs_sub_ucRefs_sdiff spec0 pre0 (by decide) (by decide)) (V0 m c)]
  unfold rest
  iintro ⟨⟨Ha, Ht, Hu⟩, Hr, HO⟩
  isplitl [Ha]; · iexact Ha
  isplitl [Ht]; · iexact Ht
  isplitl [Hr]; · iexact Hr
  isplitl [Hu]
  · isplitl [Hu]; · iexact Hu
    iempintro
  iexact HO

theorem region0_post (c : Dev nD) : (region0 m hP).post c ⊢ iprop(StableHlo.held (c : Thread nD τ) (Pipeline.ucRefs τ sig) (V1 m (outs m hP) c) ∗ rest c) := by
  show iprop(StableHlo.held (c.tc : Thread nD τ) (Pipeline.arrRefs spec0) (V1 m (outs m hP) c) ∗ StableHlo.held (c.tc : Thread nD τ) (Pipeline.tblRefs pre0) (V1 m (outs m hP) c) ∗ (∃ r, prngReg c r)
    ∗ (StableHlo.held (c.tc : Thread nD τ) ((Pipeline.ucRefs τ sig \ Pipeline.arrRefs spec0) \ Pipeline.tblRefs pre0) (V0 m c) ∗ iprop(emp)) ∗ ∃ Wd, owes (c : Thread nD τ) 0 Wd) ⊢ _
  rw [StableHlo.held_sub_split (c.tc : Thread nD τ) (Pipeline.arrRefs_sub_ucRefs spec0 (by decide)) (V1 m (outs m hP) c),
    StableHlo.held_sub_split (c.tc : Thread nD τ) (Pipeline.tblRefs_sub_ucRefs_sdiff spec0 pre0 (by decide) (by decide)) (V1 m (outs m hP) c),
    StableHlo.held_congr (c.tc : Thread nD τ) (S := (Pipeline.ucRefs τ sig \ Pipeline.arrRefs spec0) \ Pipeline.tblRefs pre0) (V := V1 m (outs m hP) c) (V' := V0 m c) (fun b hb =>
      Function.update_of_ne (fun e => (Finset.mem_sdiff.mp (Finset.mem_sdiff.mp hb).1).2
        (by rw [e]; exact Finset.mem_map.mpr ⟨main_v0, Finset.mem_image.mpr ⟨(1 : Fin 2), Finset.mem_univ _, rfl⟩, rfl⟩)) _ _)]
  unfold rest
  iintro ⟨Ha, Ht, Hr, ⟨Hu, -⟩, HO⟩
  isplitl [Ha Ht Hu]
  · isplitl [Ha]; · iexact Ha
    isplitl [Ht]; · iexact Ht
    iexact Hu
  isplitl [Hr]; · iexact Hr
  iexact HO

theorem reads_share (c : Dev nD) (w : Fin 2) : (reads m hP c).share w = fullShare := by
  match w with
  | ⟨0, _⟩ => rfl
  | ⟨1, _⟩ => rfl
theorem reads_from (c : Dev nD) (w : Fin 2) : (reads m hP c).arrAt w 0 = V1 m (outs m hP) c (Proc.devRef .tc (Pipeline.arrRef spec1 w)) := by
  match w with
  | ⟨0, _⟩ => exact ((reads m hP c).arrAt_in 0 rfl 0).trans ((reads_A0 m hP c).trans (V1_v0 m hP c).symm)
  | ⟨1, _⟩ => exact (V1_of m (outs m hP) c main_v1 (by decide)).symm

/-- The read kernel's launch. -/
def region1 : RegionSeg (pcfgs (F := F)) (adms m hP) (dats m hP) () defs₀ Variants.none levs lv0 1 :=
  RegionSeg.ofHeldIn (pcfgs (F := F)) (adms m hP) (dats m hP) () defs₀ Variants.none levs lv0 1 (fun _ => 0) (Pipeline.ucRefs τ sig)
    (fun c => iprop(∃ r, prngReg c r)) (fun c => iprop(∃ r, prngReg c r)) launch1 rfl
    (fun c => (read_obligation c _ _).loose) (fun c t => rfl) (fun c => rfl)
    (reads_share m hP) (fun c => .rfl) (fun c => .rfl) (fun _ => 0) (cut m hP 1) (fun _ => iprop(emp))
    (V1 m (outs m hP)) (reads_from m hP)

theorem region1_pre (c : Dev nD) : iprop(StableHlo.held (c : Thread nD τ) (Pipeline.ucRefs τ sig) (V1 m (outs m hP) c) ∗ rest c) ⊢ (region1 m hP).pre c := by
  show _ ⊢ iprop(StableHlo.held (c.tc : Thread nD τ) (Pipeline.arrRefs spec1) (V1 m (outs m hP) c) ∗ (∃ r, prngReg c r)
    ∗ (StableHlo.held (c.tc : Thread nD τ) (Pipeline.ucRefs τ sig \ Pipeline.arrRefs spec1) (V1 m (outs m hP) c) ∗ iprop(emp)) ∗ ∃ Wd, owes (c : Thread nD τ) 0 Wd)
  rw [StableHlo.held_sub_split (c.tc : Thread nD τ) (Pipeline.arrRefs_sub_ucRefs spec1 (by decide)) (V1 m (outs m hP) c)]
  unfold rest
  iintro ⟨⟨Ha, Hu⟩, Hr, HO⟩
  isplitl [Ha]; · iexact Ha
  isplitl [Hr]; · iexact Hr
  isplitl [Hu]
  · isplitl [Hu]; · iexact Hu
    iempintro
  iexact HO

theorem after_read (c : Dev nD) (b : DevRef τ sig) (hb : b ∈ Pipeline.ucRefs τ sig) :
    Pipeline.afterRegion (reads m hP c) (V1 m (outs m hP) c) b = V2 m (outs m hP) c b := by
  obtain ⟨r, -, rfl⟩ := Finset.mem_map.mp (Finset.mem_filter.mp hb).1
  by_cases h1 : r = main_v1
  · subst h1
    refine (Pipeline.afterRegion_arr (reads m hP c) (V1 m (outs m hP) c) winFacts1.arr_inj 1).trans ?_
    exact (rows_eq m hP c).trans (V2_v1 m hP c).symm
  · refine (Pipeline.afterRegion_keeps (reads m hP c) (V1 m (outs m hP) c) winFacts1.arr_inj (reads_from m hP c) r ?_).trans
      (V2_of m (outs m hP) c r (fun h => h1 (List.mem_singleton.mp h))).symm
    intro w e
    match w with
    | ⟨0, _⟩ => rfl
    | ⟨1, _⟩ => exact absurd e.symm h1

theorem region1_post (c : Dev nD) : (region1 m hP).post c ⊢ iprop(StableHlo.held (c : Thread nD τ) (Pipeline.ucRefs τ sig) (V2 m (outs m hP) c) ∗ rest c) := by
  show iprop(StableHlo.held (c.tc : Thread nD τ) (Pipeline.arrRefs spec1) (Pipeline.afterRegion (reads m hP c) (V1 m (outs m hP) c)) ∗ (∃ r, prngReg c r)
    ∗ (StableHlo.held (c.tc : Thread nD τ) (Pipeline.ucRefs τ sig \ Pipeline.arrRefs spec1) (V1 m (outs m hP) c) ∗ iprop(emp)) ∗ ∃ Wd, owes (c : Thread nD τ) 0 Wd) ⊢ _
  rw [← StableHlo.held_congr (c.tc : Thread nD τ) (after_read m hP c),
    StableHlo.held_sub_split (c.tc : Thread nD τ) (Pipeline.arrRefs_sub_ucRefs spec1 (by decide)) (Pipeline.afterRegion (reads m hP c) (V1 m (outs m hP) c)),
    StableHlo.held_congr (c.tc : Thread nD τ) (S := Pipeline.ucRefs τ sig \ Pipeline.arrRefs spec1) (V' := V1 m (outs m hP) c)
      (Pipeline.afterRegion_off (reads m hP c) (V1 m (outs m hP) c) (Pipeline.ucRefs τ sig))]
  unfold rest
  iintro ⟨Ha, Hr, ⟨Hu, -⟩, HO⟩
  isplitl [Ha Hu]
  · isplitl [Ha]; · iexact Ha
    iexact Hu
  isplitl [Hr]; · iexact Hr
  iexact HO

/-- The program's items, in order. -/
abbrev items (c : Dev nD) : List (Seg (pcfgs (F := F)) (adms m hP) (dats m hP) () defs₀ Variants.none levs lv0) :=
  segs m (outs m hP) Variants.none levs lv0 (fun _ => rest) () (adms m hP) (dats m hP) (region0 m hP) (region1 m hP) c

set_option backward.isDefEq.respectTransparency.types false in
/-- Every execution ends with each array at `V4`'s and every counter at zero. -/
theorem run (ρ : Dev nD → PrngReg) :
    θ_run defs (onTc (τ := τ) (main (F := F))) ⟨m, fun _ => 0, ρ⟩ (fun r => (∀ (c : Dev nD) (b : Ref sig .tc), (Proc.devRef .tc b : DevRef τ sig).isScoped = false →
      r.2.mem ((c.tc : Thread nD τ).loc b) = V4 m (outs m hP) c b) ∧ r.2.sem = fun _ => 0) := by
  refine Pipeline.θ_run_regions_kit_dev_sems (pcfgs (F := F)) (adms m hP) (dats m hP) () (cellOf_inj (adms m hP)) embL defs₀ Variants.none levs lv0 m ρ main
    (items m hP)
    (fun c Q => by
      rewrite [main_chain c, Seg.run_eq_chain,
        show (items m hP c).map Seg.prog = [
          Prog.lift (.customCall (Pipeline.entry 0) ()),
          Prog.lift (.customCall (Pipeline.entry 1) ()),
          StableHlo.seq hostOps2,
          StableHlo.seq hostOps2_1 ] from rfl]
      dsimp (config := { failIfUnchanged := false }) only
      exact .rfl)
    (fun c => by simp only [items, segs, Seg.pipes_host, Seg.pipes_region, Seg.pipes_nil]; decide)
    (fun _ => 0) (fun g hg => if_neg hg) (fun _ => iprop(emp))
    (Rounds.initOf (Pipeline.cells (Pipeline.pin (pcfgs (F := F)) (adms m hP)) (cellOf_inj (adms m hP))) (Pipeline.launchToks (Pipeline.pin (pcfgs (F := F)) (adms m hP)) (cellOf_inj (adms m hP))), 1)
    ?_
    (T₀ := fun c => iprop(StableHlo.held (c : Thread nD τ) (Pipeline.ucRefs τ sig) (V0 m c) ∗ rest c))
    (Tₙ := fun c => StableHlo.held (c : Thread nD τ) (Pipeline.ucRefs τ sig) (V4 m (outs m hP) c))
    (hch := fun c => ⟨region0_pre m hP c, (region0_post m hP c).trans (region1_pre m hP c), region1_post m hP c, .rfl, sep_mono .rfl sep_elim_right⟩)
    (hinit := ?_)
    (QY := fun c s => ∀ b : Ref sig .tc, (Proc.devRef .tc b : DevRef τ sig).isScoped = false → s.mem ((c.tc : Thread nD τ).loc b) = V4 m (outs m hP) c b)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · have hone (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp))
        ⊢ (iprop(StableHlo.held (c : Thread nD τ) (Pipeline.ucRefs τ sig) (V0 m c) ∗ rest c) : sProp 𝕄) := by
      rw [← Pipeline.unscopedBufs_held (Ix := Unit) (Name := ℕ) (U := Pipeline.UD sig nD τ) (Lvl := ℕ) c (V0 m c)]
      unfold rest
      iintro ⟨Hb, -, HO, -, Hp, -⟩
      isplitl [Hb]; · iexact Hb
      isplitl [Hp]; · iexists (ρ c); iexact Hp
      iexists ∅; iexact HO
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (Pipeline.ucRefs τ sig) (V0 m c) ∗ rest c) : sProp 𝕄) :=
      bigSep_mono fun c _ => hone c
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (V4 m (outs m hP) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [hb]; decide⟩)
    · iexact HSI

end

end Cert.KernelIdeal.Run
end
-- ==== Proof.Ideal.Frame.lean ====
/-
The frame of `KernelIdeal`: from the precondition, the tables are a plan; from a plan, the run of both launches and the
host lines; it leaves the arguments as they were and every semaphore at zero.
-/
module

public import proofs.«01_k».proof.Defs
public import proofs.«01_k».proof.Proof.Ideal.Run

@[expose] public section

set_option maxRecDepth 16384

noncomputable section

namespace Cert.KernelIdeal.Run

open Cert.KernelIdeal Cert.KernelIdeal.Gen
open Idealize.ShloMosaic Idealize.ShloMosaic.TcCoe
open Idealize.SL.Sem
open Cert.Tables (Plan Tabs numbers plan_exists)

/-- The five tables of a memory in numbers. -/
def plan (m : (ℓ : Loc nD τ sig) → Buf (Elt Ideal) ℓ) : Tabs :=
  numbers (tables m 0) (tables m 1) (tables m 2) (tables m 3) (tables m 4)

/-- Under the precondition the tables in memory are a plan. -/
theorem good_of_pre (m : (ℓ : Loc nD τ sig) → Buf (Elt Ideal) ℓ) (h : Cert.Pre_KernelIdeal m) : Good (tables m) (plan m) :=
  plan_exists (h 0).1 (h 0).2.1 (h 0).2.2.1 (h 0).2.2.2

/-- No argument's buffer is scoped. -/
theorem frame (m : (ℓ : Loc nD τ sig) → Buf (Elt Ideal) ℓ) (ρ : Dev nD → PrngReg) (h : Cert.Pre_KernelIdeal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) := by
  refine (run m (good_of_pre m h) ρ).mono fun r hr => ⟨fun c => ?_, hr.2⟩
  exact ⟨(hr.1 c main_arg0 rfl).trans (V4_main_arg0 m _ c), (hr.1 c main_arg1 rfl).trans (V4_main_arg1 m _ c),
    (hr.1 c main_arg2 rfl).trans (V4_main_arg2 m _ c), (hr.1 c main_arg3 rfl).trans (V4_main_arg3 m _ c),
    (hr.1 c main_arg4 rfl).trans (V4_main_arg4 m _ c), (hr.1 c main_arg5 rfl).trans (V4_main_arg5 m _ c),
    (hr.1 c main_arg6 rfl).trans (V4_main_arg6 m _ c), (hr.1 c main_arg7 rfl).trans (V4_main_arg7 m _ c),
    (hr.1 c main_arg8 rfl).trans (V4_main_arg8 m _ c)⟩

end Cert.KernelIdeal.Run

end
-- ==== Proof.Ideal.Entry.lean ====
/-
One entry of an expert's result: the numbers that the two programs are compared through.
-/
module

public import Idealize.ShloMosaic.Lib.Pointwise
public import Idealize.ShloMosaic.PureOps.Ideal.Laws

@[expose] public section

set_option maxRecDepth 16384

noncomputable section

namespace Cert.Entry

open Idealize.ShloMosaic

/-- One half of a word as a number: the low 16 bits or the high 16, read as a bf16. -/
def low (w : BitVec 32) : EReal := Ideal.ofBits .bf16 (BitVec.extractLsb' 0 16 w)
def high (w : BitVec 32) : EReal := Ideal.ofBits .bf16 (BitVec.extractLsb' 16 16 w)

/-- A token from its packed words: the first 1024 columns are the low halves, the rest the high ones. -/
def token (x : Fin 1024 → BitVec 32) (d : Fin 2048) : EReal :=
  if h : d.val < 1024 then low (x ⟨d.val, h⟩) else high (x ⟨d.val - 1024, by omega⟩)

/-- A token's product with one column of a first-layer matrix. -/
def proj (x : Fin 1024 → BitVec 32) (w : Fin 2048 → Fin 512 → EReal) (f : Fin 512) : EReal := ∑ d, w d f * token x d

/-- One entry of `(silu (x g) * (x u)) d`. -/
def mlp (x : Fin 1024 → BitVec 32) (g u : Fin 2048 → Fin 512 → EReal) (d : Fin 512 → Fin 2048 → EReal) (k : Fin 2048) : EReal :=
  ∑ f, (proj x g f * Ideal.div 1 (1 + Ideal.exp (-proj x g f)) * proj x u f) * d f k

/-- Entry `k` of expert `e`'s result at row `r` of the packed tokens `A`. -/
def entry (A : (⟨2, ![40960, 1024]⟩ : Shape).Idx → BitVec 32) (g u : (⟨3, ![32, 2048, 512]⟩ : Shape).Idx → EReal)
    (d : (⟨3, ![32, 512, 2048]⟩ : Shape).Idx → EReal) (e : Fin 32) (r : Fin 40960) (k : Fin 2048) : EReal :=
  mlp (fun a => A (ix2 r a)) (fun a f => g (ix3 e a f)) (fun a f => u (ix3 e a f)) (fun f a => d (ix3 e f a)) k

/-- The product taken half by half. -/
theorem proj_halves (x : Fin 1024 → BitVec 32) (w : Fin 2048 → Fin 512 → EReal) (f : Fin 512) :
    (∑ d : Fin 1024, low (x d) * w ⟨d.val, by omega⟩ f) + (∑ d : Fin 1024, high (x d) * w ⟨1024 + d.val, by omega⟩ f) = proj x w f := by
  unfold proj
  rw [Fin.sum_univ_add (a := 1024) (b := 1024) (fun d : Fin (1024 + 1024) => w d f * token x d)]
  refine congrArg₂ (· + ·) (Finset.sum_congr rfl fun d _ => ?_) (Finset.sum_congr rfl fun d _ => ?_)
  · rw [mul_comm]
    refine congrArg₂ (· * ·) (congrArg (w · f) (Fin.ext rfl)) ?_
    unfold token
    rw [dif_pos (show (Fin.castAdd 1024 d).val < 1024 from d.isLt)]
    exact congrArg (fun a => low (x a)) (Fin.ext rfl)
  · rw [mul_comm]
    refine congrArg₂ (· * ·) (congrArg (w · f) (Fin.ext rfl)) ?_
    unfold token
    rw [dif_neg (show ¬ (Fin.natAdd 1024 d).val < 1024 by show ¬ 1024 + d.val < 1024; omega)]
    exact congrArg (fun a => high (x a)) (Fin.ext (by show d.val = 1024 + d.val - 1024; omega))

theorem exp_nonneg (x : EReal) : 0 ≤ Ideal.exp x := by
  induction x using EReal.rec with
  | bot => exact le_refl _
  | top => exact le_top
  | coe r => exact EReal.coe_nonneg.mpr (Real.exp_pos r).le

/-- The two ways of writing `silu`: a quotient, and a product with a reciprocal. -/
theorem silu_eq (g : EReal) : Ideal.div g (1 + Ideal.exp (0 - g)) = g * Ideal.div 1 (1 + Ideal.exp (-g)) := by
  have h : (1 + Ideal.exp (-g)) ≠ 0 := by
    have h0 := add_le_add_right (exp_nonneg (-g)) 1
    rw [add_zero] at h0
    exact ne_of_gt (lt_of_lt_of_le zero_lt_one h0)
  rw [zero_sub]
  unfold Ideal.div
  rw [if_neg h, if_neg h, one_mul]

end Cert.Entry

end
-- ==== Proof.Ideal.Block.lean ====
/-
What one tile of the expert kernel computes, entry by entry.
-/
module

public import proofs.«01_k».proof.Proof.Ideal.Read
public import proofs.«01_k».proof.Proof.Ideal.Region0
public import proofs.«01_k».proof.Proof.Ideal.Entry

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (Tabs)
open Cert.Entry

/-- The column of the result that half `p`, place `k`, of a packed row is. -/
def col (p : Fin 2) (k : Fin 1024) : Fin 2048 := ⟨p.val * 1024 + k.val, by omega⟩

/-- A first-layer matrix from its two halves of rows. -/
def stack (a b : Vec Ideal S1024x512 .bf16) (d : Fin 2048) (f : Fin 512) : EReal :=
  if h : d.val < 1024 then a (ix2 ⟨d.val, h⟩ f) else b (ix2 ⟨d.val - 1024, by omega⟩ f)

theorem stack_top (a b : Vec Ideal S1024x512 .bf16) (d : Fin 1024) (f : Fin 512) : a (ix2 d f) = stack a b ⟨d.val, by omega⟩ f := by
  unfold stack; rw [dif_pos d.isLt]
theorem stack_bot (a b : Vec Ideal S1024x512 .bf16) (d : Fin 1024) (f : Fin 512) : b (ix2 d f) = stack a b ⟨1024 + d.val, by omega⟩ f := by
  unfold stack
  rw [dif_neg (by show ¬ 1024 + d.val < 1024; omega)]
  exact congrArg (fun e => b (ix2 e f)) (Fin.ext (by show d.val = 1024 + d.val - 1024; omega))

/-- The product of a row of words with a first-layer matrix, as a tile takes it. -/
theorem proj_stack (x : Fin 1024 → BitVec 32) (a b : Vec Ideal S1024x512 .bf16) (f : Fin 512) :
    ((∑ d : Fin 1024, Ideal.ofBits .bf16 (BitVec.extractLsb' 0 16 (x d)) * a (ix2 d f))
      + ∑ d : Fin 1024, Ideal.ofBits .bf16 (BitVec.extractLsb' 16 16 (x d)) * b (ix2 d f)) = proj x (stack a b) f := by
  rw [← proj_halves]
  exact congrArg₂ (· + ·) (Finset.sum_congr rfl fun d _ => congrArg (_ * ·) (stack_top a b d f))
    (Finset.sum_congr rfl fun d _ => congrArg (_ * ·) (stack_bot a b d f))

/-- A sum over the middle axis, as a tile takes it, is an entry of `mlp`. -/
theorem mlp_stack (x : Fin 1024 → BitVec 32) (G0 G1 U0 U1 : Vec Ideal S1024x512 .bf16) (D : Fin 512 → Fin 2048 → EReal) (k : Fin 2048) :
    (∑ f : Fin 512,
      Ideal.div ((∑ d : Fin 1024, Ideal.ofBits .bf16 (BitVec.extractLsb' 0 16 (x d)) * G0 (ix2 d f))
          + ∑ d : Fin 1024, Ideal.ofBits .bf16 (BitVec.extractLsb' 16 16 (x d)) * G1 (ix2 d f))
        (1 + Ideal.exp (0 - ((∑ d : Fin 1024, Ideal.ofBits .bf16 (BitVec.extractLsb' 0 16 (x d)) * G0 (ix2 d f))
          + ∑ d : Fin 1024, Ideal.ofBits .bf16 (BitVec.extractLsb' 16 16 (x d)) * G1 (ix2 d f))))
      * ((∑ d : Fin 1024, Ideal.ofBits .bf16 (BitVec.extractLsb' 0 16 (x d)) * U0 (ix2 d f))
          + ∑ d : Fin 1024, Ideal.ofBits .bf16 (BitVec.extractLsb' 16 16 (x d)) * U1 (ix2 d f))
      * D f k) = mlp x (stack G0 G1) (stack U0 U1) D k := by
  unfold mlp
  refine Finset.sum_congr rfl fun f _ => ?_
  rw [proj_stack, proj_stack, silu_eq]

theorem half_mod {p : Fin 2} (h : p.val % 2 = 0) (k : Fin 1024) : (⟨k.val, by omega⟩ : Fin 2048) = col p k :=
  Fin.ext (by show k.val = p.val * 1024 + k.val; omega)
theorem half_mod' {p : Fin 2} (h : ¬ p.val % 2 = 0) (k : Fin 1024) : (⟨1024 + k.val, by omega⟩ : Fin 2048) = col p k :=
  Fin.ext (by show 1024 + k.val = p.val * 1024 + k.val; omega)

/-- A whole tile's block. -/
theorem whole_at (X : Vec Ideal S512x1024 .i32) (G0 G1 U0 U1 : Vec Ideal S1024x512 .bf16) (D : Vec Ideal S512x2048 .bf16)
    (r : Fin 512) (p : Fin 2) (k : Fin 1024) :
    k0_pay3 X G0 G1 U0 U1 D (ix3 r p k) = mlp (fun d => X (ix2 r d)) (stack G0 G1) (stack U0 U1) (fun f k => D (ix2 f k)) (col p k) := by
  pointwise [k0_pay3]
  by_cases hp : p.val % 2 = 0
  · rw [if_pos hp, ← half_mod hp k]
    exact mlp_stack (fun d => X (ix2 r d)) G0 G1 U0 U1 (fun f k => D (ix2 f k)) _
  · rw [if_neg hp, ← half_mod' hp k]
    exact mlp_stack (fun d => X (ix2 r d)) G0 G1 U0 U1 (fun f k => D (ix2 f k)) _

/-- Half a tile's block. -/
theorem part_at (X : Vec Ideal S256x1024 .i32) (G0 G1 U0 U1 : Vec Ideal S1024x512 .bf16) (D : Vec Ideal S512x2048 .bf16)
    (r : Fin 256) (p : Fin 2) (k : Fin 1024) :
    k0_pay7 X G0 G1 U0 U1 D (ix3 r p k) = mlp (fun d => X (ix2 r d)) (stack G0 G1) (stack U0 U1) (fun f k => D (ix2 f k)) (col p k) := by
  pointwise [k0_pay7]
  by_cases hp : p.val % 2 = 0
  · rw [if_pos hp, ← half_mod hp k]
    exact mlp_stack (fun d => X (ix2 r d)) G0 G1 U0 U1 (fun f k => D (ix2 f k)) _
  · rw [if_neg hp, ← half_mod' hp k]
    exact mlp_stack (fun d => X (ix2 r d)) G0 G1 U0 U1 (fun f k => D (ix2 f k)) _

/-- The half that a tile leaves out is zero. -/
theorem zero_at (r : Fin 256) (p : Fin 2) (k : Fin 1024) : k0_pay4 (F := Ideal) k0_pay9 k0_pay10 (ix3 r p k) = (0 : EReal) := by
  pointwise [k0_pay4, k0_pay9, k0_pay10, k0_pay8]
  exact ite_self _

/-- A slab's two halves stacked are the slab. -/
theorem stack_halves (W : S2048x512.Idx → Elt Ideal .bf16) : stack (topW W) (botW W) = fun d f => W (ix2 d f) := by
  funext d f
  unfold stack
  split
  · refine congrArg W (funext fun a => Fin.ext ?_)
    match a with
    | ⟨0, _⟩ => show 0 + 1 * d.val = d.val; omega
    | ⟨1, _⟩ => show 0 + 1 * f.val = f.val; omega
  · refine congrArg W (funext fun a => Fin.ext ?_)
    match a with
    | ⟨0, _⟩ => show 1024 + 1 * (d.val - 1024) = d.val; omega
    | ⟨1, _⟩ => show 0 + 1 * f.val = f.val; omega

/-- What a tile computes, entry by entry. -/
theorem tileOut_at (full : Bool) (X : S512x1024.Idx → Elt Ideal .i32) (W3 W4 : S2048x512.Idx → Elt Ideal .bf16) (W5 : S512x2048.Idx → Elt Ideal .bf16)
    (r : Fin 512) (p : Fin 2) (k : Fin 1024) :
    tileOut full X W3 W4 W5 (ix3 r p k) = if full = true ∨ r.val < 256 then
      mlp (fun d => X (ix2 r d)) (fun d f => W3 (ix2 d f)) (fun d f => W4 (ix2 d f)) (fun f k => W5 (ix2 f k)) (col p k) else (0 : EReal) := by
  unfold tileOut
  cases full with
  | true =>
    rw [if_pos rfl, if_pos (Or.inl rfl)]
    exact (whole_at X _ _ _ _ W5 r p k).trans (by rw [stack_halves, stack_halves])
  | false =>
    rw [if_neg Bool.false_ne_true]
    unfold halves
    by_cases hr : r.val < 256
    · rw [if_pos (Or.inr hr), dif_pos (show ((ix3 r p k : S512x2x1024.Idx) 0).val < 256 from hr)]
      refine (congrArg (k0_pay7 (F := Ideal) (topX X) (topW W3) (botW W3) (topW W4) (botW W4) W5) (?_ : _ = ix3 ⟨r.val, hr⟩ p k)).trans ?_
      · funext a; match a with
        | ⟨0, _⟩ => rfl
        | ⟨1, _⟩ => rfl
        | ⟨2, _⟩ => rfl
      · refine (part_at (topX X) _ _ _ _ W5 ⟨r.val, hr⟩ p k).trans ?_
        rw [stack_halves, stack_halves]
        refine congrArg (fun x => mlp x _ _ _ _) (funext fun d => congrArg X (funext fun a => Fin.ext ?_))
        match a with
        | ⟨0, _⟩ => show 0 + 1 * r.val = r.val; omega
        | ⟨1, _⟩ => show 0 + 1 * d.val = d.val; omega
    · rw [if_neg (fun h => h.elim Bool.false_ne_true hr), dif_neg (show ¬ ((ix3 r p k : S512x2x1024.Idx) 0).val < 256 from hr)]
      refine (congrArg (k0_pay4 (F := Ideal) k0_pay9 k0_pay10) (?_ : _ = ix3 ⟨r.val - 256, by omega⟩ p k)).trans (zero_at _ p k)
      funext a; match a with
        | ⟨0, _⟩ => rfl
        | ⟨1, _⟩ => rfl
        | ⟨2, _⟩ => rfl

/-- A slab rounded to bf16 is the slab. -/
theorem castW_at (w : Vec Ideal S2048x512 .f32) (d : Fin 2048) (f : Fin 512) : castW w (ix2 d f) = w (ix2 d f) := by
  pointwise [castW]
theorem castV_at (w : Vec Ideal S512x2048 .f32) (f : Fin 512) (k : Fin 2048) : castV w (ix2 f k) = w (ix2 f k) := by
  pointwise [castV]

section

variable (c : Dev nD) (A : S40960x1024.Idx → Elt Ideal .i32)
variable (fg : Buf (Elt Ideal) ((winG 0).view.loc (c : Thread nD τ))) (fu : Buf (Elt Ideal) ((winU 0).view.loc (c : Thread nD τ)))
variable (fd : Buf (Elt Ideal) ((winD 0).view.loc (c : Thread nD τ)))

/-- A matrix's index in a stack of one. -/
theorem stack_index {a b : ℕ} (h : (⟨2, ![a, b]⟩ : Shape).numel = (⟨3, ![1, a, b]⟩ : Shape).numel) (x : Fin a) (y : Fin b) :
    Shape.reshapeEquiv h (ix2 x y) = ix3 (0 : Fin 1) x y :=
  Shape.reshapeEquiv_eq_of_rowMajor h (by
    rw [Shape.rowMajor_val_three, Shape.rowMajor_val_two]
    show (0 * a + x.val) * b + y.val = x.val * b + y.val
    rw [Nat.zero_mul, Nat.zero_add])

/-- An expert's slab is its part of the weights. -/
theorem slabW_at (off : Fin 32) (d : Fin 2048) (f : Fin 512) {h inb} :
    (Rect.unit (s := S32x2048x512) ![off.val, 0, 0] S1x2048x512.size inb).emb (Shape.reshapeEquiv (s' := S2048x512) (s := S1x2048x512) h (ix2 d f)) = ix3 off d f := by
  refine (congrArg _ (stack_index h d f)).trans (funext fun a => Fin.ext ?_)
  match a with
  | ⟨0, _⟩ => show off.val + 1 * 0 = off.val; omega
  | ⟨1, _⟩ => show 0 + 1 * d.val = d.val; omega
  | ⟨2, _⟩ => show 0 + 1 * f.val = f.val; omega
theorem slabV_at (off : Fin 32) (f : Fin 512) (k : Fin 2048) {h inb} :
    (Rect.unit (s := S32x512x2048) ![off.val, 0, 0] S1x512x2048.size inb).emb (Shape.reshapeEquiv (s' := S512x2048) (s := S1x512x2048) h (ix2 f k)) = ix3 off f k := by
  refine (congrArg _ (stack_index h f k)).trans (funext fun a => Fin.ext ?_)
  match a with
  | ⟨0, _⟩ => show off.val + 1 * 0 = off.val; omega
  | ⟨1, _⟩ => show 0 + 1 * f.val = f.val; omega
  | ⟨2, _⟩ => show 0 + 1 * k.val = k.val; omega

theorem gOf_at (e : Fin 32) (d : Fin 2048) (f : Fin 512) : gOf c fg e (ix2 d f) = fg (ix3 e d f) := congrArg fg (slabW_at e d f)
theorem uOf_at (e : Fin 32) (d : Fin 2048) (f : Fin 512) : uOf c fu e (ix2 d f) = fu (ix3 e d f) := congrArg fu (slabW_at e d f)
theorem dOf_at (e : Fin 32) (f : Fin 512) (k : Fin 2048) : dOf c fd e (ix2 f k) = fd (ix3 e f k) := congrArg fd (slabV_at e f k)

/-- A tile's block, entry by entry. -/
theorem outOf_at (P : Tabs) (n : ℕ) (j : Fin 512) (p : Fin 2) (k : Fin 1024) (r : Fin 40960) (hr : r.val = n * 512 + j.val) :
    outOf c fg fu fd P n (tokens A n) (ix3 j p k) = if P.fl n = true ∨ j.val < 256 then entry A fg fu fd (P.te n) r (col p k) else (0 : EReal) := by
  unfold outOf
  rw [tileOut_at]
  have hx : (fun d => tokens A n (ix2 j d)) = fun d => A (ix2 r d) := by
    funext d
    refine congrArg A (funext fun a => Fin.ext ?_)
    match a with
    | ⟨0, _⟩ => show (n * 512 + j.val) % 40960 = r.val; rw [← hr]; exact Nat.mod_eq_of_lt r.isLt
    | ⟨1, _⟩ => rfl
  refine if_congr Iff.rfl ?_ rfl
  rw [hx]
  unfold entry
  congr 1
  · funext d f; exact (castW_at _ d f).trans (gOf_at c fg _ d f)
  · funext d f; exact (castW_at _ d f).trans (uOf_at c fu _ d f)
  · funext f k; exact (castV_at _ f k).trans (dOf_at c fd _ f k)

end

end Cert.KernelIdeal.Run

end
-- ==== Proof.Ideal.Rows.lean ====
/-
What the two kernels leave in their result arrays, and what the program returns.
-/
module

public import proofs.«01_k».proof.Proof.Ideal.Block
public import proofs.«01_k».proof.Proof.Ideal.Run
public import Idealize.ShloMosaic.Lib.Pipeline.Value
public import Idealize.ShloMosaic.Lib.StableHlo.ReadAt

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Tables (at80 word nextWord Tabs Plan)
open Cert.Entry
open Idealize.ShloMosaic.Pipeline (Dat Cfg Window)

/-! ## The packed rows -/

section

variable {F : FTy → Type} [FloatOps F]
variable (c : Dev nD) (A : S40960x1024.Idx → Elt F .i32) (O : S40960x2x1024.Idx → Elt F .bf16)
variable (fg : Buf (Elt F) ((winG 0).view.loc (c : Thread nD τ))) (fu : Buf (Elt F) ((winU 0).view.loc (c : Thread nD τ)))
variable (fd : Buf (Elt F) ((winD 0).view.loc (c : Thread nD τ)))
variable {pf : pre0.Contents (Elt F)} {P : Tabs} (hP : Good pf P)

/-- The place in its tile of an entry of the packed rows. -/
def inTile (i : S40960x2x1024.Idx) : S512x2x1024.Idx := ix3 ⟨(i 0).val % 512, Nat.mod_lt _ (by decide)⟩ (i 1) (i 2)

/-- The packed rows with every tile's block in place. -/
def blocks (P : Tabs) (i : S40960x2x1024.Idx) : Elt F .bf16 := blockOut c A fg fu fd P ((i 0).val / 512) (inTile i)

/-- Where point `t` writes entry `y` of its block. -/
def place (t : Fin (cfg0 (adm hP)).N) (y : S512x2x1024.Idx) : S40960x2x1024.Idx := (((cfg0 (adm hP)).win 1).blk t).view.emb y

theorem block_index (t : Fin (cfg0 (adm hP)).N) (y : S512x2x1024.Idx) (a : Fin 3) :
    (place hP t y a).val = (![tileAt P t.val * 512 + (y 0).val, (y 1).val, (y 2).val] : Fin 3 → ℕ) a := by
  have hix := (index1 hP (grid0.coords t)).trans (by rw [coords_val t] : _ = ![tileAt P t.val, 0, 0])
  match a with
  | ⟨0, _⟩ =>
    show cc0_transform_4 inb_S1_S1_0 numel1_S1 pf (grid0.coords t) 0 * 512 + 1 * (y 0).val = tileAt P t.val * 512 + (y 0).val
    rw [hix, Nat.one_mul]; rfl
  | ⟨1, _⟩ =>
    show cc0_transform_4 inb_S1_S1_0 numel1_S1 pf (grid0.coords t) 1 * 2 + 1 * (y 1).val = (y 1).val
    rw [hix, Nat.one_mul]; show 0 * 2 + _ = _; omega
  | ⟨2, _⟩ =>
    show cc0_transform_4 inb_S1_S1_0 numel1_S1 pf (grid0.coords t) 2 * 1024 + 1 * (y 2).val = (y 2).val
    rw [hix, Nat.one_mul]; show 0 * 1024 + _ = _; omega

/-- What every point writes back is its part of `blocks`. -/
theorem point_block (t : Fin (cfg0 (adm hP)).N) (y : S512x2x1024.Idx) :
    blockOut c A fg fu fd P t.val y = blocks c A fg fu fd P (place hP t y) := by
  have h0 : (place hP t y 0).val = tileAt P t.val * 512 + (y 0).val := block_index hP t y 0
  have hy : (y 0).val < 512 := (y 0).isLt
  unfold blocks
  have e : inTile (place hP t y) = y := by
    funext a; apply Fin.ext
    match a with
    | ⟨0, _⟩ => show (place hP t y 0).val % 512 = (y 0).val; rw [h0]; omega
    | ⟨1, _⟩ => exact block_index hP t y 1
    | ⟨2, _⟩ => exact block_index hP t y 2
  rw [e, h0, show (tileAt P t.val * 512 + (y 0).val) / 512 = tileAt P t.val by omega]
  unfold blockOut
  rw [show tileAt P (tileAt P t.val) = tileAt P t.val by unfold tileAt; omega]

/-- A live tile's entries are written. -/
theorem blocks_at (i : S40960x2x1024.Idx) (hi : (i 0).val / 512 < P.nu) :
    (dat0 c A O fg fu fd hP).arrAt 1 (cfg0 (adm hP)).N i = blocks c A fg fu fd P i := by
  have hpos := hP.pos
  have hle := hP.le
  have hN : (cfg0 (adm hP)).N = 80 := N_0
  have hi' : (i 0).val < 40960 := (i 0).isLt
  obtain ⟨t, hf, ht⟩ : ∃ t : Fin (cfg0 (adm hP)).N, ((cfg0 (adm hP)).win 1).flush t = true ∧ tileAt P t.val = (i 0).val / 512 := by
    by_cases h : (i 0).val / 512 + 1 < P.nu
    · exact ⟨⟨(i 0).val / 512, by omega⟩, (flush_iff hP _).mpr (Or.inr h), by show min ((i 0).val / 512) (P.nu - 1) = (i 0).val / 512; omega⟩
    · exact ⟨⟨79, by omega⟩, (flush_iff hP _).mpr (Or.inl rfl), by show min 79 (P.nu - 1) = (i 0).val / 512; omega⟩
  refine (dat0 c A O fg fu fd hP).arrAt_forall_of_flushed 1 (fun i v => v = blocks c A fg fu fd P i)
    (fun t _ y => point_block c A fg fu fd hP t y) _ t i t.isLt hf ?_
  have e : i = place hP t (inTile i) := by
    funext a; apply Fin.ext
    refine Eq.trans ?_ (block_index hP t (inTile i) a).symm
    match a with
    | ⟨0, _⟩ => show (i 0).val = tileAt P t.val * 512 + (i 0).val % 512; rw [ht]; omega
    | ⟨1, _⟩ => rfl
    | ⟨2, _⟩ => rfl
  rw [e]
  exact View.emb_mem_set _ _

end

/-! ## The rows as numbers -/

section

variable {F : FTy → Type} [FloatOps F]
variable (c : Dev nD) (B : S40960x2x1024.Idx → Elt F .bf16) (O : S40960x2048.Idx → Elt F .f32)

/-- The place in its tile of an entry of the rows. -/
def inRows (i : S40960x2048.Idx) : S512x2048.Idx := ix2 ⟨(i 0).val % 512, Nat.mod_lt _ (by decide)⟩ (i 1)

/-- The rows with every tile read. -/
def readAll (i : S40960x2048.Idx) : Elt F .f32 := readOut (packed B ((i 0).val / 512)) (inRows i)

/-- Where point `t` writes entry `y` of its rows. -/
def placeRow (t : Fin cfg1.N) (y : S512x2048.Idx) : S40960x2048.Idx := ((cfg1.win 1).blk t).view.emb y

theorem row_index (t : Fin cfg1.N) (y : S512x2048.Idx) (a : Fin 2) :
    (placeRow t y a).val = (![t.val * 512 + (y 0).val, (y 1).val] : Fin 2 → ℕ) a := by
  have hix := (read_index (grid1.coords t)).2.trans (by rw [coords1_val t] : _ = ![t.val, 0])
  match a with
  | ⟨0, _⟩ =>
    show cc1_transform_1 (grid1.coords t) 0 * 512 + 1 * (y 0).val = t.val * 512 + (y 0).val
    rw [hix, Nat.one_mul]; rfl
  | ⟨1, _⟩ =>
    show cc1_transform_1 (grid1.coords t) 1 * 2048 + 1 * (y 1).val = (y 1).val
    rw [hix, Nat.one_mul]; show 0 * 2048 + _ = _; omega

theorem point_rows (t : Fin cfg1.N) (y : S512x2048.Idx) :
    readOut (packed B t.val) y = readAll B (placeRow t y) := by
  have h0 : (placeRow t y 0).val = t.val * 512 + (y 0).val := row_index t y 0
  have hy : (y 0).val < 512 := (y 0).isLt
  unfold readAll
  have e : inRows (placeRow t y) = y := by
    funext a; apply Fin.ext
    match a with
    | ⟨0, _⟩ => show (placeRow t y 0).val % 512 = (y 0).val; rw [h0]; omega
    | ⟨1, _⟩ => exact row_index t y 1
  rw [e, h0, show (t.val * 512 + (y 0).val) / 512 = t.val by omega]

theorem flush1 (t : Fin cfg1.N) : (cfg1.win 1).flush t = true := by revert t; decide +kernel

/-- Every entry of the rows is written. -/
theorem readAll_at (i : S40960x2048.Idx) : (dat1 c B O).arrAt 1 cfg1.N i = readAll B i := by
  have hN : cfg1.N = 80 := N_1
  have hi : (i 0).val < 40960 := (i 0).isLt
  have ht : (i 0).val / 512 < cfg1.N := by rw [hN]; omega
  refine (dat1 c B O).arrAt_forall_of_flushed 1 (fun i v => v = readAll B i)
    (fun t _ y => point_rows B t y) _ ⟨(i 0).val / 512, ht⟩ i ht (flush1 _) ?_
  have e : i = placeRow ⟨(i 0).val / 512, ht⟩ (inRows i) := by
    funext a; apply Fin.ext
    refine Eq.trans ?_ (row_index _ (inRows i) a).symm
    match a with
    | ⟨0, _⟩ => show (i 0).val = (i 0).val / 512 * 512 + (i 0).val % 512; omega
    | ⟨1, _⟩ => rfl
  exact Eq.mpr (congrArg (· ∈ ((cfg1.win 1).blk ⟨(i 0).val / 512, ht⟩).view.set) e) (View.emb_mem_set _ _)

end

/-! ## What the program returns -/

/-- A read tile, entry by entry. -/
theorem readOut_at (X : Packed Ideal) (r : Fin 512) (k : Fin 2048) :
    readOut X (ix2 r k) = X (ix3 r ⟨k.val / 1024, by omega⟩ ⟨k.val % 1024, Nat.mod_lt _ (by decide)⟩) := by
  unfold readOut lows highs
  pointwise [inHalf]
  by_cases h : k.val < 1024
  · rw [if_pos h]
    exact congrArg (fun p => X (ix3 r p _)) (Fin.ext (by show 0 = k.val / 1024; omega))
  · rw [if_neg h]
    exact congrArg (fun p => X (ix3 r p _)) (Fin.ext (by show 1 = k.val / 1024; omega))

section

variable (m : (ℓ : Loc nD τ sig) → Buf (Elt Ideal) ℓ) {P : Tabs} (hP : Good (tables m) P) (c : Dev nD)

/-- A live tile's row, entry by entry. -/
theorem rows_at (r : Fin 40960) (k : Fin 2048) (hr : r.val / 512 < P.nu) :
    rows m hP c (ix2 r k) = if P.fl (r.val / 512) = true ∨ r.val % 512 < 256 then
      entry (m ((c : Thread nD τ).loc main_arg5)) (m ((c : Thread nD τ).loc main_arg6)) (m ((c : Thread nD τ).loc main_arg7))
        (m ((c : Thread nD τ).loc main_arg8)) (P.te (r.val / 512)) r k else (0 : EReal) := by
  have hi : r.val < 40960 := r.isLt
  rw [← rows_eq m hP c]
  refine (readAll_at c (packedRows m hP c) _ (ix2 r k)).trans ?_
  refine (readOut_at (packed (packedRows m hP c) (r.val / 512)) ⟨r.val % 512, Nat.mod_lt _ (by decide)⟩ k).trans ?_
  have e : packAt (r.val / 512) (ix3 ⟨r.val % 512, Nat.mod_lt _ (by decide)⟩ ⟨k.val / 1024, by omega⟩ ⟨k.val % 1024, Nat.mod_lt _ (by decide)⟩)
      = ix3 r ⟨k.val / 1024, by omega⟩ ⟨k.val % 1024, Nat.mod_lt _ (by decide)⟩ := by
    funext a; apply Fin.ext
    match a with
    | ⟨0, _⟩ => show (r.val / 512 * 512 + r.val % 512) % 40960 = r.val; omega
    | ⟨1, _⟩ => rfl
    | ⟨2, _⟩ => rfl
  show packedRows m hP c (packAt _ _) = _
  rw [e, ← packedRows_eq m hP c]
  refine (blocks_at c _ _ _ _ _ hP _ hr).trans ?_
  show blockOut c _ _ _ _ P (r.val / 512) (ix3 ⟨r.val % 512, _⟩ ⟨k.val / 1024, _⟩ ⟨k.val % 1024, _⟩) = _
  unfold blockOut
  rw [tileAt_live hr]
  refine (outOf_at c _ _ _ _ P (r.val / 512) _ _ _ r (by show r.val = r.val / 512 * 512 + r.val % 512; omega)).trans ?_
  refine if_congr Iff.rfl (congrArg (entry _ _ _ _ _ r) (Fin.ext ?_)) rfl
  show k.val / 1024 * 1024 + k.val % 1024 = k.val
  omega

/-- A small number's word read signed. -/
theorem small_int {n : ℕ} (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by omega), e]

/-- A row is in a tile in use where its number is below the count of rows in use. -/
theorem in_use (r : Fin 40960) {n : ℕ} (hn : n ≤ 80) :
    IntOp.cmpi .slt (BitVec.ofNat 32 r.val) (IntOp.muli (BitVec.ofNat 32 n) 512#32) = 1#1 ↔ r.val / 512 < n := by
  have e : IntOp.muli (BitVec.ofNat 32 n) 512#32 = BitVec.ofNat 32 (n * 512) := BitVec.ofNat_mul_ofNat n 512
  rw [e, Cert.Tables.slt_one, small_int (by omega), small_int (by omega)]
  omega

/-- The result's entries: the rows' where the tile is in use, zero elsewhere. -/
theorem result_select (r : Fin 40960) (k : Fin 2048) :
    V4 m (outs m hP) c main_v7 (ix2 r k) = if r.val / 512 < P.nu then rows m hP c (ix2 r k) else (0 : EReal) := by
  have hA : V2 m (outs m hP) c main_arg1 = m ((c : Thread nD τ).loc main_arg1) :=
    (V2_of m (outs m hP) c main_arg1 (by decide)).trans ((V1_of m (outs m hP) c main_arg1 (by decide)).trans rfl)
  have hw : m ((c : Thread nD τ).loc main_arg1) (ix1 0) = BitVec.ofNat 32 P.nu := by
    obtain rfl : c = 0 := Subsingleton.elim _ _
    exact hP.w1 _
  rw [← V2_v1 m hP c]
  rw [← hA] at hw
  show StableHlo.after hostOps2_1 (StableHlo.after hostOps2 (V2 m (outs m hP) c)) (Proc.devRef .tc main_v7) (ix2 r k) = _
  revert hw
  generalize V2 m (outs m hP) c = V
  intro hw
  after_reads_at
  have hz : (id (constant (F := Ideal) S_ .f32 0x00000000#32) Idealize.ShloMosaic.ix0 : EReal) = 0 := Ideal.ofBits_zero_f32
  rw [hz]
  unfold Scalar.select
  rw [hw]
  exact if_congr (in_use r hP.le) rfl rfl

/-- The result, entry by entry. -/
theorem result_at (r : Fin 40960) (k : Fin 2048) :
    V4 m (outs m hP) c main_v7 (ix2 r k) = if r.val / 512 < P.nu ∧ (P.fl (r.val / 512) = true ∨ r.val % 512 < 256) then
      entry (m ((c : Thread nD τ).loc main_arg5)) (m ((c : Thread nD τ).loc main_arg6)) (m ((c : Thread nD τ).loc main_arg7))
        (m ((c : Thread nD τ).loc main_arg8)) (P.te (r.val / 512)) r k else (0 : EReal) := by
  rw [result_select]
  by_cases hr : r.val / 512 < P.nu
  · rw [if_pos hr, rows_at m hP c r k hr]
    exact if_congr ⟨fun h => ⟨hr, h⟩, fun h => h.2⟩ rfl rfl
  · rw [if_neg hr, if_neg (fun h => hr h.1)]

end

end Cert.KernelIdeal.Run

end
-- ==== Proof.Ideal.Reference.lean ====
/-
What the reference returns, entry by entry.
-/
module

public import proofs.«01_k».proof.Proof.Gen.ReferenceIdeal.Frame
public import proofs.«01_k».proof.Proof.Ideal.Entry
public import proofs.«01_k».proof.Proof.Ideal.Tables
public import Idealize.ShloMosaic.Lib.StableHlo.ReadAt
public import Idealize.ShloMosaic.Lib.Pipeline.ValueKit.Acc
public import Idealize.ShloMosaic.Lib.Pipeline.ValueKit.Geometry

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL.Sem
open Cert.Entry

/-- The tokens' kernel puts the low halves of a row's words before the high ones. -/
theorem words_at (x : Vec Ideal S40960x1024 .i32) (r : Fin 40960) (d : Fin 2048) :
    out0_1 x (ix2 r d) = token (fun a => x (ix2 r a)) d := by
  unfold out0_1
  frame_out
  pointwise [k0_pay1]
  rfl

variable (m : (ℓ : Loc nD τ sig) → Buf (Elt Ideal) ℓ) (c : Dev nD)

/-- The one grid point's block of the words is the whole array. -/
theorem iblk_whole (t : Fin cfg0.N) : iblk m c 0 t = m ((c : Thread nD τ).loc main_arg5) := by
  funext j
  show m ((c : Thread nD τ).loc main_arg5) ((win0_0.rect t).emb j) = _
  refine congrArg _ (funext fun a => Fin.ext ?_)
  rw [Pipeline.Window.rect_emb_val_of_index_zero win0_0 t a ((by decide +kernel : ∀ (t : Fin grid0.N) a, win0_0.index t a = 0) t a)]

/-- After the tokens' kernel its result array holds the rows' numbers. -/
theorem tokens_eq (i : S40960x2048.Idx) :
    (dats m 0 c).arrAt 1 cfg0.N i = out0_1 (m ((c : Thread nD τ).loc main_arg5)) i := by
  refine congrFun (Pipeline.Dat.arrAt_eq_of_after_last (dats m 0 c) 1 ⟨0, by decide +kernel⟩ (by decide +kernel) (out0_1 (m ((c : Thread nD τ).loc main_arg5))) fun j => ?_) i
  rw [after0_1, iblk_whole]
  refine (cast_eq _ _).trans ?_
  exact congrArg (out0_1 (m ((c : Thread nD τ).loc main_arg5))) (funext fun a => Fin.ext rfl)

/-- Whether a row is one of the expert's, as the reference's mask says it of the three tables' words: `w0` the tile's
    expert, `w1` the count of tiles in use, `w4` whether the tile's second half is. -/
def mine (w0 w1 w4 : BitVec 32) (r e : ℕ) : BitVec 1 :=
  IntOp.andi (IntOp.cmpi .eq w0 (BitVec.ofNat 32 e)) (IntOp.andi (IntOp.cmpi .slt (BitVec.ofNat 32 (r / 512)) w1)
    (IntOp.ori (IntOp.cmpi .slt (BitVec.ofNat 32 (r % 512)) 256#32) (IntOp.cmpi .eq w4 1#32)))

/-- The host lines after the tokens' kernel, of any memory that holds the tokens. -/
theorem host_at (V : Valuation τ sig (Elt Ideal)) (r : Fin 40960) (k : Fin 2048) (A : Vec Ideal S40960x1024 .i32)
    (hA : ∀ d, V (Proc.devRef .tc main_v0) (ix2 r d) = token (fun a => A (ix2 r a)) d) :
    StableHlo.after (List.flatten [hostOps1, hostOps1_1, hostOps1_2, hostOps1_3, hostOps1_4]) V (Proc.devRef .tc main_v39) (ix2 r k) =
      ∑ e : Fin 32, if mine (V (Proc.devRef .tc main_arg0) (ix1 ⟨r.val / 512, by omega⟩)) (V (Proc.devRef .tc main_arg1) (ix1 0))
          (V (Proc.devRef .tc main_arg4) (ix1 ⟨r.val / 512, by omega⟩)) r.val e.val = 1#1 then
        entry A (V (Proc.devRef .tc main_arg6)) (V (Proc.devRef .tc main_arg7)) (V (Proc.devRef .tc main_arg8)) e r k
      else (0 : EReal) := by
  after_reads_at
  pointwise
  simp only [hA]
  have hz : (id (constant (F := Ideal) S_ .f32 0x00000000#32) Idealize.ShloMosaic.ix0 : EReal) = 0 := Ideal.ofBits_zero_f32
  rw [hz]
  rfl

/-- What the reference returns, from the arrays it was given. -/
theorem reference_at (r : Fin 40960) (k : Fin 2048) :
    Pipeline.afterTail₀ cfgs (dats m) 0 (V0 m) [hostOps1, hostOps1_1, hostOps1_2, hostOps1_3, hostOps1_4] c main_v39 (ix2 r k) =
      ∑ e : Fin 32, if mine (m ((c : Thread nD τ).loc main_arg0) (ix1 ⟨r.val / 512, by omega⟩)) (m ((c : Thread nD τ).loc main_arg1) (ix1 0))
          (m ((c : Thread nD τ).loc main_arg4) (ix1 ⟨r.val / 512, by omega⟩)) r.val e.val = 1#1 then
        entry (m ((c : Thread nD τ).loc main_arg5)) (m ((c : Thread nD τ).loc main_arg6)) (m ((c : Thread nD τ).loc main_arg7))
          (m ((c : Thread nD τ).loc main_arg8)) e r k
      else (0 : EReal) := by
  unfold Pipeline.afterTail₀
  refine (host_at _ r k (m ((c : Thread nD τ).loc main_arg5)) fun d => ?_).trans ?_
  · refine Eq.trans (congrFun (Pipeline.withArrays_arr spec0 (by decide) c (V0 m c) _ 1) (ix2 r d)) ?_
    exact (tokens_eq m c _).trans (words_at _ r d)
  · rw [Pipeline.withArrays_of_ne _ c (V0 m c) _ main_arg0 (by exact (by decide : ∀ w, Pipeline.arrRef spec0 w ≠ main_arg0)),
      Pipeline.withArrays_of_ne _ c (V0 m c) _ main_arg1 (by exact (by decide : ∀ w, Pipeline.arrRef spec0 w ≠ main_arg1)),
      Pipeline.withArrays_of_ne _ c (V0 m c) _ main_arg4 (by exact (by decide : ∀ w, Pipeline.arrRef spec0 w ≠ main_arg4)),
      Pipeline.withArrays_of_ne _ c (V0 m c) _ main_arg6 (by exact (by decide : ∀ w, Pipeline.arrRef spec0 w ≠ main_arg6)),
      Pipeline.withArrays_of_ne _ c (V0 m c) _ main_arg7 (by exact (by decide : ∀ w, Pipeline.arrRef spec0 w ≠ main_arg7)),
      Pipeline.withArrays_of_ne _ c (V0 m c) _ main_arg8 (by exact (by decide : ∀ w, Pipeline.arrRef spec0 w ≠ main_arg8))]
    rfl

end Cert.ReferenceIdeal.Run

end
-- ==== Proof.Ideal.Equation.lean ====
/-
The equation: under a plan the reference's sum over the experts has at most one term, the tile's own expert, and that is
the entry the kernel returns; so the two programs end with equal results.
-/
module

public import proofs.«01_k».proof.Proof.Ideal.Rows
public import proofs.«01_k».proof.Proof.Ideal.Reference
public import proofs.«01_k».proof.Proof.Ideal.Frame

@[expose] public section

set_option maxRecDepth 16384

noncomputable section

namespace Cert.Equation

open Idealize.ShloMosaic Idealize.ShloMosaic.TcCoe
open Idealize.SL.Sem
open Cert.Entry
open Cert.Tables (at80 word word_of_lt at80_eq Tabs Plan andi_one ori_one slt_one eq_one)
open Cert.ReferenceIdeal.Run (mine)
open Cert.KernelIdeal.Run (small_int)

/-- Under a plan a row is the expert's exactly where its tile is in use and the expert's, and its half is in use. -/
theorem mine_iff {T0 : Cert.KernelIdeal.S80.Idx → BitVec 32} {T1 : Cert.KernelIdeal.S1.Idx → BitVec 32} {T2 T3 T4 : Cert.KernelIdeal.S80.Idx → BitVec 32}
    {P : Tabs} (hP : Plan T0 T1 T2 T3 T4 P) (r : Fin 40960) (e : Fin 32) (x : Cert.KernelIdeal.S1.Idx) :
    mine (T0 (ix1 ⟨r.val / 512, by omega⟩)) (T1 x) (T4 (ix1 ⟨r.val / 512, by omega⟩)) r.val e.val = 1#1 ↔
      P.te (r.val / 512) = e ∧ r.val / 512 < P.nu ∧ (P.fl (r.val / 512) = true ∨ r.val % 512 < 256) := by
  have hj : r.val / 512 < 80 := by omega
  have hle := hP.le
  have e0 : T0 (ix1 ⟨r.val / 512, hj⟩) = word T0 (r.val / 512) :=
    (congrArg T0 (at80_eq _ hj rfl)).trans (word_of_lt T0 hj).symm
  have e4 : T4 (ix1 ⟨r.val / 512, hj⟩) = word T4 (r.val / 512) :=
    (congrArg T4 (at80_eq _ hj rfl)).trans (word_of_lt T4 hj).symm
  have c256 : (256#32).toInt = 256 := by decide
  unfold mine
  rw [andi_one, andi_one, ori_one, eq_one, slt_one, slt_one, eq_one, e0, e4, hP.w1 x, small_int (by omega), small_int (by omega),
    small_int (by omega), c256]
  constructor
  · rintro ⟨he, hn, hh⟩
    have hn' : r.val / 512 < P.nu := by omega
    refine ⟨Fin.ext ?_, hn', ?_⟩
    · rw [hP.w0 _ hn'] at he
      have := congrArg BitVec.toNat he
      rw [BitVec.toNat_ofNat, BitVec.toNat_ofNat] at this
      have := (P.te (r.val / 512)).isLt
      have := e.isLt
      omega
    · rw [hP.w4 _ hn'] at hh
      rcases hh with hh | hh
      · exact Or.inr (by omega)
      · refine Or.inl ?_
        by_contra hf
        rw [if_neg hf] at hh
        exact absurd hh (by decide)
  · rintro ⟨he, hn, hh⟩
    refine ⟨?_, by omega, ?_⟩
    · rw [hP.w0 _ hn, he]
    · rw [hP.w4 _ hn]
      rcases hh with hh | hh
      · exact Or.inr (if_pos hh)
      · exact Or.inl (by omega)

/-- A sum over the experts with the one term a plan allows. -/
theorem sum_mine (f : Fin 32 → EReal) (t : Fin 32) (q : Prop) [Decidable q] (b : Fin 32 → BitVec 1) (hb : ∀ e, b e = 1#1 ↔ t = e ∧ q) :
    (∑ e : Fin 32, if b e = 1#1 then f e else (0 : EReal)) = if q then f t else 0 := by
  by_cases hq : q
  · rw [if_pos hq, Finset.sum_eq_single t (fun e _ hne => if_neg fun h => hne ((hb e).mp h).1.symm) (fun h => absurd (Finset.mem_univ t) h)]
    exact if_pos ((hb t).mpr ⟨rfl, hq⟩)
  · rw [if_neg hq]
    exact Finset.sum_eq_zero fun e _ => if_neg fun h => hq ((hb e).mp h).2

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two results are equal where the arguments are. -/
theorem results_eq (hP : Cert.KernelIdeal.Run.Good (Cert.KernelIdeal.Run.tables m) (Cert.KernelIdeal.Run.plan m)) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (i : (⟨2, ![40960, 2048]⟩ : Shape).Idx) :
    Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2,
          Cert.ReferenceIdeal.Gen.hostOps1_3, Cert.ReferenceIdeal.Gen.hostOps1_4] c Cert.ReferenceIdeal.main_v39 i =
      Cert.KernelIdeal.Gen.V4 m (Cert.KernelIdeal.Run.outs m hP) c Cert.KernelIdeal.main_v7 i := by
  obtain rfl : c = 0 := Subsingleton.elim _ _
  obtain ⟨r, k, rfl⟩ : ∃ (r : Fin 40960) (k : Fin 2048), i = ix2 r k := ⟨i 0, i 1, eq_ix2 i⟩
  refine (Cert.ReferenceIdeal.Run.reference_at m' 0 r k).trans ?_
  refine Eq.trans ?_ (Cert.KernelIdeal.Run.result_at m hP 0 r k).symm
  rw [h0, h1, h4, h5, h6, h7, h8]
  exact sum_mine (fun e => entry _ _ _ _ e r k) _ _ _ fun e => mine_iff hP r e _

end

/-- From equal arguments, a plan's tables among them, both programs run to equal results. -/
theorem algebraic : Cert.algebraic_KernelIdeal_ReferenceIdeal (hKernelIdeal := Cert.KernelIdeal.Gen.facts)
    (hReferenceIdeal := Cert.ReferenceIdeal.Gen.facts) (hPre_well_planned := Cert.Pre_well_planned.Gen.facts) := by
  intro m g m' g' hpre hargs
  have hP := Cert.KernelIdeal.Run.good_of_pre m hpre
  refine ⟨fun c => Cert.KernelIdeal.Gen.V4 m (Cert.KernelIdeal.Run.outs m hP) c Cert.KernelIdeal.main_v7, ?_, ?_⟩
  · refine (Cert.KernelIdeal.Run.run m hP g).mono fun r hr c => ⟨hr.1 c Cert.KernelIdeal.main_v7 rfl, ?_⟩
    exact ⟨(hr.1 c Cert.KernelIdeal.main_arg0 rfl).trans (Cert.KernelIdeal.Gen.V4_main_arg0 m _ c),
      (hr.1 c Cert.KernelIdeal.main_arg1 rfl).trans (Cert.KernelIdeal.Gen.V4_main_arg1 m _ c),
      (hr.1 c Cert.KernelIdeal.main_arg2 rfl).trans (Cert.KernelIdeal.Gen.V4_main_arg2 m _ c),
      (hr.1 c Cert.KernelIdeal.main_arg3 rfl).trans (Cert.KernelIdeal.Gen.V4_main_arg3 m _ c),
      (hr.1 c Cert.KernelIdeal.main_arg4 rfl).trans (Cert.KernelIdeal.Gen.V4_main_arg4 m _ c),
      (hr.1 c Cert.KernelIdeal.main_arg5 rfl).trans (Cert.KernelIdeal.Gen.V4_main_arg5 m _ c),
      (hr.1 c Cert.KernelIdeal.main_arg6 rfl).trans (Cert.KernelIdeal.Gen.V4_main_arg6 m _ c),
      (hr.1 c Cert.KernelIdeal.main_arg7 rfl).trans (Cert.KernelIdeal.Gen.V4_main_arg7 m _ c),
      (hr.1 c Cert.KernelIdeal.main_arg8 rfl).trans (Cert.KernelIdeal.Gen.V4_main_arg8 m _ c)⟩
  · refine (θ_run (Cert.ReferenceIdeal.defs (F := Ideal)) _ _).mono (fun r h c => ⟨?_, ?_⟩) (Cert.ReferenceIdeal.Gen.run_main m' g')
    · obtain ⟨h0, h1, -, -, h4, h5, h6, h7, h8⟩ := hargs c
      exact ((h c).2 Cert.ReferenceIdeal.main_v39 (Pipeline.mem_restRefs_of Cert.ReferenceIdeal.main_v39 (by decide) (by decide))).trans
        (funext (results_eq m m' hP c h0 h1 h4 h5 h6 h7 h8))
    · exact ⟨((h c).2 Cert.ReferenceIdeal.main_arg0 (Pipeline.mem_restRefs_of Cert.ReferenceIdeal.main_arg0 (by decide) (by decide))).trans (Cert.ReferenceIdeal.Gen.W_main_arg0 m' _ c),
        ((h c).2 Cert.ReferenceIdeal.main_arg1 (Pipeline.mem_restRefs_of Cert.ReferenceIdeal.main_arg1 (by decide) (by decide))).trans (Cert.ReferenceIdeal.Gen.W_main_arg1 m' _ c),
        ((h c).2 Cert.ReferenceIdeal.main_arg2 (Pipeline.mem_restRefs_of Cert.ReferenceIdeal.main_arg2 (by decide) (by decide))).trans (Cert.ReferenceIdeal.Gen.W_main_arg2 m' _ c),
        ((h c).2 Cert.ReferenceIdeal.main_arg3 (Pipeline.mem_restRefs_of Cert.ReferenceIdeal.main_arg3 (by decide) (by decide))).trans (Cert.ReferenceIdeal.Gen.W_main_arg3 m' _ c),
        ((h c).2 Cert.ReferenceIdeal.main_arg4 (Pipeline.mem_restRefs_of Cert.ReferenceIdeal.main_arg4 (by decide) (by decide))).trans (Cert.ReferenceIdeal.Gen.W_main_arg4 m' _ c),
        ((h c).1 0).trans (((Cert.ReferenceIdeal.Gen.dats m' 0 c).arrAt_in 0 rfl _).trans ((Cert.ReferenceIdeal.Gen.A_eq m' c 0).trans (Cert.ReferenceIdeal.Gen.V_main_arg5 m' c))),
        ((h c).2 Cert.ReferenceIdeal.main_arg6 (Pipeline.mem_restRefs_of Cert.ReferenceIdeal.main_arg6 (by decide) (by decide))).trans (Cert.ReferenceIdeal.Gen.W_main_arg6 m' _ c),
        ((h c).2 Cert.ReferenceIdeal.main_arg7 (Pipeline.mem_restRefs_of Cert.ReferenceIdeal.main_arg7 (by decide) (by decide))).trans (Cert.ReferenceIdeal.Gen.W_main_arg7 m' _ c),
        ((h c).2 Cert.ReferenceIdeal.main_arg8 (Pipeline.mem_restRefs_of Cert.ReferenceIdeal.main_arg8 (by decide) (by decide))).trans (Cert.ReferenceIdeal.Gen.W_main_arg8 m' _ c)⟩

end Cert.Equation

end
-- ==== Proof.Machine.Body.lean ====
/-
One tile's run of the expert kernel.
-/
module

public import proofs.«01_k».proof.Proof.Machine.Plan
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The proof's resource algebra: the pipeline's beside the transfers' counters. -/
local notation "𝕄" => MT nD τ sig Unit (Elt F) ℕ (Pipeline.UD sig nD τ) ℕ

/-! ## Loads and stores of buffers known by what their views read -/

section Accesses
variable {α : Type} (c : Dev nD) {cs : CoreSpace} {s : Shape} {e : EltTy}

/-- A load through a view whose buffer reads `X` gives `X` on the rectangle. -/
theorem wp_load_owns (Q : α → sProp 𝕄) (m : Memref sig .tc cs s e) (q : PosShare TreeShare) (X : s.Idx → Elt F e) {r : Rect s}
    {hl : m.view.LoadsAt r.toLoadRect} (k : (r.shape.Idx → Elt F e) → Prog (TpuEff nD τ sig (Elt F) Λ₀ .tc) α) :
    (owns (c : Thread nD τ) m q X : sProp 𝕄)
      ⊢ iprop((owns (c : Thread nD τ) m q X -∗ wp frame (wpE (defs₀ (F := F)) Variants.none (c : Thread nD τ) none) Set.univ (k (fun j => X (r.emb j))) Q)
        -∗ wp frame (wpE (defs₀ (F := F)) Variants.none (c : Thread nD τ) none) Set.univ (.op (.load m r.toLoadRect hl) k) Q) := by
  unfold owns
  iintro ⟨%f, %hf, H⟩ Hk
  subst hf
  iapply (wp_load Variants.none (c : Thread nD τ) none Set.univ (m := m) (View.setOn_subset_set _ _)) $$ H
  iintro H
  iapply Hk
  iexists f
  isplitr; · ipureintro; rfl
  iexact H

/-- A store through a view whose buffer reads `X` leaves the payload on the rectangle and `X` off it. -/
theorem wp_store_owns (Q : α → sProp 𝕄) (m : Memref sig .tc cs s e) (X : s.Idx → Elt F e) {r : Rect s} {w : r.shape.Idx → Elt F e}
    {hx : (m.access r).Stores Finset.univ} {hm : Finset.univ = Finset.univ ∨ ∀ a, r.stride a = 1} (k : PUnit → Prog (TpuEff nD τ sig (Elt F) Λ₀ .tc) α)
    (Y : s.Idx → Elt F e) (h1 : ∀ j, Y (r.emb j) = w j) (h2 : ∀ y, y ∉ r.set → Y y = X y) :
    (owns (c : Thread nD τ) m fullShare X : sProp 𝕄)
      ⊢ iprop((owns (c : Thread nD τ) m fullShare Y -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ Hk
  subst hf
  iapply (wp_store Variants.none (c : Thread nD τ) none Set.univ (m := m) (r := r) (Mk := Finset.univ) (S := m.view.set) (View.set_slice_subset _ _)) $$ H
  iintro H
  iapply Hk
  iexists ((m.access r).write (Elt F) f w Finset.univ)
  isplitr
  · ipureintro
    funext y
    by_cases hy : y ∈ r.set
    · rw [← Rect.map_emb_univ, Finset.mem_map] at hy
      obtain ⟨j, -, rfl⟩ := hy
      rw [h1]
      exact View.read_write_of_mem (v := m.access r) f w (Finset.mem_univ j)
    · rw [h2 y hy, View.read_apply, View.read_apply, View.write_of_not_mem]
      rintro hmem
      rw [View.setOn_univ, View.set_slice, Finset.mem_map] at hmem
      obtain ⟨j, hj, he⟩ := hmem
      exact hy (m.view.emb.injective he ▸ hj)
  · iexact H

/-- A word of a table, loaded. -/
theorem wp_word (Q : α → sProp 𝕄) (m : Memref sig .tc .smem S80 .i32) (T : S80.Idx → BitVec 32) {off : Fin 1 → ℕ} {n : ℕ} (h : off = ![n]) {v : BitVec 32} (hv : word T n = v)
    {inb} {hw} {h1} (k : Elt F .i32 → Prog (TpuEff nD τ sig (Elt F) Λ₀ .tc) α) :
    (owns (c : Thread nD τ) m fullShare T : sProp 𝕄)
      ⊢ iprop((owns (c : Thread nD τ) m fullShare T -∗ wp frame (wpE (defs₀ (F := F)) Variants.none (c : Thread nD τ) none) Set.univ (k v) Q)
        -∗ wp frame (wpE (defs₀ (F := F)) Variants.none (c : Thread nD τ) none) Set.univ
          (smemLoadElt m (Rect.unit (s := S80) off S1.size inb) hw (Shape.Idx.first (s := S1) h1) k) Q) := by
  subst hv
  rw [← read_word h T (inb := inb) (sh := h1)]
  exact wp_load_owns c Q m fullShare T (fun f => k (f (Shape.Idx.first h1)))

/-- The count of live tiles, loaded. -/
theorem wp_count (Q : α → sProp 𝕄) (m : Memref sig .tc .smem S1 .i32) (T : S1.Idx → BitVec 32) {v : BitVec 32} (hv : ∀ x, T x = v)
    {r : Rect S1} {hw} {x} (k : Elt F .i32 → Prog (TpuEff nD τ sig (Elt F) Λ₀ .tc) α) :
    (owns (c : Thread nD τ) m fullShare T : sProp 𝕄)
      ⊢ iprop((owns (c : Thread nD τ) m fullShare T -∗ wp frame (wpE (defs₀ (F := F)) Variants.none (c : Thread nD τ) none) Set.univ (k v) Q)
        -∗ wp frame (wpE (defs₀ (F := F)) Variants.none (c : Thread nD τ) none) Set.univ (smemLoadElt m r hw x k) Q) := by
  rw [← hv (r.emb x)]
  exact wp_load_owns c Q m fullShare T (fun f => k (f x))

/-- A load of the rectangle a squeezed slice views. -/
theorem wp_load_slot (Q : α → sProp 𝕄) (m : Memref sig .tc cs s e) (q : PosShare TreeShare) (r : Rect s) (hr : ∀ a, r.stride a = 1) {s' : Shape}
    (hq : r.shape.Squeezes s') (hc : r.shape.ShapeCasts s') (X : s'.Idx → Elt F e)
    {hl : m.view.LoadsAt r.toLoadRect} (k : (r.shape.Idx → Elt F e) → Prog (TpuEff nD τ sig (Elt F) Λ₀ .tc) α) :
    (owns (c : Thread nD τ) ((m.slice r hr).squeeze s' hq) q X : sProp 𝕄)
      ⊢ iprop((owns (c : Thread nD τ) ((m.slice r hr).squeeze s' hq) q X -∗ ∀ v, ⌜shapeCast s' v hc = X⌝ -∗
          wp frame (wpE (defs₀ (F := F)) Variants.none (c : Thread nD τ) none) Set.univ (k v) Q)
        -∗ wp frame (wpE (defs₀ (F := F)) Variants.none (c : Thread nD τ) none) Set.univ (.op (.load m r.toLoadRect hl) k) Q) := by
  unfold owns
  iintro ⟨%f, %hf, H⟩ Hk
  subst hf
  iapply (wp_load Variants.none (c : Thread nD τ) none Set.univ (m := m) (S := ((m.slice r hr).squeeze s' hq).view.set) (by
    rw [show ((m.slice r hr).squeeze s' hq).view.set = (m.view.slice r).set from View.set_reshape _ _, View.set_slice]
    exact subset_rfl)) $$ H
  iintro H
  iapply Hk $$ [H]
  · iexists f
    isplitr; · ipureintro; rfl
    iexact H
  · ipureintro; rfl

end Accesses

/-- A weight slab rounded to bf16, first layer. -/
def castW (w : Vec F S2048x512 .f32) : FVec F S2048x512 .bf16 :=
  shapeCast S2048x512 (truncf .bf16 w bitsLt_bf16_f32 : FVec F S2048x512 .bf16) shapeCasts_S2048x512_S2048x512
/-- A weight slab rounded to bf16, second layer. -/
def castV (w : Vec F S512x2048 .f32) : FVec F S512x2048 .bf16 :=
  shapeCast S512x2048 (truncf .bf16 w bitsLt_bf16_f32 : FVec F S512x2048 .bf16) shapeCasts_S512x2048_S512x2048

/-- Rows 0 to 1023 and rows 1024 to 2047 of a first-layer slab. -/
abbrev topW (W : S2048x512.Idx → Elt F .bf16) : Vec F S1024x512 .bf16 :=
  fun j => W ((Rect.unit (s := S2048x512) ![0, 0] S1024x512.size inb_S2048x512_S1024x512_0_0).emb j)
abbrev botW (W : S2048x512.Idx → Elt F .bf16) : Vec F S1024x512 .bf16 :=
  fun j => W ((Rect.unit (s := S2048x512) ![1024, 0] S1024x512.size inb_S2048x512_S1024x512_1024_0).emb j)
/-- Rows 0 to 255 of a tile's words. -/
abbrev topX (X : S512x1024.Idx → Elt F .i32) : Vec F S256x1024 .i32 :=
  fun j => X ((Rect.unit (s := S512x1024) ![0, 0] S256x1024.size inb_S512x1024_S256x1024_0_0).emb j)

/-- A block of which rows 0 to 255 are `lo` and rows 256 to 511 are `hi`. -/
def halves (lo hi : Vec F S256x1024 .i32) : Vec F S512x1024 .i32 := fun y =>
  if h : (y 0).val < 256 then lo (fun | ⟨0, _⟩ => ⟨(y 0).val, h⟩ | ⟨1, _⟩ => y 1)
  else hi (fun | ⟨0, _⟩ => ⟨(y 0).val - 256, by have := (y 0).isLt; show _ < 256; simp at this; omega⟩ | ⟨1, _⟩ => y 1)

/-- What a tile computes: all its rows, or its first half with the second half zero. -/
def tileOut (full : Bool) (X : S512x1024.Idx → Elt F .i32) (W3 W4 : S2048x512.Idx → Elt F .bf16) (W5 : S512x2048.Idx → Elt F .bf16) : Vec F S512x1024 .i32 :=
  if full then k0_pay3 X (topW W3) (botW W3) (topW W4) (botW W4) W5
  else halves (k0_pay6 (topX X) (topW W3) (botW W3) (topW W4) (botW W4) W5) (k0_pay7 (F := F))

variable (c : Dev nD)
variable (fg : Buf (Elt F) ((c : Thread nD τ).loc main_arg6)) (fu : Buf (Elt F) ((c : Thread nD τ).loc main_arg7))
variable (fd : Buf (Elt F) ((c : Thread nD τ).loc main_arg8))
variable (T0 T2 T3 T4 : S80.Idx → BitVec 32) (T1 : S1.Idx → BitVec 32)

/-- The five tables held whole. -/
def tabs : sProp 𝕄 :=
  iprop(owns (c : Thread nD τ) (Memref.whole main_arg0) fullShare (T0 : S80.Idx → Elt F .i32) ∗ owns (c : Thread nD τ) (Memref.whole main_arg1) fullShare (T1 : S1.Idx → Elt F .i32)
    ∗ owns (c : Thread nD τ) (Memref.whole main_arg2) fullShare (T2 : S80.Idx → Elt F .i32) ∗ owns (c : Thread nD τ) (Memref.whole main_arg3) fullShare (T3 : S80.Idx → Elt F .i32)
    ∗ owns (c : Thread nD τ) (Memref.whole main_arg4) fullShare (T4 : S80.Idx → Elt F .i32))

/-- The bf16 weights' buffers reading `W3`, `W4`, `W5`. -/
def castsAt (W3 W4 : S2048x512.Idx → Elt F .bf16) (W5 : S512x2048.Idx → Elt F .bf16) : sProp 𝕄 :=
  iprop(owns (c : Thread nD τ) (Memref.whole cc0_scratch3) fullShare W3 ∗ owns (c : Thread nD τ) (Memref.whole cc0_scratch4) fullShare W4
    ∗ owns (c : Thread nD τ) (Memref.whole cc0_scratch5) fullShare W5)
/-- The bf16 weights' buffers reading expert `e`'s weights. -/
abbrev castsOf (e : Fin 32) : sProp 𝕄 := castsAt c (castW (gOf c fg e)) (castW (uOf c fu e)) (castV (dOf c fd e))

/-- The next expert's weights in flight to slot `s`, or none; and `X` of the other slot. -/
def pendX (o : Option (Fin 32)) (s s' : Fin 2) (X : sProp 𝕄) : sProp 𝕄 :=
  match o with
  | none => idleX c fg fu fd s s' X
  | some e => flyX c fg fu fd e s s' X
/-- The transfers between two tiles. -/
abbrev pend (o : Option (Fin 32)) (s s' : Fin 2) : sProp 𝕄 := pendX c fg fu fd o s s' (slotAny c s')

/-- What is said of the other slot can be taken out and replaced. -/
theorem pendX_open (o : Option (Fin 32)) (s s' : Fin 2) (X X' : sProp 𝕄) :
    pendX c fg fu fd o s s' X ⊢ iprop(X ∗ (X' -∗ pendX c fg fu fd o s s' X')) := by
  cases o with
  | none =>
    show idleX c fg fu fd s s' X ⊢ iprop(X ∗ (X' -∗ idleX c fg fu fd s s' X'))
    unfold idleX
    iintro ⟨H1, H2, H3, H4, HX⟩
    isplitl [HX]; · iexact HX
    iintro HX
    isplitl [H1]; · iexact H1
    isplitl [H2]; · iexact H2
    isplitl [H3]; · iexact H3
    isplitl [H4]; · iexact H4
    iexact HX
  | some e =>
    show flyX c fg fu fd e s s' X ⊢ iprop(X ∗ (X' -∗ flyX c fg fu fd e s s' X'))
    unfold flyX
    iintro ⟨H1, H2, H3, HX⟩
    isplitl [HX]; · iexact HX
    iintro HX
    isplitl [H1]; · iexact H1
    isplitl [H2]; · iexact H2
    isplitl [H3]; · iexact H3
    iexact HX

/-- Where the run stands before tile `n`: nothing done, or the weights of the last tile's expert in the bf16 buffers and
    the next expert's in flight. -/
def state (P : Tabs) (n : ℕ) : sProp 𝕄 :=
  match n with
  | 0 => iprop((∃ W3 W4 W5, castsAt c W3 W4 W5) ∗ idleX c fg fu fd (P.sl 0) (1 - P.sl 0) (slotAny c (1 - P.sl 0)))
  | n + 1 => iprop(castsOf c fg fu fd (P.te n) ∗ pend c fg fu fd (P.nx n) (1 - P.sl n) (P.sl n))

/-- The expert kernel at a tile. -/
abbrev tileProg (i : grid0.Coords) (A6 : Memref sig .tc .vmem S512x1024 .i32) (h6 : A6.IsWhole) (A10 : Memref sig .tc .vmem S512x1024 .i32) (h10 : A10.IsWhole) :
    Prog (TpuEff nD τ sig (Elt F) Λ₀ .tc) PUnit :=
  cc0_experts i (Memref.whole main_arg0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) A6 h6 (Memref.whole main_arg6) (Memref.isWhole_whole _)
    (Memref.whole main_arg7) (Memref.isWhole_whole _) (Memref.whole main_arg8) (Memref.isWhole_whole _) A10 h10
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6

theorem tile_dead {P : Tabs} (hP : Plan T0 T1 T2 T3 T4 P) (i : grid0.Coords) (hi : ¬ (i 0).val < P.nu)
    (A6 : Memref sig .tc .vmem S512x1024 .i32) (h6 : A6.IsWhole) (A10 : Memref sig .tc .vmem S512x1024 .i32) (h10 : A10.IsWhole) (Kt : PUnit → sProp 𝕄) :
    iprop(tabs c T0 T2 T3 T4 T1 ∗ (tabs c T0 T2 T3 T4 T1 -∗ Kt ⟨⟩))
      ⊢ wp frame (wpE (defs₀ (F := F)) Variants.none (c : Thread nD τ) none) Set.univ (tileProg i A6 h6 A10 h10) Kt := by
  unfold tileProg
  rw [cc0_experts_eq_skeleton]; unfold cc0_experts_skel
  simp only [smemLoad, smemLoadElt_bind, Prog.pure_eq_ret, Prog.lift, Prog.bind_op, Prog.bind_ret]
  unfold tabs
  iintro ⟨⟨Ht0, Ht1, Ht⟩, HK⟩
  iapply (wp_count c Kt (Memref.whole main_arg1) T1 hP.w1) $$ Ht1
  iintro Ht1
  rw [dif_neg (fun h => hi ((cond1_iff i hP.le).1 h))]
  rw [wp_ret]
  imodintro
  iapply HK
  isplitl [Ht0]; · iexact Ht0
  isplitl [Ht1]; · iexact Ht1
  iexact Ht

/-! ## Rows of a block -/

theorem off2_zero : (![0, 0] : Fin 2 → ℕ) = fun _ => 0 := by decide
theorem off3_zero : (![0, 0, 0] : Fin 3 → ℕ) = fun _ => 0 := by decide

/-- The rows 0 to 255 and the rows 256 to 511 of a block of 512. -/
abbrev rLo : Rect S512x1024 := Rect.unit (s := S512x1024) ![0, 0] S256x1024.size inb_S512x1024_S256x1024_0_0
abbrev rHi : Rect S512x1024 := Rect.unit (s := S512x1024) ![256, 0] S256x1024.size inb_S512x1024_S256x1024_256_0

theorem rLo_row (j : S256x1024.Idx) : ((rLo.emb j) 0).val = (j 0).val := by
  show 0 + 1 * (j 0).val = (j 0).val; omega
theorem rHi_row (j : S256x1024.Idx) : ((rHi.emb j) 0).val = 256 + (j 0).val := by
  show 256 + 1 * (j 0).val = 256 + (j 0).val; omega

theorem mem_rLo {y : S512x1024.Idx} (h : (y 0).val < 256) : y ∈ rLo.set := by
  rw [Rect.mem_set_unit]
  intro a
  match a with
  | ⟨0, _⟩ => exact ⟨Nat.zero_le _, by show (y 0).val < 0 + 256; omega⟩
  | ⟨1, _⟩ => exact ⟨Nat.zero_le _, by show (y 1).val < 0 + 1024; have : (y 1).val < 1024 := (y 1).isLt; omega⟩
theorem mem_rHi {y : S512x1024.Idx} (h : ¬ (y 0).val < 256) : y ∈ rHi.set := by
  rw [Rect.mem_set_unit]
  intro a
  match a with
  | ⟨0, _⟩ => exact ⟨by show 256 ≤ (y 0).val; omega, by show (y 0).val < 256 + 256; have : (y 0).val < 512 := (y 0).isLt; omega⟩
  | ⟨1, _⟩ => exact ⟨Nat.zero_le _, by show (y 1).val < 0 + 1024; have : (y 1).val < 1024 := (y 1).isLt; omega⟩

theorem halves_lo (lo hi : Vec F S256x1024 .i32) (j : S256x1024.Idx) : halves lo hi (rLo.emb j) = lo j := by
  have hj : (j 0).val < 256 := (j 0).isLt
  unfold halves
  rw [dif_pos (by rw [rLo_row]; exact hj)]
  congr 1; funext a; apply Fin.ext
  match a with
  | ⟨0, _⟩ => exact rLo_row j
  | ⟨1, _⟩ => show 0 + 1 * (j 1).val = (j 1).val; omega
theorem halves_hi (lo hi : Vec F S256x1024 .i32) (j : S256x1024.Idx) : halves lo hi (rHi.emb j) = hi j := by
  unfold halves
  rw [dif_neg (by rw [rHi_row]; omega)]
  congr 1; funext a; apply Fin.ext
  match a with
  | ⟨0, _⟩ => show ((rHi.emb j) 0).val - 256 = (j 0).val; rw [rHi_row]; omega
  | ⟨1, _⟩ => show 0 + 1 * (j 1).val = (j 1).val; omega
/-- Off the first half's rows a block is its second half, and the other way round. -/
theorem halves_off_lo (lo : Vec F S256x1024 .i32) (Y : S512x1024.Idx → Elt F .i32) (y : S512x1024.Idx) (h : y ∉ rLo.set) :
    halves lo (fun j => Y (rHi.emb j)) y = Y y := by
  have hy : y ∈ rHi.set := mem_rHi fun h' => h (mem_rLo h')
  rw [← Rect.map_emb_univ, Finset.mem_map] at hy
  obtain ⟨j, -, rfl⟩ := hy
  exact halves_hi lo _ j
theorem halves_off_hi (lo hi hi' : Vec F S256x1024 .i32) (y : S512x1024.Idx) (h : y ∉ rHi.set) :
    halves lo hi y = halves lo hi' y := by
  have hy : y ∈ rLo.set := by
    by_contra h'
    exact h (mem_rHi fun h'' => h' (mem_rLo h''))
  rw [← Rect.map_emb_univ, Finset.mem_map] at hy
  obtain ⟨j, -, rfl⟩ := hy
  rw [halves_lo]; exact (halves_lo lo hi' j).symm

section Parts
variable (i : grid0.Coords) (A6 : Memref sig .tc .vmem S512x1024 .i32) (h6 : A6.IsWhole) (A10 : Memref sig .tc .vmem S512x1024 .i32) (h10 : A10.IsWhole)

/-- A tile's run from its products on. -/
def tailProg : Prog (TpuEff nD τ sig (Elt F) Λ₀ .tc) PUnit := do
  let v21 : Elt F .i32 ← smemLoad (Memref.whole main_arg4) (Rect.unit (s := S80) (k0_off23 i) S1.size (k0_off23_inb i)) numel1_S1 rfl
  if h5 : k0_cond5 v21 = 1#1 then do
    let v30 : Vec F S512x1024 .i32 ← Prog.lift (.load A6 (Rect.unit (s := S512x1024) ![0, 0] S512x1024.size inb_S512x1024_S512x1024_0_0).toLoadRect (View.loadsAt_vmem h_S512x1024))
    let v35 : Vec F S1024x512 .bf16 ← Prog.lift (.load (Memref.whole cc0_scratch3) (Rect.unit (s := S2048x512) ![0, 0] S1024x512.size inb_S2048x512_S1024x512_0_0).toLoadRect (View.loadsAt_vmem h_S1024x512))
    let v37 : Vec F S1024x512 .bf16 ← Prog.lift (.load (Memref.whole cc0_scratch3) (Rect.unit (s := S2048x512) ![1024, 0] S1024x512.size inb_S2048x512_S1024x512_1024_0).toLoadRect (View.loadsAt_vmem h_S1024x512))
    let v40 : Vec F S1024x512 .bf16 ← Prog.lift (.load (Memref.whole cc0_scratch4) (Rect.unit (s := S2048x512) ![0, 0] S1024x512.size inb_S2048x512_S1024x512_0_0).toLoadRect (View.loadsAt_vmem h_S1024x512))
    let v42 : Vec F S1024x512 .bf16 ← Prog.lift (.load (Memref.whole cc0_scratch4) (Rect.unit (s := S2048x512) ![1024, 0] S1024x512.size inb_S2048x512_S1024x512_1024_0).toLoadRect (View.loadsAt_vmem h_S1024x512))
    let v53 : Vec F S512x2048 .bf16 ← Prog.lift (.load (Memref.whole cc0_scratch5) (Rect.unit (s := S512x2048) ![0, 0] S512x2048.size inb_S512x2048_S512x2048_0_0).toLoadRect (View.loadsAt_vmem h_S512x2048))
    let v58 : Vec F S512x1024 .i32 ← Prog.lift (.load A10 (Rect.unit (s := S512x1024) ![0, 0] S512x1024.size inb_S512x1024_S512x1024_0_0).toLoadRect (View.loadsAt_vmem h_S512x1024))
    Prog.lift (.store A10 (Rect.unit (s := S512x1024) ![0, 0] S512x1024.size inb_S512x1024_S512x1024_0_0) (k0_pay3 v30 v35 v37 v40 v42 v53) Finset.univ (View.stores_vmem_bits_univ h_S512x1024 rfl) (.inl rfl))
    pure ⟨⟩
  else do
    pure ⟨⟩
  let v26 : Elt F .i32 ← smemLoad (Memref.whole main_arg4) (Rect.unit (s := S80) (k0_off24 i) S1.size (k0_off24_inb i)) numel1_S1 rfl
  if h6_ : k0_cond6 v26 = 1#1 then do
    k0_part2 i (Memref.whole main_arg0) (Memref.isWhole_whole main_arg0) (Memref.whole main_arg1) (Memref.isWhole_whole main_arg1) (Memref.whole main_arg2) (Memref.isWhole_whole main_arg2) (Memref.whole main_arg3) (Memref.isWhole_whole main_arg3) (Memref.whole main_arg4) (Memref.isWhole_whole main_arg4) A6 h6 (Memref.whole main_arg6) (Memref.isWhole_whole main_arg6) (Memref.whole main_arg7) (Memref.isWhole_whole main_arg7) (Memref.whole main_arg8) (Memref.isWhole_whole main_arg8) A10 h10 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) cc0_scratch6
    pure ⟨⟩
  else do
    pure ⟨⟩

/-- A tile's run from the expert's change on. -/
def midProg (v0 : Elt F .i32) (h1 : k0_cond1 i v0 = 1#1) (v5 v7 : Elt F .i32) : Prog (TpuEff nD τ sig (Elt F) Λ₀ .tc) PUnit := do
  let v15 : Elt F .i32 ← smemLoad (Memref.whole main_arg0) (Rect.unit (s := S80) (k0_off9 i) S1.size (k0_off9_inb i)) numel1_S1 rfl
  have hw3 : k0_chk3 i v0 v5 v7 v15 := (← Prog.lift (TpuEff.assume (k0_chk3 i v0 v5 v7 v15) (k0_chk3.dec i v0 v5 v7 v15))).down
  if h3 : k0_cond3 i v5 v15 = 1#1 then do
    let v63 : FVec F S2048x512 .bf16 ← k0_part1 i (Memref.whole main_arg0) (Memref.isWhole_whole main_arg0) (Memref.whole main_arg1) (Memref.isWhole_whole main_arg1) (Memref.whole main_arg2) (Memref.isWhole_whole main_arg2) (Memref.whole main_arg3) (Memref.isWhole_whole main_arg3) (Memref.whole main_arg4) (Memref.isWhole_whole main_arg4) A6 h6 (Memref.whole main_arg6) (Memref.isWhole_whole main_arg6) (Memref.whole main_arg7) (Memref.isWhole_whole main_arg7) (Memref.whole main_arg8) (Memref.isWhole_whole main_arg8) A10 h10 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) cc0_scratch6 (BitVec.ofNat 32 (i 0).val) v0 h1 v5 v7 v15 hw3 h3
    let v64 : Vec F S2048x512 .bf16 ← Prog.lift (.load (Memref.whole cc0_scratch4) (Rect.unit (s := S2048x512) ![0, 0] S2048x512.size inb_S2048x512_S2048x512_0_0).toLoadRect (View.loadsAt_vmem h_S2048x512))
    Prog.lift (.store (Memref.whole cc0_scratch4) (Rect.unit (s := S2048x512) ![0, 0] S2048x512.size inb_S2048x512_S2048x512_0_0) (k0_pay1 v63) Finset.univ (View.stores_vmem h_S2048x512 ((Memref.isWhole_whole cc0_scratch4).storeExact_slice rfl _ packedbf16_S2048x512_S2048x512_0_0) (fun _ => rfl)) (.inl rfl))
    let v68 : Vec F S1x512x2048 .f32 ← Prog.lift (.load (Memref.whole cc0_scratch2) (Rect.unit (s := S2x512x2048) (k0_off22 v7) S1x512x2048.size (k0_off22_inb i v0 v5 v7 v15 hw3 h1 h3)).toLoadRect (View.loadsAt_vmem h_S1x512x2048))
    let v71 : Vec F S512x2048 .bf16 ← Prog.lift (.load (Memref.whole cc0_scratch5) (Rect.unit (s := S512x2048) ![0, 0] S512x2048.size inb_S512x2048_S512x2048_0_0).toLoadRect (View.loadsAt_vmem h_S512x2048))
    Prog.lift (.store (Memref.whole cc0_scratch5) (Rect.unit (s := S512x2048) ![0, 0] S512x2048.size inb_S512x2048_S512x2048_0_0) (k0_pay2 v68) Finset.univ (View.stores_vmem h_S512x2048 ((Memref.isWhole_whole cc0_scratch5).storeExact_slice rfl _ packedbf16_S512x2048_S512x2048_0_0) (fun _ => rfl)) (.inl rfl))
    pure ⟨⟩
  else do
    pure ⟨⟩
  tailProg i A6 h6 A10 h10

/-- The half tile: rows 0 to 255 are the products, rows 256 to 511 zero. -/
theorem part2 (X : S512x1024.Idx → Elt F .i32) (W3 W4 : S2048x512.Idx → Elt F .bf16) (W5 : S512x2048.Idx → Elt F .bf16) (Y : S512x1024.Idx → Elt F .i32)
    (Q : PUnit → sProp 𝕄) :
    iprop(castsAt c W3 W4 W5 ∗ owns (c : Thread nD τ) A6 fullShare X ∗ owns (c : Thread nD τ) A10 fullShare Y
      ∗ ((castsAt c W3 W4 W5 ∗ owns (c : Thread nD τ) A6 fullShare X
        ∗ owns (c : Thread nD τ) A10 fullShare (tileOut false X W3 W4 W5)) -∗ Q ⟨⟩))
      ⊢ wp frame (wpE (defs₀ (F := F)) Variants.none (c : Thread nD τ) none) Set.univ (k0_part2 i (Memref.whole main_arg0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) A6 h6 (Memref.whole main_arg6) (Memref.isWhole_whole _)
    (Memref.whole main_arg7) (Memref.isWhole_whole _) (Memref.whole main_arg8) (Memref.isWhole_whole _) A10 h10
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _) cc0_scratch6) Q := by
  rw [k0_part2_eq_skeleton]; unfold k0_part2_skel castsAt
  simp only [Prog.pure_eq_ret, Prog.lift, Prog.bind_op, Prog.bind_ret]
  iintro ⟨⟨H3, H4, H5⟩, H6, H10, HK⟩
  iapply (wp_load_owns c Q A6 fullShare X) $$ H6
  iintro H6
  iapply (wp_load_owns c Q (Memref.whole cc0_scratch3) fullShare W3) $$ H3
  iintro H3
  iapply (wp_load_owns c Q (Memref.whole cc0_scratch3) fullShare W3) $$ H3
  iintro H3
  iapply (wp_load_owns c Q (Memref.whole cc0_scratch4) fullShare W4) $$ H4
  iintro H4
  iapply (wp_load_owns c Q (Memref.whole cc0_scratch4) fullShare W4) $$ H4
  iintro H4
  iapply (wp_load_owns c Q (Memref.whole cc0_scratch5) fullShare W5) $$ H5
  iintro H5
  iapply (wp_load_owns c Q A10 fullShare Y) $$ H10
  iintro H10
  have h5 : (fun j => W5 ((Rect.unit (s := S512x2048) ![0, 0] S512x2048.size inb_S512x2048_S512x2048_0_0).emb j)) = W5 := View.ld_unit_zero off2_zero _ W5
  iapply (wp_store_owns c Q A10 Y _ (halves (k0_pay6 (topX X) (topW W3) (botW W3) (topW W4) (botW W4) W5) (fun j => Y (rHi.emb j)))
    (fun j => (halves_lo _ _ j).trans (congrArg (fun w => k0_pay6 (topX X) (topW W3) (botW W3) (topW W4) (botW W4) w j) h5.symm)) (fun y hy => halves_off_lo _ Y y hy)) $$ H10
  iintro H10
  iapply (wp_load_owns c Q A10 fullShare _) $$ H10
  iintro H10
  iapply (wp_store_owns c Q A10 (r := rHi) _ _ (tileOut false X W3 W4 W5)
    (fun j => halves_hi _ _ j) (fun y hy => halves_off_hi _ _ _ y hy)) $$ H10
  iintro H10
  rw [wp_ret]
  imodintro
  iapply HK
  isplitl [H3 H4 H5]
  · isplitl [H3]; · iexact H3
    isplitl [H4]; · iexact H4
    iexact H5
  isplitl [H6]; · iexact H6
  iexact H10

/-- From the products on: the tile's result is stored. -/
theorem tail_run {P : Tabs} (hP : Plan T0 T1 T2 T3 T4 P) (hi : (i 0).val < P.nu) (X : S512x1024.Idx → Elt F .i32) (W3 W4 : S2048x512.Idx → Elt F .bf16)
    (W5 : S512x2048.Idx → Elt F .bf16) (Y : S512x1024.Idx → Elt F .i32) (Q : PUnit → sProp 𝕄) :
    iprop(tabs c T0 T2 T3 T4 T1 ∗ castsAt c W3 W4 W5 ∗ owns (c : Thread nD τ) A6 fullShare X ∗ owns (c : Thread nD τ) A10 fullShare Y
      ∗ ((tabs c T0 T2 T3 T4 T1 ∗ castsAt c W3 W4 W5 ∗ owns (c : Thread nD τ) A6 fullShare X
        ∗ owns (c : Thread nD τ) A10 fullShare (tileOut (P.fl (i 0).val) X W3 W4 W5)) -∗ Q ⟨⟩))
      ⊢ wp frame (wpE (defs₀ (F := F)) Variants.none (c : Thread nD τ) none) Set.univ (tailProg i A6 h6 A10 h10) Q := by
  have hw := hP.w4 _ hi
  have h5 : (fun j => W5 ((Rect.unit (s := S512x2048) ![0, 0] S512x2048.size inb_S512x2048_S512x2048_0_0).emb j)) = W5 := View.ld_unit_zero off2_zero _ W5
  have hX : (fun j => X ((Rect.unit (s := S512x1024) ![0, 0] S512x1024.size inb_S512x1024_S512x1024_0_0).emb j)) = X := View.ld_unit_zero off2_zero _ X
  unfold tailProg tabs
  simp only [smemLoad, smemLoadElt_bind, Prog.pure_eq_ret, Prog.lift, Prog.bind_op, Prog.bind_ret]
  iintro ⟨⟨Ht0, Ht1, Ht2, Ht3, Ht4⟩, HC, H6, H10, HK⟩
  iapply (wp_word c Q (Memref.whole main_arg4) T4 (off23_eq i) hw) $$ Ht4
  iintro Ht4
  generalize P.fl (i 0).val = b at hw
  cases b
  · rw [dif_neg (fun h => Bool.noConfusion ((cond5_iff false).1 h))]
    iapply (wp_word c Q (Memref.whole main_arg4) T4 (off24_eq i) hw) $$ Ht4
    iintro Ht4
    rw [dif_pos ((cond6_iff false).2 rfl), wp_bind]
    iapply (part2 c i A6 h6 A10 h10 X W3 W4 W5 Y _)
    isplitl [HC]; · iexact HC
    isplitl [H6]; · iexact H6
    isplitl [H10]; · iexact H10
    iintro ⟨HC, H6, H10⟩
    rw [wp_ret]
    imodintro
    iapply HK
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [HC]; · iexact HC
    isplitl [H6]; · iexact H6
    iexact H10
  · rw [dif_pos ((cond5_iff true).2 rfl)]
    unfold castsAt
    icases HC with ⟨H3, H4, H5⟩
    iapply (wp_load_owns c Q A6 fullShare X) $$ H6
    iintro H6
    iapply (wp_load_owns c Q (Memref.whole cc0_scratch3) fullShare W3) $$ H3
    iintro H3
    iapply (wp_load_owns c Q (Memref.whole cc0_scratch3) fullShare W3) $$ H3
    iintro H3
    iapply (wp_load_owns c Q (Memref.whole cc0_scratch4) fullShare W4) $$ H4
    iintro H4
    iapply (wp_load_owns c Q (Memref.whole cc0_scratch4) fullShare W4) $$ H4
    iintro H4
    iapply (wp_load_owns c Q (Memref.whole cc0_scratch5) fullShare W5) $$ H5
    iintro H5
    iapply (wp_load_owns c Q A10 fullShare Y) $$ H10
    iintro H10
    iapply (wp_store_owns c Q A10 Y _ (tileOut true X W3 W4 W5)
      (fun j => (congrFun (View.ld_unit_zero off2_zero _ (tileOut true X W3 W4 W5)) j).trans
        (congrArg₂ (fun x w => k0_pay3 x (topW W3) (botW W3) (topW W4) (botW W4) w j) hX.symm h5.symm))
      (fun y hy => absurd (View.mem_set_unit_zero off2_zero _ y) hy)) $$ H10
    iintro H10
    iapply (wp_word c Q (Memref.whole main_arg4) T4 (off24_eq i) hw) $$ Ht4
    iintro Ht4
    rw [dif_neg (fun h => Bool.noConfusion ((cond6_iff true).1 h)), wp_ret]
    imodintro
    iapply HK
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [H3 H4 H5]
    · isplitl [H3]; · iexact H3
      isplitl [H4]; · iexact H4
      iexact H5
    isplitl [H6]; · iexact H6
    iexact H10

end Parts

end Cert.Kernel.Run
-- ==== Proof.Machine.Read.lean ====
/-
The read kernel over its grid: each point turns a tile of the expert kernel's packed rows into a tile of f32 rows, the
low halves of the words in the first 1024 columns and the high halves in the last 1024.
-/
module

public import proofs.«01_k».proof.Proof.Machine.Ends
public import proofs.«01_k».proof.Proof.Gen.Kernel.Points

@[expose] public section

set_option maxRecDepth 16384

noncomputable section

namespace Cert.Kernel.Run

open Cert.Kernel Cert.Kernel.Gen
open Idealize.ShloMosaic Idealize.ShloMosaic.TcCoe Idealize.ShloMosaic.Tactic
open Cert.Tables (at80 word nextWord Tabs Plan)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The proof's resource algebra: the pipeline's beside the transfers' counters. -/
local notation "𝕄" => MT nD τ sig Unit (Elt F) ℕ (Pipeline.UD sig nD τ) ℕ

/-- A packed tile. -/
abbrev Packed (F : FTy → Type) := S512x1024.Idx → Elt F .i32

/-- The low halves of a packed tile's words, as f32. -/
def lows (X : Packed F) : Vec F S512x1024 .f32 :=
  k1_pay2 X
/-- The high halves of a packed tile's words, as f32. -/
def highs (X : Packed F) : Vec F S512x1024 .f32 :=
  k1_pay3 X

/-- An entry's place in its half of the columns. -/
def inHalf (y : S512x2048.Idx) : S512x1024.Idx :=
  fun | ⟨0, _⟩ => ⟨(y 0).val, (y 0).isLt⟩ | ⟨1, _⟩ => ⟨(y 1).val % 1024, Nat.mod_lt _ (by decide)⟩

/-- The tile of which the first 1024 columns are `lo` and the rest is as in `Y`. -/
def withLow (lo : Vec F S512x1024 .f32) (Y : S512x2048.Idx → Elt F .f32) : S512x2048.Idx → Elt F .f32 :=
  fun y => if (y 1).val < 1024 then lo (inHalf y) else Y y
/-- What a point of the read kernel stores. -/
def readOut (X : Packed F) : S512x2048.Idx → Elt F .f32 :=
  fun y => if (y 1).val < 1024 then lows X (inHalf y) else highs X (inHalf y)

abbrev rL : Rect S512x2048 := Rect.unit (s := S512x2048) ![0, 0] S512x1024.size inb_S512x2048_S512x1024_0_0
abbrev rR : Rect S512x2048 := Rect.unit (s := S512x2048) ![0, 1024] S512x1024.size inb_S512x2048_S512x1024_0_1024

theorem rL_col (j : S512x1024.Idx) : ((rL.emb j) 1).val = (j 1).val := by show 0 + 1 * (j 1).val = _; omega
theorem rR_col (j : S512x1024.Idx) : ((rR.emb j) 1).val = 1024 + (j 1).val := by show 1024 + 1 * (j 1).val = _; omega

theorem inHalf_L (j : S512x1024.Idx) : inHalf (rL.emb j) = j := by
  have hj : (j 1).val < 1024 := (j 1).isLt
  funext a; apply Fin.ext
  match a with
  | ⟨0, _⟩ => show 0 + 1 * (j 0).val = _; simp
  | ⟨1, _⟩ => show ((rL.emb j) 1).val % 1024 = _; rw [rL_col]; exact Nat.mod_eq_of_lt hj
theorem inHalf_R (j : S512x1024.Idx) : inHalf (rR.emb j) = j := by
  have hj : (j 1).val < 1024 := (j 1).isLt
  funext a; apply Fin.ext
  match a with
  | ⟨0, _⟩ => show 0 + 1 * (j 0).val = _; simp
  | ⟨1, _⟩ =>
    show ((rR.emb j) 1).val % 1024 = (j 1).val
    rw [rR_col]; omega

theorem mem_rL {y : S512x2048.Idx} (h : (y 1).val < 1024) : y ∈ rL.set :=
  Rect.mem_set_unit.mpr fun a => match a with
    | ⟨0, _⟩ => ⟨Nat.zero_le _, by show (y 0).val < 0 + 512; have : (y 0).val < 512 := (y 0).isLt; omega⟩
    | ⟨1, _⟩ => ⟨Nat.zero_le _, by show (y 1).val < 0 + 1024; omega⟩
theorem mem_rR {y : S512x2048.Idx} (h : ¬ (y 1).val < 1024) : y ∈ rR.set :=
  Rect.mem_set_unit.mpr fun a => match a with
    | ⟨0, _⟩ => ⟨Nat.zero_le _, by show (y 0).val < 0 + 512; have : (y 0).val < 512 := (y 0).isLt; omega⟩
    | ⟨1, _⟩ => ⟨by show 1024 ≤ (y 1).val; omega, by show (y 1).val < 1024 + 1024; have : (y 1).val < 2048 := (y 1).isLt; omega⟩

theorem withLow_on (lo : Vec F S512x1024 .f32) (Y : S512x2048.Idx → Elt F .f32) (j : S512x1024.Idx) : withLow lo Y (rL.emb j) = lo j := by
  unfold withLow; rw [if_pos (by rw [rL_col]; exact (j 1).isLt), inHalf_L]
theorem withLow_off (lo : Vec F S512x1024 .f32) (Y : S512x2048.Idx → Elt F .f32) (y : S512x2048.Idx) (h : y ∉ rL.set) : withLow lo Y y = Y y := by
  unfold withLow; exact if_neg fun h' => h (mem_rL h')
theorem readOut_on (X : Packed F) (j : S512x1024.Idx) : readOut X (rR.emb j) = highs X j := by
  unfold readOut; rw [if_neg (by rw [rR_col]; omega), inHalf_R]
theorem readOut_off (X : Packed F) (Y : S512x2048.Idx → Elt F .f32) (y : S512x2048.Idx) (h : y ∉ rR.set) :
    readOut X y = withLow (lows X) Y y := by
  have hy : (y 1).val < 1024 := by by_contra h'; exact h (mem_rR h')
  unfold readOut withLow; rw [if_pos hy, if_pos hy]

/-- The whole of a packed tile, at offset zero. -/
theorem packed_whole (X : Packed F) :
    (fun j => X ((Rect.unit (s := S512x1024) ![0, 0] S512x1024.size inb_S512x1024_S512x1024_0_0).emb j)) = X :=
  View.ld_unit_zero (by funext a; fin_cases a <;> rfl) _ X

section

variable (c : Dev nD)

/-- One point's body. -/
theorem read_tile (i : grid1.Coords) (A1 : Memref sig .tc .vmem S512x1024 .i32) (h1 : A1.IsWhole) (A2 : Memref sig .tc .vmem S512x2048 .f32) (h2 : A2.IsWhole)
    (X : Packed F) (Y : S512x2048.Idx → Elt F .f32) (Q : PUnit → sProp 𝕄) :
    iprop(owns (c : Thread nD τ) A1 fullShare X ∗ owns (c : Thread nD τ) A2 fullShare Y
      ∗ ((owns (c : Thread nD τ) A1 fullShare X ∗ owns (c : Thread nD τ) A2 fullShare (readOut X)) -∗ Q ⟨⟩))
      ⊢ wp frame (wpE (defs₀ (F := F)) Variants.none (c : Thread nD τ) none) Set.univ (cc1_read i A1 h1 A2 h2) Q := by
  rw [cc1_read_eq_skeleton]; unfold cc1_read_skel
  simp only [Prog.pure_eq_ret, Prog.lift, Prog.bind_op, Prog.bind_ret]
  iintro ⟨H1, H2, HK⟩
  iapply (wp_load_owns c Q A1 fullShare X) $$ H1
  iintro H1
  iapply (wp_load_owns c Q A2 fullShare Y) $$ H2
  iintro H2
  iapply (wp_store_owns c Q A2 (r := rL) Y _ (withLow (lows X) Y)
    (fun j => (withLow_on (lows X) Y j).trans (congrArg (fun w => lows w j) (packed_whole X).symm)) (fun y hy => withLow_off _ Y y hy)) $$ H2
  iintro H2
  iapply (wp_load_owns c Q A2 fullShare (withLow (lows X) Y)) $$ H2
  iintro H2
  iapply (wp_store_owns c Q A2 (r := rR) (withLow (lows X) Y) _ (readOut X)
    (fun j => (readOut_on X j).trans (congrArg (fun w => highs w j) (packed_whole X).symm)) (fun y hy => readOut_off X Y y hy)) $$ H2
  iintro H2
  rw [wp_ret]
  imodintro
  iapply HK
  isplitl [H1]; · iexact H1
  iexact H2

/-- Row `j` of tile `n` of the packed rows. -/
def packAt (n : ℕ) (j : S512x1024.Idx) : S40960x1024.Idx :=
  fun | ⟨0, _⟩ => ⟨(n * 512 + (j 0).val) % 40960, row_lt _⟩ | ⟨1, _⟩ => ⟨(j 1).val, (j 1).isLt⟩
/-- Tile `n` of the packed rows. -/
def packed (B : S40960x1024.Idx → Elt F .i32) (n : ℕ) : Packed F := fun j => B (packAt n j)

variable (B : S40960x1024.Idx → Elt F .i32) (O : S40960x2048.Idx → Elt F .f32)

/-- The read kernel's proof data. -/
def dat1 : Dat τ (Elt F) Unit ℕ (Pipeline.UD sig nD τ) ℕ (cfg1) c where
  A w := match w with
    | ⟨0, _⟩ => B
    | ⟨1, _⟩ => O
  after w t := match w with
    | ⟨0, _⟩ => packed B t.val
    | ⟨1, _⟩ => readOut (packed B t.val)
  Φ _ := iprop(Pipeline.scopedRest spec1 c ∗ ∃ r, prngReg c r)
  q _ := fullShare
  owed _ := 0

theorem dat1_A0 : (dat1 c B O).A 0 = B := rfl

theorem coords1_val (t : Fin cfg1.N) : (grid1.coords t 0).val = t.val := by
  have hN : t.val < 80 := lt_of_lt_of_eq t.isLt N_1
  show t.val / 1 % 80 = t.val
  rw [Nat.div_one, Nat.mod_eq_of_lt hN]

theorem read_index (i : grid1.Coords) : cc1_transform_0 i = ![(i 0).val, 0] ∧ cc1_transform_1 i = ![(i 0).val, 0] := by
  have h : (BitVec.ofNat 32 (i 0).val).toNat = (i 0).val := by
    rw [BitVec.toNat_ofNat]; exact Nat.mod_eq_of_lt (lt_trans (i 0).isLt (by decide))
  constructor
  · show ![(BitVec.ofNat 32 (i 0).val).toNat, 0] = _; rw [h]
  · show ![(BitVec.ofNat 32 (i 0).val).toNat, 0] = _; rw [h]

theorem block1 (t : Fin cfg1.N) : (dat1 c B O).blockOf 0 t = packed B t.val := by
  have hix := (read_index (grid1.coords t)).1.trans (by rw [coords1_val t] : _ = ![t.val, 0])
  have hN : t.val < 80 := lt_of_lt_of_eq t.isLt N_1
  refine funext fun (j : S512x1024.Idx) => congrArg B (funext fun a => Fin.ext ?_)
  match a with
  | ⟨0, _⟩ =>
    show cc1_transform_0 (grid1.coords t) 0 * 512 + 1 * (j 0).val = (t.val * 512 + (j 0).val) % 40960
    rw [hix]
    have hj : (j 0).val < 512 := (j 0).isLt
    show t.val * 512 + 1 * (j 0).val = _
    omega
  | ⟨1, _⟩ =>
    show cc1_transform_0 (grid1.coords t) 1 * 1024 + 1 * (j 1).val = (j 1).val
    rw [hix]
    show 0 * 1024 + 1 * (j 1).val = _
    omega

theorem before1_0 (t : Fin cfg1.N) (d) : (dat1 c B O).before 0 t d = packed B t.val :=
  ((dat1 c B O).before_in_eq_fetched 0 rfl (fun _ => rfl) (fun _ _ _ => rfl)
    (fun t => (block1 c B O t).symm) t d).trans (block1 c B O t)

theorem defs₀_read (t : Fin cfg1.N) :
    defs₀ (F := F) .tc (cfg1).body ((cfg1).bodyArgs t ((cfg1).slots t)) = bodyAt1 t := by
  unfold defs₀; rw [Defs.onTc_tc]

/-- A point's body over the proof data. -/
theorem read_point (t : Fin cfg1.N) (A1 h1 A2 h2) :
    iprop((dat1 c B O).Φ t.castSucc ∗ (dat1 c B O).owesAt () t.castSucc
      ∗ (∃ d, owns (c : Thread nD τ) A1 fullShare ((dat1 c B O).before 0 t d))
      ∗ (∃ d, owns (c : Thread nD τ) A2 fullShare ((dat1 c B O).before 1 t d)))
    ⊢ wp frame (wpE (defs₀ (F := F)) Variants.none (c : Thread nD τ) none) Set.univ (cc1_read (grid1.coords t) A1 h1 A2 h2) (fun _ =>
      iprop((dat1 c B O).Φ t.succ ∗ (dat1 c B O).owesAt () t.succ
        ∗ owns (c : Thread nD τ) A1 fullShare ((dat1 c B O).after 0 t)
        ∗ owns (c : Thread nD τ) A2 fullShare ((dat1 c B O).after 1 t))) := by
  show iprop((Pipeline.scopedRest spec1 c ∗ ∃ r, prngReg c r) ∗ _ ∗ _ ∗ _) ⊢ wp _ _ _ _ (fun _ => iprop((Pipeline.scopedRest spec1 c ∗ ∃ r, prngReg c r) ∗ _ ∗ _ ∗ _))
  unfold Dat.owesAt Pipeline.owesWithin
  iintro ⟨HP, ⟨%W, -, HO⟩, ⟨%d0, H0⟩, %d1, H1⟩
  ihave H0 := (owns_at c A1 (before1_0 c B O t d0)) $$ H0
  iapply (read_tile c (grid1.coords t) A1 h1 A2 h2 (packed B t.val) _ _)
  isplitl [H0]; · iexact H0
  isplitl [H1]; · iexact H1
  iintro ⟨H0, H1⟩
  isplitl [HP]; · iexact HP
  isplitl [HO]
  · iexists W; isplitr; · ipureintro; exact fun _ _ => Or.inl trivial
    iexact HO
  isplitl [H0]; · iexact H0
  iexact H1

theorem read_obligation : BodyObligation (dat1 c B O) (defs₀ (F := F)) Variants.none () Set.univ := fun t => by
  rw [bigSep_W1, bigSep_W1, defs₀_read]
  exact read_point c B O t _ _ _ _

end

end Cert.Kernel.Run
end
-- ==== Proof.Machine.Frame.lean ====
/-
The frame of `Kernel`: from the precondition, the tables are a plan; from a plan, the run of both launches and the
host lines; it leaves the arguments as they were and every semaphore at zero.
-/
module

public import proofs.«01_k».proof.Defs
public import proofs.«01_k».proof.Proof.Machine.Run

@[expose] public section

set_option maxRecDepth 16384

noncomputable section

namespace Cert.Kernel.Run

open Cert.Kernel Cert.Kernel.Gen
open Idealize.ShloMosaic Idealize.ShloMosaic.TcCoe
open Idealize.SL.Sem
open Cert.Tables (Plan Tabs numbers plan_exists)

/-- The five tables of a memory in numbers. -/
def plan (m : (ℓ : Loc nD τ sig) → Buf (Elt Bits) ℓ) : Tabs :=
  numbers (tables m 0) (tables m 1) (tables m 2) (tables m 3) (tables m 4)

/-- Under the precondition the tables in memory are a plan. -/
theorem good_of_pre (m : (ℓ : Loc nD τ sig) → Buf (Elt Bits) ℓ) (h : Cert.Pre_Kernel m) : Good (tables m) (plan m) :=
  plan_exists (h 0).1 (h 0).2.1 (h 0).2.2.1 (h 0).2.2.2

/-- No argument's buffer is scoped. -/
theorem frame (m : (ℓ : Loc nD τ sig) → Buf (Elt Bits) ℓ) (ρ : Dev nD → PrngReg) (h : Cert.Pre_Kernel m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) := by
  refine (run m (good_of_pre m h) ρ).mono fun r hr => ⟨fun c => ?_, hr.2⟩
  exact ⟨(hr.1 c main_arg0 rfl).trans (V4_main_arg0 m _ c), (hr.1 c main_arg1 rfl).trans (V4_main_arg1 m _ c),
    (hr.1 c main_arg2 rfl).trans (V4_main_arg2 m _ c), (hr.1 c main_arg3 rfl).trans (V4_main_arg3 m _ c),
    (hr.1 c main_arg4 rfl).trans (V4_main_arg4 m _ c), (hr.1 c main_arg5 rfl).trans (V4_main_arg5 m _ c),
    (hr.1 c main_arg6 rfl).trans (V4_main_arg6 m _ c), (hr.1 c main_arg7 rfl).trans (V4_main_arg7 m _ c),
    (hr.1 c main_arg8 rfl).trans (V4_main_arg8 m _ c)⟩

end Cert.Kernel.Run

end
-- ==== Proof.Projection.Entry.lean ====
/-
The input projection, entry by entry, as one formula over the argument arrays: a token's row is brought to unit mean
square, scaled by the norm's gain, modulated, and multiplied into a column of the weights; a head's query or key is
then brought to unit mean square itself.
-/
module

public import Idealize.ShloMosaic.Lib.Pointwise

@[expose] public section

noncomputable section

namespace Cert.Projection

open Idealize.ShloMosaic

/-- What a row of `n` numbers, whose squares sum to `s`, is multiplied by to have unit mean square: `count` is `n` and
    `897988541` is 1e-6, both as bits of a 32-bit float. -/
def unit (count : BitVec 32) (s : EReal) : EReal :=
  Ideal.rsqrt (Ideal.div s (Ideal.ofBits FTy.f32 count) + Ideal.ofBits FTy.f32 897988541#32)

/-- Entry `j` of a token's row `x` after the norm with gains `g`, the scale `a` and the shift `b`. -/
def hidden (x g a b : Fin 2048 → EReal) (j : Fin 2048) : EReal :=
  x j * unit 1157627904#32 (∑ i, x i * x i) * g j * (1 + a j) + b j

/-- That row times a column `w` of the weights. -/
def product (x g a b w : Fin 2048 → EReal) : EReal := ∑ j, hidden x g a b j * w j

/-- Entry `d` of a head `p` after its norm with gains `g`. -/
def headed (p g : Fin 128 → EReal) (d : Fin 128) : EReal := p d * unit 1124073472#32 (∑ i, p i * p i) * g d

/-- The norm of a head from its columns one by one. -/
theorem headed_of {p u : EReal} {f P g : Fin 128 → EReal} {d : Fin 128} (hp : p = P d) (hf : ∀ e, f e = P e) (hu : u = g d) :
    p * Ideal.rsqrt (Ideal.div (∑ e, f e * f e) (Ideal.ofBits FTy.f32 1124073472#32) + Ideal.ofBits FTy.f32 897988541#32) * u
      = headed P g d := by
  obtain rfl : f = P := funext hf
  subst hp hu
  rfl

section

variable (X : (⟨2, ![4096, 2048]⟩ : Shape).Idx → EReal) (M : (⟨3, ![8, 1, 12288]⟩ : Shape).Idx → EReal)
variable (G : (⟨2, ![1, 2048]⟩ : Shape).Idx → EReal) (W : (⟨2, ![2048, 5648]⟩ : Shape).Idx → EReal)

/-- Token `r` times column `n` of the weights, from the argument arrays: row 4 of the modulation holds the shift in its
    first 2048 columns and the scale in the next. -/
def projected (r : Fin 4096) (n : Fin 5648) : EReal :=
  product (fun j => X (ix2 r j)) (fun j => G (ix2 0 j)) (fun j => M (ix3 4 0 ⟨2048 + j, by omega⟩))
    (fun j => M (ix3 4 0 ⟨j, by omega⟩)) (fun j => W (ix2 j n))

/-- `projected` spelt out, at a column given by its number. -/
theorem projected_of (r : Fin 4096) {n n' : Fin 5648} (h : n.val = n'.val) :
    ∑ j : Fin 2048, (X (ix2 r j) * Ideal.rsqrt (Ideal.div (∑ i : Fin 2048, X (ix2 r i) * X (ix2 r i)) (Ideal.ofBits FTy.f32 1157627904#32)
        + Ideal.ofBits FTy.f32 897988541#32) * G (ix2 0 j) * (1 + M (ix3 4 0 ⟨2048 + j, by omega⟩)) + M (ix3 4 0 ⟨j, by omega⟩)) * W (ix2 j n)
      = projected X M G W r n' := by
  obtain rfl : n = n' := Fin.ext h
  rfl

/-- Place `d` of token `r`'s head that begins at column `o`, after its norm with the gains `N`. -/
def normed (N : (⟨2, ![1, 128]⟩ : Shape).Idx → EReal) (o : ℕ) (h : o + 128 ≤ 5632) (d : Fin 128) (r : Fin 4096) : EReal :=
  headed (fun d => projected X M G W r ⟨o + d, by omega⟩) (fun d => N (ix2 0 d)) d

/-! ## The results, entry by entry -/

/-- The `w` columns from column `o` on. -/
def slice {w : ℕ} (o : ℕ) (h : o + w ≤ 5632) (i : (⟨2, ![4096, w]⟩ : Shape).Idx) : EReal :=
  projected X M G W (i 0) ⟨o + (i 1).val, by have : (i 1).val < w := (i 1).isLt; omega⟩

/-- The heads in the `w` columns from column `o` on, each after its norm with the gains `N`. -/
def heads {w : ℕ} (N : (⟨2, ![1, 128]⟩ : Shape).Idx → EReal) (o : ℕ) (h : o + w ≤ 5632 ∧ w % 128 = 0)
    (i : (⟨2, ![4096, w]⟩ : Shape).Idx) : EReal :=
  normed X M G W N (o + (i 1).val / 128 * 128) (by have : (i 1).val < w := (i 1).isLt; omega)
    ⟨(i 1).val % 128, Nat.mod_lt _ (by decide)⟩ (i 0)

/-- The 1024 columns from column 2560 on, chunk of 256 tokens by chunk, each chunk transposed. -/
def chunks (i : (⟨3, ![16, 1024, 256]⟩ : Shape).Idx) : EReal :=
  projected X M G W ⟨(i 0).val * 256 + (i 2).val, by
      have h0 : (i 0).val < 16 := (i 0).isLt
      have h2 : (i 2).val < 256 := (i 2).isLt
      omega⟩
    ⟨2560 + (i 1).val, by have : (i 1).val < 1024 := (i 1).isLt; omega⟩

end

end Cert.Projection

end
-- ==== Proof.Projection.Block.lean ====
/-
What one grid point of the projection kernel leaves in its output blocks, entry by entry.
-/
module

public import proofs.«01_k».proof.Proof.Gen.Kernel2Ideal.Frame
public import proofs.«01_k».proof.Proof.Projection.Entry
public import Idealize.ShloMosaic.Lib.Pipeline.ValueKit.Acc
public import Idealize.ShloMosaic.Lib.Pipeline.ValueKit.Tiles

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Cert.Projection

variable (x0 : Vec Ideal S512x2048 .f32) (x1 : Vec Ideal S1x1x12288 .f32) (x2 : Vec Ideal S1x2048 .f32)
variable (x3 : Vec Ideal S2048x5632 .bf16) (x4 : Vec Ideal S2048x256 .bf16) (x5 x6 x7 : Vec Ideal S1x128 .f32)
variable (x8 x9 : Vec Ideal S512x128 .f32)

/-- Row `r` of the block times column `n` of the weights. -/
def blockAt (r : Fin 512) (n : Fin 5632) : EReal :=
  product (fun j => x0 (ix2 r j)) (fun j => x2 (ix2 0 j)) (fun j => x1 (ix3 0 0 ⟨2048 + j, by omega⟩))
    (fun j => x1 (ix3 0 0 ⟨j, by omega⟩)) (fun j => x3 (ix2 j n))

/-- Place `d` of row `r`'s head that begins at column `o`, after its norm. -/
def blockHead (g : Vec Ideal S1x128 .f32) (o : ℕ) (h : o + 128 ≤ 5632) (d : Fin 128) (r : Fin 512) : EReal :=
  headed (fun d => blockAt x0 x1 x2 x3 r ⟨o + d, by omega⟩) (fun d => g (ix2 0 d)) d

/-- The normalised and modulated rows. -/
theorem hidden_at (r : Fin 512) (j : Fin 2048) : k0_pay1 x1 x0 x2 (ix2 r j) =
    hidden (fun j => x0 (ix2 r j)) (fun j => x2 (ix2 0 j)) (fun j => x1 (ix3 0 0 ⟨2048 + j, by omega⟩))
      (fun j => x1 (ix3 0 0 ⟨j, by omega⟩)) j := by
  pointwise [k0_pay1]
  rfl

theorem sum_at (r : Fin 512) (n : Fin 5632) : ∑ j, k0_pay1 x1 x0 x2 (ix2 r j) * x3 (ix2 j n) = blockAt x0 x1 x2 x3 r n :=
  Finset.sum_congr rfl fun j _ => congrArg (· * _) (hidden_at x0 x1 x2 r j)

theorem column_at (r : Fin 512) {n n' : Fin 5632} (h : n.val = n'.val) :
    ∑ j, k0_pay1 x1 x0 x2 (ix2 r j) * x3 (ix2 j n) = blockAt x0 x1 x2 x3 r n' :=
  (sum_at x0 x1 x2 x3 r n).trans (congrArg _ (Fin.ext h))

theorem out13_at (r : Fin 512) (k : Fin 1024) : out0_13 x0 x1 x2 x3 x4 x5 x6 x7 x8 x9 (ix2 r k) =
    blockAt x0 x1 x2 x3 r ⟨1536 + k, by omega⟩ * Ideal.ofBits FTy.f32 1031798784#32 := by
  unfold out0_13 k0_pay77; frame_out
  pointwise [k0_pay71, k0_pay2]
  exact congrArg (· * _) (sum_at x0 x1 x2 x3 _ _)

theorem out15_at (r : Fin 512) (k : Fin 1024) : out0_15 x0 x1 x2 x3 x4 x5 x6 x7 x8 x9 (ix2 r k) =
    blockAt x0 x1 x2 x3 r ⟨3584 + k, by omega⟩ := by
  unfold out0_15 k0_pay77; frame_out
  pointwise [k0_pay75, k0_pay2]
  exact sum_at x0 x1 x2 x3 _ _

theorem out16_at (r : Fin 512) (k : Fin 1024) : out0_16 x0 x1 x2 x3 x4 x5 x6 x7 x8 x9 (ix2 r k) =
    blockAt x0 x1 x2 x3 r ⟨4608 + k, by omega⟩ := by
  unfold out0_16 k0_pay77; frame_out
  pointwise [k0_pay76, k0_pay2]
  exact sum_at x0 x1 x2 x3 _ _

theorem out12_at (r : Fin 512) (k : Fin 256) : out0_12 x0 x1 x2 x3 x4 x5 x6 x7 x8 x9 (ix2 r k) =
    blockAt x0 x1 x2 x3 r ⟨1280 + k, by omega⟩ := by
  unfold out0_12 k0_pay109 k0_pay77; frame_out
  pointwise [k0_pay70, k0_pay69, k0_pay2, k0_pay64]
  exact column_at x0 x1 x2 x3 r (by dsimp only; omega)

theorem out20_at (r : Fin 512) (k : Fin 256) : out0_20 x0 x1 x2 x3 x4 x5 x6 x7 x8 x9 (ix2 r k) =
    blockAt x0 x1 x2 x3 r ⟨1280 + k, by omega⟩ := by
  unfold out0_20 k0_pay109 k0_pay77; frame_out
  pointwise [k0_pay69, k0_pay2, k0_pay64]
  exact column_at x0 x1 x2 x3 r (by dsimp only; omega)

theorem out10_at (r : Fin 512) (k : Fin 1024) : out0_10 x0 x1 x2 x3 x4 x5 x6 x7 x8 x9 (ix2 r k) =
    blockHead x0 x1 x2 x3 x6 (0 + k / 128 * 128) (by omega) ⟨k % 128, by omega⟩ r * Ideal.ofBits FTy.f32 1040356334#32 := by
  unfold out0_10 k0_pay108 k0_pay77; frame_out
  canon_tiles x h using cover0_10 ..
  all_goals
    obtain ⟨r', d, rfl⟩ : ∃ (r' : Fin 512) (d : Fin 128), x = ix2 r' d := ⟨x 0, x 1, eq_ix2 x⟩
    obtain rfl : r = r' := Fin.ext h0
    replace h1 : k.val = _ := h1
    rw [show ((ix2 r d : S512x128.Idx) 1).val = d.val from rfl] at h1
  all_goals pointwise [k0_pay50, k0_pay51, k0_pay52, k0_pay53, k0_pay54, k0_pay55, k0_pay56, k0_pay57, k0_pay58, k0_pay59, k0_pay60, k0_pay61, k0_pay62, k0_pay63, k0_pay2]
  all_goals
    refine congrArg (· * _) (headed_of ?_ (fun e => ?_) ?_)
    · exact column_at x0 x1 x2 x3 r (by dsimp only; omega)
    · exact column_at x0 x1 x2 x3 r (by dsimp only; omega)
    · exact congrArg (fun d => x6 (ix2 0 d)) (Fin.ext (by dsimp only; omega))

theorem out11_at (r : Fin 512) (k : Fin 256) : out0_11 x0 x1 x2 x3 x4 x5 x6 x7 x8 x9 (ix2 r k) =
    blockHead x0 x1 x2 x3 x7 (1024 + k / 128 * 128) (by omega) ⟨k % 128, by omega⟩ r := by
  unfold out0_11 k0_pay109 k0_pay77; frame_out
  canon_tiles x h using cover0_11 ..
  all_goals
    obtain ⟨r', d, rfl⟩ : ∃ (r' : Fin 512) (d : Fin 128), x = ix2 r' d := ⟨x 0, x 1, eq_ix2 x⟩
    obtain rfl : r = r' := Fin.ext h0
    replace h1 : k.val = _ := h1
    rw [show ((ix2 r d : S512x128.Idx) 1).val = d.val from rfl] at h1
  all_goals pointwise [k0_pay64, k0_pay65, k0_pay66, k0_pay67, k0_pay68, k0_pay2]
  all_goals
    refine headed_of ?_ (fun e => ?_) ?_
    · exact column_at x0 x1 x2 x3 r (by dsimp only; omega)
    · exact column_at x0 x1 x2 x3 r (by dsimp only; omega)
    · exact congrArg (fun d => x7 (ix2 0 d)) (Fin.ext (by dsimp only; omega))

theorem out19_at (r : Fin 512) (k : Fin 256) : out0_19 x0 x1 x2 x3 x4 x5 x6 x7 x8 x9 (ix2 r k) =
    blockHead x0 x1 x2 x3 x7 (1024 + k / 128 * 128) (by omega) ⟨k % 128, by omega⟩ r := by
  unfold out0_19 k0_pay109 k0_pay77; frame_out
  canon_tiles x h using cover0_19 ..
  all_goals
    obtain ⟨r', d, rfl⟩ : ∃ (r' : Fin 512) (d : Fin 128), x = ix2 r' d := ⟨x 0, x 1, eq_ix2 x⟩
    obtain rfl : r = r' := Fin.ext h0
    replace h1 : k.val = _ := h1
    rw [show ((ix2 r d : S512x128.Idx) 1).val = d.val from rfl] at h1
  all_goals pointwise [k0_pay64, k0_pay65, k0_pay67, k0_pay2]
  all_goals
    refine headed_of ?_ (fun e => ?_) ?_
    · exact column_at x0 x1 x2 x3 r (by dsimp only; omega)
    · exact column_at x0 x1 x2 x3 r (by dsimp only; omega)
    · exact congrArg (fun d => x7 (ix2 0 d)) (Fin.ext (by dsimp only; omega))

theorem out14_at (i : Fin 2) (k : Fin 1024) (j : Fin 256) : out0_14 x0 x1 x2 x3 x4 x5 x6 x7 x8 x9 (ix3 i k j) =
    blockAt x0 x1 x2 x3 ⟨i * 256 + j, by omega⟩ ⟨2560 + k, by omega⟩ := by
  unfold out0_14 k0_pay110 k0_pay77; frame_out
  canon_tiles x h using cover0_14 ..
  all_goals
    obtain ⟨a, b, d, rfl⟩ : ∃ (a : Fin 1) (b : Fin 1024) (d : Fin 256), x = ix3 a b d := ⟨x 0, x 1, x 2, eq_ix3 x⟩
    obtain rfl : k = b := Fin.ext h1
    obtain rfl : j = d := Fin.ext h2
    change i.val = _ at h0
  all_goals pointwise [k0_pay72, k0_pay73, k0_pay74, k0_pay2]
  all_goals
    refine (sum_at x0 x1 x2 x3 _ _).trans ?_
    exact congrArg₂ (blockAt x0 x1 x2 x3) (Fin.ext (by dsimp only; omega)) rfl

end Cert.Kernel2Ideal.Run

end
-- ==== Proof.Projection.Rows.lean ====
/-
What the projection kernel leaves in its result arrays, entry by entry, from the argument arrays.
-/
module

public import proofs.«01_k».proof.Proof.Projection.Block
public import Idealize.ShloMosaic.Lib.Pipeline.ValueKit.Geometry
public import Idealize.ShloMosaic.Lib.StableHlo.ReadAt

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Cert.Projection

variable (m : (ℓ : Loc nD τ sig) → Buf (Elt Ideal) ℓ) (c : Dev nD)

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![4, 0, 0] := (by decide +kernel : ∀ t : Fin grid0.N, win0_1.index t = ![4, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![t.val, 0] := (by decide +kernel : ∀ t : Fin grid0.N, win0_13.index t = ![t.val, 0])
theorem index15 : ∀ t : Fin cfg0.N, win0_15.index t = ![t.val, 0] := (by decide +kernel : ∀ t : Fin grid0.N, win0_15.index t = ![t.val, 0])
theorem index16 : ∀ t : Fin cfg0.N, win0_16.index t = ![t.val, 0] := (by decide +kernel : ∀ t : Fin grid0.N, win0_16.index t = ![t.val, 0])
theorem index19 : ∀ t : Fin cfg0.N, win0_19.index t = ![t.val, 0] := (by decide +kernel : ∀ t : Fin grid0.N, win0_19.index t = ![t.val, 0])
theorem index20 : ∀ t : Fin cfg0.N, win0_20.index t = ![t.val, 0] := (by decide +kernel : ∀ t : Fin grid0.N, win0_20.index t = ![t.val, 0])
theorem index14 : ∀ t : Fin cfg0.N, win0_14.index t = ![t.val, 0, 0] := (by decide +kernel : ∀ t : Fin grid0.N, win0_14.index t = ![t.val, 0, 0])

/-- The rounded weights are the weights' first 5632 columns. -/
theorem weights_at (j : Fin 2048) (n : Fin 5632) :
    V m c main_v1 (ix2 j n) = m ((c : Thread nD τ).loc main_arg3) (ix2 j ⟨n, by omega⟩) := by
  simp only [V, List.flatten_cons, List.flatten_nil, List.append_nil, hostOps0, hostOps0_1, hostOps0_2, hostOps0_3, List.cons_append, List.nil_append]
  after_reads_at

section

variable (t : Fin cfg0.N)

theorem iblk0_at (r : Fin 512) (j : Fin 2048) (h : t.val * 512 + r < 4096) :
    iblk m c 0 t (ix2 r j) = m ((c : Thread nD τ).loc main_arg0) (ix2 ⟨t.val * 512 + r, h⟩ j) := by
  blk_simp [iblk]
  rw [V_main_arg0]
  refine congrArg _ ?_
  blk_ext [index0]

theorem iblk1_at (j : Fin 12288) : iblk m c 1 t (ix3 0 0 j) = m ((c : Thread nD τ).loc main_arg1) (ix3 4 0 j) := by
  blk_simp [iblk]
  rw [V_main_arg1]
  refine congrArg _ ?_
  blk_ext [index1]

theorem iblk2_at (j : Fin 2048) : iblk m c 2 t (ix2 0 j) = m ((c : Thread nD τ).loc main_arg2) (ix2 0 j) := by
  blk_simp [iblk]
  rw [V_main_arg2]
  refine congrArg _ ?_
  blk_ext [index2]

theorem iblk3_at (j : Fin 2048) (n : Fin 5632) :
    iblk m c 3 t (ix2 j n) = m ((c : Thread nD τ).loc main_arg3) (ix2 j ⟨n, by omega⟩) := by
  refine Eq.trans ?_ (weights_at m c j n)
  blk_simp [iblk]
  refine congrArg _ ?_
  blk_ext [index3]

theorem iblk6_at (j : Fin 128) : iblk m c 6 t (ix2 0 j) = m ((c : Thread nD τ).loc main_arg5) (ix2 0 j) := by
  blk_simp [iblk]
  rw [V_main_arg5]
  refine congrArg _ ?_
  blk_ext [index6]

theorem iblk7_at (j : Fin 128) : iblk m c 7 t (ix2 0 j) = m ((c : Thread nD τ).loc main_arg6) (ix2 0 j) := by
  blk_simp [iblk]
  rw [V_main_arg6]
  refine congrArg _ ?_
  blk_ext [index7]

/-- A block's row times a column, from the argument arrays. -/
theorem blockAt_eq (r : Fin 512) (n : Fin 5632) (r' : Fin 4096) (n' : Fin 5648) (hr : r'.val = t.val * 512 + r) (hn : n'.val = n) :
    blockAt (iblk m c 0 t) (iblk m c 1 t) (iblk m c 2 t) (iblk m c 3 t) r n =
      projected (m ((c : Thread nD τ).loc main_arg0)) (m ((c : Thread nD τ).loc main_arg1)) (m ((c : Thread nD τ).loc main_arg2))
        (m ((c : Thread nD τ).loc main_arg3)) r' n' := by
  have hr' : t.val * 512 + r < 4096 := hr ▸ r'.isLt
  obtain rfl : r' = ⟨t.val * 512 + r, hr'⟩ := Fin.ext hr
  obtain rfl : n' = ⟨n.val, lt_trans n.isLt (by decide)⟩ := Fin.ext hn
  unfold blockAt projected
  simp only [iblk0_at m c t r _ hr', iblk1_at, iblk2_at, iblk3_at]

/-- A block's head after its norm, from the argument arrays. -/
theorem blockHead_eq (g : Vec Ideal S1x128 .f32) (N : (⟨2, ![1, 128]⟩ : Shape).Idx → EReal) (hN : ∀ d, g (ix2 0 d) = N (ix2 0 d))
    (o : ℕ) (h : o + 128 ≤ 5632) (d : Fin 128) (r : Fin 512) (r' : Fin 4096) (hr : r'.val = t.val * 512 + r) :
    blockHead (iblk m c 0 t) (iblk m c 1 t) (iblk m c 2 t) (iblk m c 3 t) g o h d r =
      normed (m ((c : Thread nD τ).loc main_arg0)) (m ((c : Thread nD τ).loc main_arg1)) (m ((c : Thread nD τ).loc main_arg2))
        (m ((c : Thread nD τ).loc main_arg3)) N o h d r' := by
  unfold blockHead normed
  exact congrArg₂ (headed · · d) (funext fun e => blockAt_eq m c t r _ r' _ hr rfl) (funext hN)

end

/-! ## The result arrays -/

/-- `slice` of core `c`'s arguments. -/
abbrev sliceOf {w : ℕ} (o : ℕ) (h : o + w ≤ 5632) : (⟨2, ![4096, w]⟩ : Shape).Idx → EReal :=
  slice (m ((c : Thread nD τ).loc main_arg0)) (m ((c : Thread nD τ).loc main_arg1)) (m ((c : Thread nD τ).loc main_arg2))
    (m ((c : Thread nD τ).loc main_arg3)) o h

/-- `heads` of core `c`'s arguments. -/
abbrev headsOf {w : ℕ} (N : (⟨2, ![1, 128]⟩ : Shape).Idx → EReal) (o : ℕ) (h : o + w ≤ 5632 ∧ w % 128 = 0) :
    (⟨2, ![4096, w]⟩ : Shape).Idx → EReal :=
  heads (m ((c : Thread nD τ).loc main_arg0)) (m ((c : Thread nD τ).loc main_arg1)) (m ((c : Thread nD τ).loc main_arg2))
    (m ((c : Thread nD τ).loc main_arg3)) N o h

/-- A head's place in the block is its place in the array. -/
theorem headsOf_of (t : Fin cfg0.N) {w : ℕ} (g : Vec Ideal S1x128 .f32) (N : (⟨2, ![1, 128]⟩ : Shape).Idx → EReal)
    (hN : ∀ d, g (ix2 0 d) = N (ix2 0 d)) (o : ℕ) (h : o + w ≤ 5632 ∧ w % 128 = 0) (r : Fin 512) (k : Fin w) (h')
    (i : (⟨2, ![4096, w]⟩ : Shape).Idx) (h0 : (i 0).val = t.val * 512 + r) (h1 : (i 1).val = k) :
    blockHead (iblk m c 0 t) (iblk m c 1 t) (iblk m c 2 t) (iblk m c 3 t) g (o + k / 128 * 128) h' ⟨k % 128, Nat.mod_lt _ (by decide)⟩ r =
      headsOf m c N o h i := by
  obtain rfl : i 1 = k := Fin.ext h1
  exact blockHead_eq m c t g N hN _ _ _ r _ h0

/-- The values, rounded. -/
theorem array12 : (dats m 0 c).arrAt 12 cfg0.N = sliceOf m c (w := 256) 1280 (by decide) := by
  refine (dats m 0 c).arrAt_eq_of_covers 12 _ (by decide +kernel) fun t hf y => ?_
  blk_simp
  obtain ⟨r, k, rfl⟩ : ∃ (r : Fin 512) (k : Fin 256), y = ix2 r k := ⟨y 0, y 1, eq_ix2 y⟩
  rw [after0_12, out12_at]
  refine blockAt_eq m c t r _ _ _ ?_ ?_
  · blk_simp [index12]
  · show 1280 + _ = 1280 + _
    blk_simp [index12]

/-- The memory's queries. -/
theorem array13 : (dats m 0 c).arrAt 13 cfg0.N = fun i => sliceOf m c (w := 1024) 1536 (by decide) i * Ideal.ofBits FTy.f32 1031798784#32 := by
  refine (dats m 0 c).arrAt_eq_of_covers 13 _ (by decide +kernel) fun t hf y => ?_
  blk_simp
  obtain ⟨r, k, rfl⟩ : ∃ (r : Fin 512) (k : Fin 1024), y = ix2 r k := ⟨y 0, y 1, eq_ix2 y⟩
  rw [after0_13, out13_at]
  refine congrArg (· * _) (blockAt_eq m c t r _ _ _ ?_ ?_)
  · blk_simp [index13]
  · show 1536 + _ = 1536 + _
    blk_simp [index13]

/-- The memory's values. -/
theorem array15 : (dats m 0 c).arrAt 15 cfg0.N = sliceOf m c (w := 1024) 3584 (by decide) := by
  refine (dats m 0 c).arrAt_eq_of_covers 15 _ (by decide +kernel) fun t hf y => ?_
  blk_simp
  obtain ⟨r, k, rfl⟩ : ∃ (r : Fin 512) (k : Fin 1024), y = ix2 r k := ⟨y 0, y 1, eq_ix2 y⟩
  rw [after0_15, out15_at]
  refine blockAt_eq m c t r _ _ _ ?_ ?_
  · blk_simp [index15]
  · show 3584 + _ = 3584 + _
    blk_simp [index15]

/-- The memory's gates. -/
theorem array16 : (dats m 0 c).arrAt 16 cfg0.N = sliceOf m c (w := 1024) 4608 (by decide) := by
  refine (dats m 0 c).arrAt_eq_of_covers 16 _ (by decide +kernel) fun t hf y => ?_
  blk_simp
  obtain ⟨r, k, rfl⟩ : ∃ (r : Fin 512) (k : Fin 1024), y = ix2 r k := ⟨y 0, y 1, eq_ix2 y⟩
  rw [after0_16, out16_at]
  refine blockAt_eq m c t r _ _ _ ?_ ?_
  · blk_simp [index16]
  · show 4608 + _ = 4608 + _
    blk_simp [index16]

/-- The values. -/
theorem array20 : (dats m 0 c).arrAt 20 cfg0.N = sliceOf m c (w := 256) 1280 (by decide) := by
  refine (dats m 0 c).arrAt_eq_of_covers 20 _ (by decide +kernel) fun t hf y => ?_
  blk_simp
  obtain ⟨r, k, rfl⟩ : ∃ (r : Fin 512) (k : Fin 256), y = ix2 r k := ⟨y 0, y 1, eq_ix2 y⟩
  rw [after0_20, out20_at]
  refine blockAt_eq m c t r _ _ _ ?_ ?_
  · blk_simp [index20]
  · show 1280 + _ = 1280 + _
    blk_simp [index20]

/-- The queries. -/
theorem array10 : (dats m 0 c).arrAt 10 cfg0.N = fun i => headsOf m c (w := 1024) (m ((c : Thread nD τ).loc main_arg5)) 0 (by decide) i * Ideal.ofBits FTy.f32 1040356334#32 := by
  refine (dats m 0 c).arrAt_eq_of_covers 10 _ (by decide +kernel) fun t hf y => ?_
  blk_simp
  obtain ⟨r, k, rfl⟩ : ∃ (r : Fin 512) (k : Fin 1024), y = ix2 r k := ⟨y 0, y 1, eq_ix2 y⟩
  rw [after0_10, out10_at]
  refine congrArg (· * _) (headsOf_of m c t _ _ (iblk6_at m c t) 0 _ r k _ _ ?_ ?_)
  · blk_simp [index10]
  · blk_simp [index10]

/-- The keys, rounded. -/
theorem array11 : (dats m 0 c).arrAt 11 cfg0.N = headsOf m c (w := 256) (m ((c : Thread nD τ).loc main_arg6)) 1024 (by decide) := by
  refine (dats m 0 c).arrAt_eq_of_covers 11 _ (by decide +kernel) fun t hf y => ?_
  blk_simp
  obtain ⟨r, k, rfl⟩ : ∃ (r : Fin 512) (k : Fin 256), y = ix2 r k := ⟨y 0, y 1, eq_ix2 y⟩
  rw [after0_11, out11_at]
  refine headsOf_of m c t _ _ (iblk7_at m c t) 1024 _ r k _ _ ?_ ?_
  · blk_simp [index11]
  · blk_simp [index11]

/-- The keys. -/
theorem array19 : (dats m 0 c).arrAt 19 cfg0.N = headsOf m c (w := 256) (m ((c : Thread nD τ).loc main_arg6)) 1024 (by decide) := by
  refine (dats m 0 c).arrAt_eq_of_covers 19 _ (by decide +kernel) fun t hf y => ?_
  blk_simp
  obtain ⟨r, k, rfl⟩ : ∃ (r : Fin 512) (k : Fin 256), y = ix2 r k := ⟨y 0, y 1, eq_ix2 y⟩
  rw [after0_19, out19_at]
  refine headsOf_of m c t _ _ (iblk7_at m c t) 1024 _ r k _ _ ?_ ?_
  · blk_simp [index19]
  · blk_simp [index19]

/-- The memory's keys, chunk by chunk. -/
theorem array14 : (dats m 0 c).arrAt 14 cfg0.N = chunks (m ((c : Thread nD τ).loc main_arg0)) (m ((c : Thread nD τ).loc main_arg1))
    (m ((c : Thread nD τ).loc main_arg2)) (m ((c : Thread nD τ).loc main_arg3)) := by
  refine (dats m 0 c).arrAt_eq_of_covers 14 _ (by decide +kernel) fun t hf y => ?_
  blk_simp
  obtain ⟨i, k, j, rfl⟩ : ∃ (i : Fin 2) (k : Fin 1024) (j : Fin 256), y = ix3 i k j := ⟨y 0, y 1, y 2, eq_ix3 y⟩
  rw [after0_14, out14_at]
  refine blockAt_eq m c t _ _ _ _ ?_ ?_
  · show _ * 256 + _ = t.val * 512 + (i.val * 256 + j.val)
    blk_simp [index14]
    omega
  · show 2560 + _ = 2560 + _
    blk_simp [index14]

end Cert.Kernel2Ideal.Run

end
-- ==== Proof.Projection.Reference.lean ====
/-
What the reference projection leaves in its results, entry by entry, from its argument arrays.
-/
module

public import proofs.«01_k».proof.Proof.Gen.Reference2Ideal.Run
public import proofs.«01_k».proof.Proof.Projection.Entry
public import Idealize.ShloMosaic.Lib.StableHlo.ReadAt
public import Idealize.ShloMosaic.Lib.Quiescent

@[expose] public section

set_option maxRecDepth 16384

noncomputable section

namespace Cert.Reference2Ideal.Run

open Cert.Reference2Ideal
open Idealize.ShloMosaic Idealize.ShloMosaic.TcCoe Idealize.ShloMosaic.Tactic
open Idealize.SL.Sem
open Cert.Projection

variable (m : (ℓ : Loc nD τ sig) → Buf (Elt Ideal) ℓ) (c : Dev nD)

/-- The buffer `b` of core `c` after the operations. -/
abbrev final (b : Ref sig .tc) : Buf (Elt Ideal) ((c.tc : Thread nD τ).loc b) :=
  StableHlo.after Value.ops (StableHlo.launchContents m c) (Proc.devRef .tc b)

/-- Every run ends with the operations' results in the buffers. -/
theorem run (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = final m c b :=
  StableHlo.run_seq Value.scopedRefs_eq Value.scopedSems_eq defs main (fun _ => Value.ops) Value.main_eq
    (fun _ => Value.ops_sub) m ρ

/-- `slice` of core `c`'s arguments. -/
abbrev sliceOf {w : ℕ} (o : ℕ) (h : o + w ≤ 5632) : (⟨2, ![4096, w]⟩ : Shape).Idx → EReal :=
  slice (m ((c : Thread nD τ).loc main_arg0)) (m ((c : Thread nD τ).loc main_arg1)) (m ((c : Thread nD τ).loc main_arg2))
    (m ((c : Thread nD τ).loc main_arg3)) o h

/-- `heads` of core `c`'s arguments. -/
abbrev headsOf {w : ℕ} (N : (⟨2, ![1, 128]⟩ : Shape).Idx → EReal) (o : ℕ) (h : o + w ≤ 5632 ∧ w % 128 = 0) :
    (⟨2, ![4096, w]⟩ : Shape).Idx → EReal :=
  heads (m ((c : Thread nD τ).loc main_arg0)) (m ((c : Thread nD τ).loc main_arg1)) (m ((c : Thread nD τ).loc main_arg2))
    (m ((c : Thread nD τ).loc main_arg3)) N o h

/-- The values. -/
theorem v25_eq : final m c main_v25 = sliceOf m c (w := 256) 1280 (by decide) := by
  funext i
  obtain ⟨r, k, rfl⟩ : ∃ (r : Fin 4096) (k : Fin 256), i = ix2 r k := ⟨i 0, i 1, eq_ix2 i⟩
  after_reads_at
  pointwise
  rfl

/-- The values, rounded. -/
theorem v68_eq : final m c main_v68 = sliceOf m c (w := 256) 1280 (by decide) := by
  funext i
  obtain ⟨r, k, rfl⟩ : ∃ (r : Fin 4096) (k : Fin 256), i = ix2 r k := ⟨i 0, i 1, eq_ix2 i⟩
  after_reads_at
  pointwise
  rfl

/-- The memory's queries. -/
theorem v69_eq : final m c main_v69 = fun i => sliceOf m c (w := 1024) 1536 (by decide) i * Ideal.ofBits FTy.f32 1031798784#32 := by
  funext i
  obtain ⟨r, k, rfl⟩ : ∃ (r : Fin 4096) (k : Fin 1024), i = ix2 r k := ⟨i 0, i 1, eq_ix2 i⟩
  after_reads_at
  pointwise
  rfl

/-- The memory's values. -/
theorem v71_eq : final m c main_v71 = sliceOf m c (w := 1024) 3584 (by decide) := by
  funext i
  obtain ⟨r, k, rfl⟩ : ∃ (r : Fin 4096) (k : Fin 1024), i = ix2 r k := ⟨i 0, i 1, eq_ix2 i⟩
  after_reads_at
  pointwise
  rfl

/-- The memory's gates. -/
theorem v72_eq : final m c main_v72 = sliceOf m c (w := 1024) 4608 (by decide) := by
  funext i
  obtain ⟨r, k, rfl⟩ : ∃ (r : Fin 4096) (k : Fin 1024), i = ix2 r k := ⟨i 0, i 1, eq_ix2 i⟩
  after_reads_at
  pointwise
  rfl

/-- The keys. -/
theorem v61_eq : final m c main_v61 = headsOf m c (w := 256) (m ((c : Thread nD τ).loc main_arg6)) 1024 (by decide) := by
  funext i
  obtain ⟨r, k, rfl⟩ : ∃ (r : Fin 4096) (k : Fin 256), i = ix2 r k := ⟨i 0, i 1, eq_ix2 i⟩
  after_reads_at
  pointwise
  unfold headsOf heads normed
  refine headed_of ?_ (fun e => ?_) ?_
  · exact projected_of _ _ _ _ r (by change _ = _ + k.val / 128 * 128 + k.val % 128; dsimp only; omega)
  · exact projected_of _ _ _ _ r (by change _ = _ + k.val / 128 * 128 + e.val; dsimp only; omega)
  · rfl

/-- The keys, rounded. -/
theorem v67_eq : final m c main_v67 = headsOf m c (w := 256) (m ((c : Thread nD τ).loc main_arg6)) 1024 (by decide) := by
  funext i
  obtain ⟨r, k, rfl⟩ : ∃ (r : Fin 4096) (k : Fin 256), i = ix2 r k := ⟨i 0, i 1, eq_ix2 i⟩
  after_reads_at
  pointwise
  unfold headsOf heads normed
  refine headed_of ?_ (fun e => ?_) ?_
  · exact projected_of _ _ _ _ r (by change _ = _ + k.val / 128 * 128 + k.val % 128; dsimp only; omega)
  · exact projected_of _ _ _ _ r (by change _ = _ + k.val / 128 * 128 + e.val; dsimp only; omega)
  · rfl

/-- The queries. -/
theorem v66_eq : final m c main_v66 = fun i => headsOf m c (w := 1024) (m ((c : Thread nD τ).loc main_arg5)) 0 (by decide) i * Ideal.ofBits FTy.f32 1040356334#32 := by
  funext i
  obtain ⟨r, k, rfl⟩ : ∃ (r : Fin 4096) (k : Fin 1024), i = ix2 r k := ⟨i 0, i 1, eq_ix2 i⟩
  after_reads_at
  pointwise
  unfold headsOf heads normed
  refine congrArg (· * _) (headed_of ?_ (fun e => ?_) ?_)
  · exact projected_of _ _ _ _ r (by change _ = _ + k.val / 128 * 128 + k.val % 128; dsimp only; omega)
  · exact projected_of _ _ _ _ r (by change _ = _ + k.val / 128 * 128 + e.val; dsimp only; omega)
  · rfl

/-- The memory's keys, chunk by chunk. -/
theorem v70_eq : final m c main_v70 = chunks (m ((c : Thread nD τ).loc main_arg0)) (m ((c : Thread nD τ).loc main_arg1))
    (m ((c : Thread nD τ).loc main_arg2)) (m ((c : Thread nD τ).loc main_arg3)) := by
  funext i
  obtain ⟨i, k, j, rfl⟩ : ∃ (a : Fin 16) (k : Fin 1024) (j : Fin 256), i = ix3 a k j := ⟨i 0, i 1, i 2, eq_ix3 i⟩
  after_reads_at
  pointwise
  rfl

end Cert.Reference2Ideal.Run

end
-- ==== Proof.Projection.Equation.lean ====
/-
The projection kernel and its reference: equal results from equal arguments, and the reference's run.
-/
module

public import proofs.«01_k».proof.Proof.Projection.Rows
public import proofs.«01_k».proof.Proof.Projection.Reference
public import proofs.«01_k».proof.Defs

@[expose] public section

set_option maxRecDepth 16384

noncomputable section

namespace Cert.Projection

open Idealize.ShloMosaic Idealize.ShloMosaic.TcCoe Idealize.ShloMosaic.Tactic
open Idealize.SL.Sem

/-- The reference runs, and leaves its arguments as they were and every counter at zero. -/
theorem frame_reference : Cert.quiescent_Reference2Ideal (hReference2Ideal := Cert.Reference2Ideal.Gen.facts) := fun m ρ _ => by
  refine (θ_run _ _ _).mono (fun r h => ⟨fun c => ?_, sem_eq_zero_of_no_sems (by decide) _⟩) (Cert.Reference2Ideal.Value.run m ρ)
  obtain ⟨-, -, -, -, -, -, -, -, -, h⟩ := h c
  exact h

variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ)

/-- What the kernel's window `w` leaves in its array. -/
abbrev array (c : Dev Cert.Kernel2Ideal.nD) (w : Fin Cert.Kernel2Ideal.cfg0.W) :=
  (Cert.Kernel2Ideal.Gen.dats m 0 c).arrAt w Cert.Kernel2Ideal.cfg0.N

/-- Where the arguments the results depend on are equal, the results are. -/
theorem results_eq (c : Dev 1)
    (a0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (a1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (a2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (a3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (a5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (a6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Run.final m' c Cert.Reference2Ideal.main_v61 = array m c 19
    ∧ Cert.Reference2Ideal.Run.final m' c Cert.Reference2Ideal.main_v25 = array m c 20
    ∧ Cert.Reference2Ideal.Run.final m' c Cert.Reference2Ideal.main_v66 = array m c 10
    ∧ Cert.Reference2Ideal.Run.final m' c Cert.Reference2Ideal.main_v67 = array m c 11
    ∧ Cert.Reference2Ideal.Run.final m' c Cert.Reference2Ideal.main_v68 = array m c 12
    ∧ Cert.Reference2Ideal.Run.final m' c Cert.Reference2Ideal.main_v69 = array m c 13
    ∧ Cert.Reference2Ideal.Run.final m' c Cert.Reference2Ideal.main_v70 = array m c 14
    ∧ Cert.Reference2Ideal.Run.final m' c Cert.Reference2Ideal.main_v71 = array m c 15
    ∧ Cert.Reference2Ideal.Run.final m' c Cert.Reference2Ideal.main_v72 = array m c 16 := by
  have hs : ∀ {w : ℕ} (o : ℕ) (h : o + w ≤ 5632), Cert.Reference2Ideal.Run.sliceOf m' c o h = Cert.Kernel2Ideal.Run.sliceOf m c o h := fun o h => by
    unfold Cert.Reference2Ideal.Run.sliceOf Cert.Kernel2Ideal.Run.sliceOf
    rw [a0, a1, a2, a3]
  have hh : ∀ {w : ℕ} (N : (⟨2, ![1, 128]⟩ : Shape).Idx → EReal) (o : ℕ) (h : o + w ≤ 5632 ∧ w % 128 = 0),
      Cert.Reference2Ideal.Run.headsOf m' c N o h = Cert.Kernel2Ideal.Run.headsOf m c N o h := fun N o h => by
    unfold Cert.Reference2Ideal.Run.headsOf Cert.Kernel2Ideal.Run.headsOf
    rw [a0, a1, a2, a3]
  refine ⟨(Cert.Reference2Ideal.Run.v61_eq m' c).trans (((congrArg (fun N => Cert.Reference2Ideal.Run.headsOf m' c (w := 256) N 1024 (by decide)) a6).trans (hh _ _ _)).trans (Cert.Kernel2Ideal.Run.array19 m c).symm),
    (Cert.Reference2Ideal.Run.v25_eq m' c).trans ((hs _ _).trans (Cert.Kernel2Ideal.Run.array20 m c).symm),
    (Cert.Reference2Ideal.Run.v66_eq m' c).trans ((congrArg (fun f i => f i * Ideal.ofBits FTy.f32 1040356334#32) ((congrArg (fun N => Cert.Reference2Ideal.Run.headsOf m' c (w := 1024) N 0 (by decide)) a5).trans (hh _ _ _))).trans (Cert.Kernel2Ideal.Run.array10 m c).symm),
    (Cert.Reference2Ideal.Run.v67_eq m' c).trans (((congrArg (fun N => Cert.Reference2Ideal.Run.headsOf m' c (w := 256) N 1024 (by decide)) a6).trans (hh _ _ _)).trans (Cert.Kernel2Ideal.Run.array11 m c).symm),
    (Cert.Reference2Ideal.Run.v68_eq m' c).trans ((hs _ _).trans (Cert.Kernel2Ideal.Run.array12 m c).symm),
    (Cert.Reference2Ideal.Run.v69_eq m' c).trans ((congrArg (fun f i => f i * Ideal.ofBits FTy.f32 1031798784#32) (hs _ _)).trans (Cert.Kernel2Ideal.Run.array13 m c).symm),
    (Cert.Reference2Ideal.Run.v70_eq m' c).trans (Eq.trans ?_ (Cert.Kernel2Ideal.Run.array14 m c).symm),
    (Cert.Reference2Ideal.Run.v71_eq m' c).trans ((hs _ _).trans (Cert.Kernel2Ideal.Run.array15 m c).symm),
    (Cert.Reference2Ideal.Run.v72_eq m' c).trans ((hs _ _).trans (Cert.Kernel2Ideal.Run.array16 m c).symm)⟩
  rw [a0, a1, a2, a3]

/-- From equal arguments both programs run to equal results. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => array m c 19, fun c => array m c 20, fun c => array m c 10, fun c => array m c 11, fun c => array m c 12, fun c => array m c 13, fun c => array m c 14, fun c => array m c 15, fun c => array m c 16, ?_, ?_⟩
  · refine (θ_run _ _ _).mono (fun r h c => ?_) (θ_run_and (Cert.Kernel2Ideal.Gen.run_main m g) (Cert.Kernel2Ideal.Gen.unchanged m g))
    exact ⟨(h.1 c).1 19, (h.1 c).1 20, (h.1 c).1 10, (h.1 c).1 11, (h.1 c).1 12, (h.1 c).1 13, (h.1 c).1 14, (h.1 c).1 15, (h.1 c).1 16, h.2 c⟩
  · refine (θ_run _ _ _).mono (fun r h c => ?_) (θ_run_and (Cert.Reference2Ideal.Run.run m' g') (Cert.Reference2Ideal.Value.run m' g'))
    obtain ⟨a0, a1, a2, a3, -, a5, a6, -, -⟩ := hargs c
    obtain ⟨e0, e1, e2, e3, e4, e5, e6, e7, e8⟩ := results_eq m m' c a0 a1 a2 a3 a5 a6
    obtain ⟨-, -, -, -, -, -, -, -, -, hu⟩ := h.2 c
    exact ⟨(h.1 c Cert.Reference2Ideal.main_v61).trans e0,
      (h.1 c Cert.Reference2Ideal.main_v25).trans e1,
      (h.1 c Cert.Reference2Ideal.main_v66).trans e2,
      (h.1 c Cert.Reference2Ideal.main_v67).trans e3,
      (h.1 c Cert.Reference2Ideal.main_v68).trans e4,
      (h.1 c Cert.Reference2Ideal.main_v69).trans e5,
      (h.1 c Cert.Reference2Ideal.main_v70).trans e6,
      (h.1 c Cert.Reference2Ideal.main_v71).trans e7,
      (h.1 c Cert.Reference2Ideal.main_v72).trans e8, hu⟩

end Cert.Projection

end
-- ==== Proof.Attention.Entry.lean ====
/-
The attention of one query: its scores against the keys become weights by a softmax, and the weights average the values.
The kernel takes powers of two and divides the average at the end; the reference takes powers of e and divides each weight.
-/
module

public import Idealize.ShloMosaic.Lib.Pointwise

@[expose] public section

noncomputable section

namespace Cert.Attention

open Idealize.ShloMosaic

/-- The greatest of a query's scores. -/
def top (s : Fin 256 → EReal) : EReal := Finset.univ.fold max (Ideal.ofBits FTy.f32 4286578688#32) s

/-- The kernel's weights of a query's scores `s` (to the base two), before they are divided by their sum. -/
def power (s : Fin 256 → EReal) (j : Fin 256) : EReal := Ideal.exp2 (s j - top s)

/-- The kernel's average of the values `v`. -/
def averaged (s v : Fin 256 → EReal) : EReal := Ideal.div (∑ j, power s j * v j) (∑ j, power s j)

/-- The reference's weights of a query's scores `u`, before they are divided by their sum. -/
def weight (u : Fin 256 → EReal) (j : Fin 256) : EReal := Ideal.exp (u j - max (Ideal.ofBits FTy.f32 4286578688#32) (top u))

/-- The reference's average of the values `v`. -/
def attended (u v : Fin 256 → EReal) : EReal := ∑ j, v j * Ideal.div (weight u j) (∑ i, weight u i)

/-- The kernel's score of a query `q` against a key `k`. -/
def score (q k : Fin 128 → EReal) : EReal :=
  ∑ x, Ideal.div (q x) (Ideal.sqrt (Ideal.ofBits FTy.f32 1124073472#32) * Ideal.log (Ideal.ofBits FTy.f32 1073741824#32)) * k x

/-- The reference's score. -/
def scaled (q k : Fin 128 → EReal) : EReal := Ideal.div (∑ x, k x * q x) (Ideal.sqrt (Ideal.ofBits FTy.f32 1124073472#32))

/-- One entry of the attention's result as the kernel computes it, from the queries, the keys and the values: row `r` lies in
its batch's 256 rows, column `k` in one of four heads of 128 columns that share 128 columns of keys and values. -/
def averagedAt (Q : (⟨2, ![4096, 1024]⟩ : Shape).Idx → EReal) (K V : (⟨2, ![4096, 256]⟩ : Shape).Idx → EReal)
    (r : Fin 4096) (k : Fin 1024) : EReal :=
  averaged
    (fun j => score (fun x => Q (ix2 r ⟨k / 128 * 128 + x, by omega⟩)) (fun x => K (ix2 ⟨r / 256 * 256 + j, by omega⟩ ⟨k / 512 * 128 + x, by omega⟩)))
    (fun j => V (ix2 ⟨r / 256 * 256 + j, by omega⟩ ⟨k / 512 * 128 + k % 128, by omega⟩))

/-- The same entry as the reference computes it. -/
def attendedAt (Q : (⟨2, ![4096, 1024]⟩ : Shape).Idx → EReal) (K V : (⟨2, ![4096, 256]⟩ : Shape).Idx → EReal)
    (r : Fin 4096) (k : Fin 1024) : EReal :=
  attended
    (fun j => scaled (fun x => Q (ix2 r ⟨k / 128 * 128 + x, by omega⟩)) (fun x => K (ix2 ⟨r / 256 * 256 + j, by omega⟩ ⟨k / 512 * 128 + x, by omega⟩)))
    (fun j => V (ix2 ⟨r / 256 * 256 + j, by omega⟩ ⟨k / 512 * 128 + k % 128, by omega⟩))

/-! ## The two are equal where the queries and the keys are finite -/

theorem lowest : Ideal.ofBits FTy.f32 4286578688#32 = ⊥ := by simp [Ideal.ofBits, Ideal.ieee]

theorem greatest : Ideal.ofBits FTy.f32 2139095040#32 = ⊤ := by simp [Ideal.ofBits, Ideal.ieee]

theorem headDim : Ideal.ofBits FTy.f32 1124073472#32 = ((128 : ℝ) : EReal) := by
  simp [Ideal.ofBits, Ideal.ieee, -EReal.coe_mul]; norm_num

theorem two : Ideal.ofBits FTy.f32 1073741824#32 = ((2 : ℝ) : EReal) := by
  simp [Ideal.ofBits, Ideal.ieee, -EReal.coe_mul]; norm_num

/-- A finite sum of reals is a real. -/
theorem sum_coe {n : ℕ} (f : Fin n → ℝ) : (∑ x, (f x : EReal)) = ((∑ x, f x : ℝ) : EReal) := by
  induction (Finset.univ : Finset (Fin n)) using Finset.induction_on with
  | empty => simp
  | insert a s ha ih => rw [Finset.sum_insert ha, Finset.sum_insert ha, ih, EReal.coe_add]

/-- A real factor that is not negative may be taken out of a sum. -/
theorem sum_mul_coe {n : ℕ} (f : Fin n → EReal) {c : ℝ} (h : 0 ≤ c) : (∑ x, f x * (c : EReal)) = (∑ x, f x) * (c : EReal) := by
  induction (Finset.univ : Finset (Fin n)) using Finset.induction_on with
  | empty => simp
  | insert a s ha ih => rw [Finset.sum_insert ha, Finset.sum_insert ha, ih,
      EReal.right_distrib_of_nonneg_of_ne_top (by exact_mod_cast h) (EReal.coe_ne_top c)]

theorem sqrt_pos : (0 : ℝ) < Real.sqrt 128 := Real.sqrt_pos.mpr (by norm_num)

theorem log_pos : (0 : ℝ) < Real.log 2 := Real.log_pos (by norm_num)

theorem root : Ideal.sqrt (Ideal.ofBits FTy.f32 1124073472#32) = ((Real.sqrt 128 : ℝ) : EReal) := by
  rw [headDim, Ideal.sqrt_coe, if_neg (by norm_num)]

theorem logTwo : Ideal.log (Ideal.ofBits FTy.f32 1073741824#32) = ((Real.log 2 : ℝ) : EReal) := by
  rw [two, Ideal.log_coe, if_neg (by norm_num)]

/-- The reference's score of a finite query against a finite key. -/
theorem scaled_coe (q k : Fin 128 → ℝ) :
    scaled (fun x => (q x : EReal)) (fun x => (k x : EReal)) = (((∑ x, k x * q x) * (1 / Real.sqrt 128) : ℝ) : EReal) := by
  unfold scaled
  rw [root, Ideal.div_coe sqrt_pos.ne']
  simp only [← EReal.coe_mul, sum_coe]

/-- The kernel's score is the reference's divided by the logarithm of two. -/
theorem score_coe (q k : Fin 128 → ℝ) :
    score (fun x => (q x : EReal)) (fun x => (k x : EReal)) = (((∑ x, k x * q x) * (1 / Real.sqrt 128) / Real.log 2 : ℝ) : EReal) := by
  unfold score
  rw [root, logTwo]
  simp only [← EReal.coe_mul, Ideal.div_coe (mul_pos sqrt_pos log_pos).ne', sum_coe]
  congr 1
  rw [Finset.sum_mul, Finset.sum_div]
  refine Finset.sum_congr rfl fun x _ => ?_
  have := sqrt_pos.ne'
  have := log_pos.ne'
  field_simp

/-- The greatest of finitely many reals. -/
theorem top_coe (a : Fin 256 → ℝ) (i : Fin 256) (h : ∀ j, a j ≤ a i) : top (fun j => (a j : EReal)) = (a i : EReal) := by
  unfold top
  refine le_antisymm (Finset.fold_max_le _ |>.mpr ⟨by rw [lowest]; exact bot_le, fun j _ => EReal.coe_le_coe_iff.mpr (h j)⟩)
    (Finset.le_fold_max _ |>.mpr (Or.inr ⟨i, Finset.mem_univ i, le_refl _⟩))

/-- Powers of two of real scores divided by the logarithm of two average like powers of e. -/
theorem averaged_coe (a : Fin 256 → ℝ) (v : Fin 256 → EReal) :
    averaged (fun j => ((a j / Real.log 2 : ℝ) : EReal)) v = attended (fun j => (a j : EReal)) v := by
  obtain ⟨i, hi⟩ := Finite.exists_max a
  have hp : ∀ j, power (fun j => ((a j / Real.log 2 : ℝ) : EReal)) j = ((Real.exp (a j - a i) : ℝ) : EReal) := fun j => by
    unfold power
    rw [top_coe (fun j => a j / Real.log 2) i (fun j => div_le_div_of_nonneg_right (hi j) log_pos.le), ← EReal.coe_sub, Ideal.exp2_coe]
    congr 1
    change Real.rpow 2 _ = _
    rw [show Real.rpow 2 (a j / Real.log 2 - a i / Real.log 2) = (2 : ℝ) ^ (a j / Real.log 2 - a i / Real.log 2) from rfl,
      Real.rpow_def_of_pos (by norm_num)]
    congr 1
    have := log_pos.ne'
    field_simp
  have hw : ∀ j, weight (fun j => (a j : EReal)) j = ((Real.exp (a j - a i) : ℝ) : EReal) := fun j => by
    unfold weight
    rw [top_coe a i hi, lowest, max_eq_right bot_le, ← EReal.coe_sub, Ideal.exp_coe]
  unfold averaged attended
  simp only [hp, hw, sum_coe]
  have hL : (0 : ℝ) < ∑ j, Real.exp (a j - a i) := Finset.sum_pos (fun j _ => Real.exp_pos _) ⟨i, Finset.mem_univ i⟩
  simp only [Ideal.div_coe hL.ne']
  rw [← sum_mul_coe _ (by positivity)]
  exact Finset.sum_congr rfl fun j _ => by rw [mul_comm (Real.exp (a j - a i) : EReal), mul_assoc]

/-- Where the queries and the keys are finite, the kernel's entry is the reference's. -/
theorem averagedAt_eq (Q : (⟨2, ![4096, 1024]⟩ : Shape).Idx → EReal) (K V : (⟨2, ![4096, 256]⟩ : Shape).Idx → EReal)
    (hQ : ∀ i, Q i ≠ ⊤ ∧ Q i ≠ ⊥) (hK : ∀ i, K i ≠ ⊤ ∧ K i ≠ ⊥) (r : Fin 4096) (k : Fin 1024) :
    averagedAt Q K V r k = attendedAt Q K V r k := by
  obtain ⟨q, rfl⟩ : ∃ q : (⟨2, ![4096, 1024]⟩ : Shape).Idx → ℝ, Q = fun i => (q i : EReal) :=
    ⟨fun i => (Q i).toReal, funext fun i => (EReal.coe_toReal (hQ i).1 (hQ i).2).symm⟩
  obtain ⟨u, rfl⟩ : ∃ u : (⟨2, ![4096, 256]⟩ : Shape).Idx → ℝ, K = fun i => (u i : EReal) :=
    ⟨fun i => (K i).toReal, funext fun i => (EReal.coe_toReal (hK i).1 (hK i).2).symm⟩
  unfold averagedAt attendedAt
  simp only [scaled_coe, score_coe]
  exact averaged_coe _ _

end Cert.Attention

end
-- ==== Proof.Attention.Block.lean ====
/-
What one grid point of the attention kernel leaves in its output block, entry by entry.
-/
module

public import proofs.«01_k».proof.Proof.Gen.Kernel3Ideal.Frame
public import proofs.«01_k».proof.Proof.Attention.Entry
public import Idealize.ShloMosaic.Lib.Pipeline.ValueKit.Acc
public import Idealize.ShloMosaic.Lib.Pipeline.ValueKit.Tiles

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Cert.Attention

variable (x0 : Vec Ideal S256x512 .bf16) (x1 x2 : Vec Ideal S256x128 .bf16)

/-- The queries of the four heads of the block, one below the other. -/
def stack : FVec Ideal S1024x128 .bf16 :=
  concatenate S1024x128 0
    [⟨S256x128, extractStridedSlice S256x128 ![0, 0] x0 slices_S256x512_o0_0_S256x128⟩,
     ⟨S256x128, extractStridedSlice S256x128 ![0, 128] x0 slices_S256x512_o0_128_S256x128⟩,
     ⟨S256x128, extractStridedSlice S256x128 ![0, 256] x0 slices_S256x512_o0_256_S256x128⟩,
     ⟨S256x128, extractStridedSlice S256x128 ![0, 384] x0 slices_S256x512_o0_384_S256x128⟩]
    concatenates_S256x128_S256x128_S256x128_S256x128_S1024x128_d0

theorem stack_at (r : Fin 1024) (d : Fin 128) :
    stack x0 (ix2 r d) = x0 (ix2 ⟨r % 256, by omega⟩ ⟨r / 256 * 128 + d, by omega⟩) := by
  unfold stack
  pointwise
  split_ifs <;> exact congrArg x0 (congrArg₂ ix2 (Fin.ext (by dsimp only; omega)) (Fin.ext (by dsimp only; omega)))

/-- One row of the average over the block's values. -/
theorem rows_at (r : Fin 1024) (d : Fin 128) : k0_pay1 x0 x1 x2 (ix2 r d) =
    averaged (fun j => ∑ x, stack x0 (ix2 r x) * x1 (ix2 j x)) (fun j => x2 (ix2 j d)) := by
  have h0 : (shapeCast S256x512 x0 shapeCasts_S256x512_S256x512 : FVec Ideal S256x512 .bf16) = x0 := by
    funext i
    obtain ⟨r, k, rfl⟩ : ∃ (r : Fin 256) (k : Fin 512), i = ix2 r k := ⟨i 0, i 1, eq_ix2 i⟩
    pointwise
  unfold k0_pay1
  dsimp only
  rw [h0]
  change _ = averaged (fun j => ∑ x, stack x0 (ix2 r x) * x1 (ix2 j x)) (fun j => x2 (ix2 j d))
  rw [← stack]
  generalize stack x0 = Q
  pointwise
  rfl

/-- The output block: row `r` of head `k / 128`. -/
theorem out3_at (r : Fin 256) (k : Fin 512) : out0_3 x0 x1 x2 (ix2 r k) =
    averaged (fun j => ∑ e : Fin 128, x0 (ix2 r ⟨k / 128 * 128 + e, by omega⟩) * x1 (ix2 j e)) (fun j => x2 (ix2 j ⟨k % 128, by omega⟩)) := by
  have row : ∀ (q : Fin 1024) (d : Fin 128), q.val = k / 128 * 256 + r → d.val = k % 128 → k0_pay1 x0 x1 x2 (ix2 q d) =
      averaged (fun j => ∑ e : Fin 128, x0 (ix2 r ⟨k / 128 * 128 + e, by omega⟩) * x1 (ix2 j e)) (fun j => x2 (ix2 j ⟨k % 128, by omega⟩)) := by
    intro q d hq hd
    have hd' : d = ⟨k % 128, by omega⟩ := Fin.ext hd
    rw [rows_at, hd']
    refine congrArg (averaged · _) (funext fun j => Finset.sum_congr rfl fun e _ => ?_)
    rw [stack_at]
    exact congrArg (· * _) (congrArg x0 (congrArg₂ ix2 (Fin.ext (by dsimp only; omega)) (Fin.ext (by dsimp only; omega))))
  unfold out0_3
  frame_out
  canon_tiles x h using cover0_3 ..
  all_goals
    obtain ⟨r', d, rfl⟩ : ∃ (r' : Fin 256) (d : Fin 128), x = ix2 r' d := ⟨x 0, x 1, eq_ix2 x⟩
    change r.val = r'.val at h0
  · change k.val = 384 + d.val at h1
    pointwise [k0_pay5]
    exact row _ _ (by dsimp only; omega) (by omega)
  · change k.val = 256 + d.val at h1
    pointwise [k0_pay4]
    exact row _ _ (by dsimp only; omega) (by omega)
  · change k.val = 128 + d.val at h1
    pointwise [k0_pay3]
    exact row _ _ (by dsimp only; omega) (by omega)
  · change k.val = d.val at h1
    pointwise [k0_pay2]
    exact row _ _ (by dsimp only; omega) (by omega)

end Cert.Kernel3Ideal.Run

end
-- ==== Proof.Attention.Rows.lean ====
/-
What the attention kernel leaves in its result array, entry by entry, from the argument arrays.
-/
module

public import proofs.«01_k».proof.Proof.Attention.Block
public import Idealize.ShloMosaic.Lib.Pipeline.ValueKit.Geometry
public import Idealize.ShloMosaic.Lib.StableHlo.ReadAt

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Cert.Attention

variable (m : (ℓ : Loc nD τ sig) → Buf (Elt Ideal) ℓ) (c : Dev nD)

/-! ## The windows' blocks: grid point `t` takes batch `t / 2` and the heads over key columns `t % 2` -/

theorem index0 : ∀ t : Fin cfg0.N, win0_0.index t = ![t.val / 2, t.val % 2] := (by decide +kernel : ∀ t : Fin grid0.N, win0_0.index t = ![t.val / 2, t.val % 2])
theorem index1 : ∀ t : Fin cfg0.N, win0_1.index t = ![t.val / 2, t.val % 2] := (by decide +kernel : ∀ t : Fin grid0.N, win0_1.index t = ![t.val / 2, t.val % 2])
theorem index2 : ∀ t : Fin cfg0.N, win0_2.index t = ![t.val / 2, t.val % 2] := (by decide +kernel : ∀ t : Fin grid0.N, win0_2.index t = ![t.val / 2, t.val % 2])
theorem index3 : ∀ t : Fin cfg0.N, win0_3.index t = ![t.val / 2, t.val % 2] := (by decide +kernel : ∀ t : Fin grid0.N, win0_3.index t = ![t.val / 2, t.val % 2])

/-- The queries, scaled and rounded. -/
theorem queries_at (r : Fin 4096) (k : Fin 1024) : V m c main_v5 (ix2 r k) =
    Ideal.div (m ((c : Thread nD τ).loc main_arg0) (ix2 r k))
      (Ideal.sqrt (Ideal.ofBits FTy.f32 1124073472#32) * Ideal.log (Ideal.ofBits FTy.f32 1073741824#32)) := by
  simp only [V, List.flatten_cons, List.flatten_nil, List.append_nil, hostOps0, List.cons_append, List.nil_append]
  after_reads_at

/-- The keys, rounded. -/
theorem keys_at (r : Fin 4096) (k : Fin 256) : V m c main_v6 (ix2 r k) = m ((c : Thread nD τ).loc main_arg1) (ix2 r k) := by
  simp only [V, List.flatten_cons, List.flatten_nil, List.append_nil, hostOps0, List.cons_append, List.nil_append]
  after_reads_at

/-- The values, rounded. -/
theorem values_at (r : Fin 4096) (k : Fin 256) : V m c main_v7 (ix2 r k) = m ((c : Thread nD τ).loc main_arg2) (ix2 r k) := by
  simp only [V, List.flatten_cons, List.flatten_nil, List.append_nil, hostOps0, List.cons_append, List.nil_append]
  after_reads_at

section

variable (t : Fin cfg0.N)

theorem iblk0_at (r : Fin 256) (k : Fin 512) (r' : Fin 4096) (k' : Fin 1024) (hr : r'.val = t.val / 2 * 256 + r) (hk : k'.val = t.val % 2 * 512 + k) :
    iblk m c 0 t (ix2 r k) = Ideal.div (m ((c : Thread nD τ).loc main_arg0) (ix2 r' k'))
      (Ideal.sqrt (Ideal.ofBits FTy.f32 1124073472#32) * Ideal.log (Ideal.ofBits FTy.f32 1073741824#32)) := by
  refine Eq.trans ?_ (queries_at m c r' k')
  blk_simp [iblk]
  refine congrArg _ ?_
  blk_ext [index0, hr, hk]

theorem iblk1_at (r : Fin 256) (k : Fin 128) (r' : Fin 4096) (k' : Fin 256) (hr : r'.val = t.val / 2 * 256 + r) (hk : k'.val = t.val % 2 * 128 + k) :
    iblk m c 1 t (ix2 r k) = m ((c : Thread nD τ).loc main_arg1) (ix2 r' k') := by
  refine Eq.trans ?_ (keys_at m c r' k')
  blk_simp [iblk]
  refine congrArg _ ?_
  blk_ext [index1, hr, hk]

theorem iblk2_at (r : Fin 256) (k : Fin 128) (r' : Fin 4096) (k' : Fin 256) (hr : r'.val = t.val / 2 * 256 + r) (hk : k'.val = t.val % 2 * 128 + k) :
    iblk m c 2 t (ix2 r k) = m ((c : Thread nD τ).loc main_arg2) (ix2 r' k') := by
  refine Eq.trans ?_ (values_at m c r' k')
  blk_simp [iblk]
  refine congrArg _ ?_
  blk_ext [index2, hr, hk]

/-- One entry of the block of a grid point. -/
theorem block_at (r : Fin 256) (k : Fin 512) (r' : Fin 4096) (k' : Fin 1024) (hr : r'.val = t.val / 2 * 256 + r) (hk : k'.val = t.val % 2 * 512 + k) :
    out0_3 (iblk m c 0 t) (iblk m c 1 t) (iblk m c 2 t) (ix2 r k) =
      averagedAt (m ((c : Thread nD τ).loc main_arg0)) (m ((c : Thread nD τ).loc main_arg1)) (m ((c : Thread nD τ).loc main_arg2)) r' k' := by
  rw [out3_at]
  unfold averagedAt score
  refine congrArg₂ averaged (funext fun j => Finset.sum_congr rfl fun e _ => congrArg₂ (· * ·) ?_ ?_) (funext fun j => ?_)
  · exact iblk0_at m c t _ _ _ _ hr (by dsimp only; omega)
  · exact iblk1_at m c t _ _ _ _ (by dsimp only; omega) (by dsimp only; omega)
  · exact iblk2_at m c t _ _ _ _ (by dsimp only; omega) (by dsimp only; omega)

end

/-- The result array. -/
theorem array3 : (dats m 0 c).arrAt 3 cfg0.N = fun i =>
    averagedAt (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  obtain ⟨r, k, rfl⟩ : ∃ (r : Fin 256) (k : Fin 512), y = ix2 r k := ⟨y 0, y 1, eq_ix2 y⟩
  rw [after0_3]
  refine block_at m c t r k _ _ ?_ ?_
  · blk_simp [index3]
  · blk_simp [index3]

end Cert.Kernel3Ideal.Run

end
-- ==== Proof.Attention.Reference.lean ====
/-
What the reference attention leaves in its result, entry by entry, from its argument arrays.
-/
module

public import proofs.«01_k».proof.Proof.Gen.Reference3Ideal.Run
public import proofs.«01_k».proof.Proof.Attention.Entry
public import Idealize.ShloMosaic.Lib.Pointwise

@[expose] public section

set_option maxRecDepth 16384

noncomputable section

namespace Cert.Reference3Ideal.Run

open Cert.Reference3Ideal Cert.Reference3Ideal.Gen
open Idealize.ShloMosaic Idealize.ShloMosaic.TcCoe Idealize.ShloMosaic.Tactic
open Cert.Attention

/-- Every query's scores against its batch's keys. -/
def scores (q : FVec Ideal S4096x1024 .f32) (k : FVec Ideal S4096x256 .f32) : FVec Ideal S16x2x4x256x256 .f32 :=
  Host.divf (transpose S16x2x4x256x256 [0, 1, 4, 3, 2] (Host.dotGeneral dot_S16x256x2x128_S16x256x2x4x128_S16x2x256x256x4_3_4_1_13_02_02 none (shapeCast _ k shapeCasts_S4096x256_S16x256x2x128) (shapeCast _ q shapeCasts_S4096x1024_S16x256x2x4x128)) transposes_S16x2x256x256x4_S16x2x4x256x256_0_1_4_3_2) (broadcastInDim S16x2x4x256x256 ![] bcast_S_S16x2x4x256x256 (Host.sqrt (constant S_ .f32 0x43000000#32)))

/-- The greatest score of each query. -/
def tops (s : FVec Ideal S16x2x4x256x256 .f32) : FVec Ideal S16x2x4x256 .f32 :=
  Host.reduce FloatOps.maximumf s (constant S_ .f32 0xFF800000#32) reducesTo_S16x2x4x256x256_S16x2x4x256_d4 h_S_

/-- The weights of the scores, before they are divided by their sum, where `t` has the greatest scores. -/
def weights (s : FVec Ideal S16x2x4x256x256 .f32) (t : FVec Ideal S16x2x4x256 .f32) : FVec Ideal S16x2x4x256x256 .f32 :=
  Host.exp (subf s (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) t))))

/-- The weights divided by their sum. -/
def shares (w : FVec Ideal S16x2x4x256x256 .f32) : FVec Ideal S16x2x4x256x256 .f32 :=
  Host.divf w (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (Host.reduceAdd w (constant S_ .f32 0x00000000#32) reducesTo_S16x2x4x256x256_S16x2x4x256_d4 h_S_)))

/-- The values averaged with the weights `p`, head by head. -/
def average (v : FVec Ideal S4096x256 .f32) (p : FVec Ideal S16x2x4x256x256 .f32) : FVec Ideal S4096x1024 .bf16 :=
  truncf .bf16 (shapeCast _ (transpose S16x256x2x4x128 [0, 4, 1, 3, 2] (Host.dotGeneral dot_S16x256x2x128_S16x2x4x256x256_S16x2x128x4x256_1_4_3_23_02_01 none (shapeCast _ v shapeCasts_S4096x256_S16x256x2x128) p) transposes_S16x2x128x4x256_S16x256x2x4x128_0_4_1_3_2) shapeCasts_S16x256x2x4x128_S4096x1024) bitsLt_bf16_f32

variable (q : FVec Ideal S4096x1024 .f32) (k v : FVec Ideal S4096x256 .f32)
variable (s : FVec Ideal S16x2x4x256x256 .f32) (t : FVec Ideal S16x2x4x256 .f32)

theorem scores_at (b : Fin 16) (h : Fin 2) (g : Fin 4) (r j : Fin 256) : scores q k (ix5 b h g r j) =
    scaled (fun x => q (ix2 ⟨b * 256 + r, by omega⟩ ⟨h * 512 + g * 128 + x, by omega⟩))
      (fun x => k (ix2 ⟨b * 256 + j, by omega⟩ ⟨h * 128 + x, by omega⟩)) := by
  unfold scores scaled
  pointwise

theorem tops_at (b : Fin 16) (h : Fin 2) (g : Fin 4) (r : Fin 256) : tops s (ix4 b h g r) = top (fun j => s (ix5 b h g r j)) := by
  unfold tops top
  pointwise

theorem weights_at (b : Fin 16) (h : Fin 2) (g : Fin 4) (r j : Fin 256) : weights s t (ix5 b h g r j) =
    Ideal.exp (s (ix5 b h g r j) - max (Ideal.ofBits FTy.f32 4286578688#32) (t (ix4 b h g r))) := by
  unfold weights
  pointwise

theorem shares_at (b : Fin 16) (h : Fin 2) (g : Fin 4) (r j : Fin 256) : shares s (ix5 b h g r j) =
    Ideal.div (s (ix5 b h g r j)) (∑ i : Fin 256, s (ix5 b h g r i)) := by
  unfold shares
  pointwise

theorem average_at (r : Fin 4096) (c : Fin 1024) : average v s (ix2 r c) =
    ∑ j : Fin 256, v (ix2 ⟨r / 256 * 256 + j, by omega⟩ ⟨c / 512 * 128 + c % 128, by omega⟩) *
      s (ix5 ⟨r / 256, by omega⟩ ⟨c / 512, by omega⟩ ⟨c / 128 % 4, by omega⟩ ⟨r % 256, by omega⟩ j) := by
  unfold average
  pointwise

/-- The reference's result, entry by entry. -/
theorem average_eq : average v (shares (weights (scores q k) (tops (scores q k)))) = fun i => attendedAt q k v (i 0) (i 1) := by
  funext i
  obtain ⟨r, c, rfl⟩ : ∃ (r : Fin 4096) (c : Fin 1024), i = ix2 r c := ⟨i 0, i 1, eq_ix2 i⟩
  rw [average_at]
  simp only [shares_at, weights_at, tops_at, scores_at]
  change _ = attendedAt q k v r c
  unfold attendedAt attended weight
  have hr : r.val / 256 * 256 + r.val % 256 = r.val := by omega
  have hk : ∀ x : Fin 128, c.val / 512 * 512 + c.val / 128 % 4 * 128 + x.val = c.val / 128 * 128 + x.val := fun x => by omega
  simp only [hr, hk, Fin.eta]

end Cert.Reference3Ideal.Run

end
-- ==== Proof.Attention.Equation.lean ====
/-
The attention kernel and its reference: equal results from equal arguments where the queries and the keys are finite, and the
reference's run.
-/
module

public import proofs.«01_k».proof.Proof.Attention.Rows
public import proofs.«01_k».proof.Proof.Attention.Reference
public import proofs.«01_k».proof.Proof.Gen.Pre_finite
public import Idealize.ShloMosaic.Lib.Quiescent
public import proofs.«01_k».proof.Defs

@[expose] public section

set_option maxRecDepth 16384

noncomputable section

namespace Cert.Attention

open Idealize.ShloMosaic Idealize.ShloMosaic.TcCoe Idealize.ShloMosaic.Tactic
open Idealize.SL.Sem

/-- A number whose absolute value is less than infinity is finite. -/
theorem finite_of {x : EReal} (h : Ideal.cmp .olt (max x (-x)) (Ideal.ofBits FTy.f32 2139095040#32) = 1#1) : x ≠ ⊤ ∧ x ≠ ⊥ := by
  rw [greatest] at h
  constructor <;> rintro rfl <;> simp [Ideal.cmp] at h

/-- The precondition says that every query and every key is finite. -/
theorem finite_args {q : FVec Ideal Cert.Pre_finite.S4096x1024 .f32} {k v : FVec Ideal Cert.Pre_finite.S4096x256 .f32}
    (h0 : (Cert.Pre_finite.fn (F := Ideal) q k v).1 = fun _ => 1#1) (h1 : (Cert.Pre_finite.fn (F := Ideal) q k v).2 = fun _ => 1#1) :
    (∀ i, q i ≠ ⊤ ∧ q i ≠ ⊥) ∧ ∀ i, k i ≠ ⊤ ∧ k i ≠ ⊥ :=
  ⟨fun i => finite_of (congrFun h0 i), fun i => finite_of (congrFun h1 i)⟩

/-- The reference runs, and leaves its arguments as they were and every counter at zero. -/
theorem frame_reference : Cert.quiescent_Reference3Ideal (hReference3Ideal := Cert.Reference3Ideal.Gen.facts) := fun m ρ _ =>
  (θ_run _ _ _).mono (fun r h => ⟨fun c => (h c).2, sem_eq_zero_of_no_sems (by decide) _⟩) (Cert.Reference3Ideal.Value.run m ρ)

/-- From equal arguments, with the queries and the keys finite, both programs run to equal results. -/
theorem algebraic : Cert.algebraic_Kernel3Ideal_Reference3Ideal_pre_finite (hKernel3Ideal := Cert.Kernel3Ideal.Gen.facts)
    (hReference3Ideal := Cert.Reference3Ideal.Gen.facts) (hPre_finite := Cert.Pre_finite.Gen.facts) := by
  intro m g m' g' hpre hargs
  refine ⟨fun c => (Cert.Kernel3Ideal.Gen.dats m 0 c).arrAt 3 Cert.Kernel3Ideal.cfg0.N, ?_, ?_⟩
  · refine (θ_run _ _ _).mono (fun r h c => ?_) (θ_run_and (Cert.Kernel3Ideal.Gen.run_main m g) (Cert.Kernel3Ideal.Gen.unchanged m g))
    exact ⟨(h.1 c).1 3, h.2 c⟩
  · refine (θ_run _ _ _).mono (fun r h c => ⟨?_, (h c).2⟩) (Cert.Reference3Ideal.Value.run m' g')
    obtain ⟨a0, a1, a2⟩ := hargs c
    obtain ⟨f0, f1⟩ := finite_args (hpre c).1 (hpre c).2
    refine (h c).1.trans ((Cert.Reference3Ideal.Run.average_eq _ _ _).trans (Eq.trans ?_ (Cert.Kernel3Ideal.Run.array3 m c).symm))
    rw [a0, a1, a2]
    exact funext fun i => (averagedAt_eq _ _ _ f0 f1 _ _).symm

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Pre_well_planned
public import proofs.«01_k».proof.Proof.Gen.Pre_finite
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Ideal.Frame
public import proofs.«01_k».proof.Proof.Ideal.Equation
public import proofs.«01_k».proof.Proof.Machine.Frame
public import proofs.«01_k».proof.Proof.Projection.Equation
public import proofs.«01_k».proof.Proof.Attention.Equation
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The rewrites of the idealization: the words between the two calls are read as rows of bf16 pairs. -/
theorem preserved : Cert.preserves_Kernel_KernelIdeal :=
  ⟨IdealRules.bf16_pair.bufferStatement _ _, IdealRules.bf16_pair.bufferStatement _ _, IdealRules.bf16_pair.packStatement _,
    IdealRules.bf16_pair.statement _ _, IdealRules.bf16_pair.packStatement _, IdealRules.bf16_pair.statement _ _,
    IdealRules.bf16_pair.statement _ _⟩

/-- The reference's frame, every counter at zero. -/
theorem frame_ReferenceIdeal : Cert.quiescent_ReferenceIdeal (hReferenceIdeal := Cert.ReferenceIdeal.Gen.facts)
    (hPre_well_planned := Cert.Pre_well_planned.Gen.facts) :=
  fun m ρ _ => Cert.ReferenceIdeal.Gen.frame m ρ

/-- The projection kernel's frame. -/
theorem frame_Kernel2 : Cert.quiescent_Kernel2 (hKernel2 := Cert.Kernel2.Gen.facts) := fun m ρ _ => Cert.Kernel2.Gen.frame m ρ

/-- The frame of its idealization. -/
theorem frame_Kernel2Ideal : Cert.quiescent_Kernel2Ideal (hKernel2Ideal := Cert.Kernel2Ideal.Gen.facts) :=
  fun m ρ _ => Cert.Kernel2Ideal.Gen.frame m ρ

/-- The attention kernel's frame. -/
theorem frame_Kernel3 : Cert.quiescent_Kernel3 (hKernel3 := Cert.Kernel3.Gen.facts) := fun m ρ _ => Cert.Kernel3.Gen.frame m ρ

/-- The frame of its idealization. -/
theorem frame_Kernel3Ideal : Cert.quiescent_Kernel3Ideal (hKernel3Ideal := Cert.Kernel3Ideal.Gen.facts) :=
  fun m ρ _ => Cert.Kernel3Ideal.Gen.frame m ρ

/-- All the claims: the experts' call, then the projection's, then the attention's. The frames of the attention's idealization
and reference hold for all arguments, and so for those of the precondition. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_well_planned.Gen.facts, Cert.Pre_finite.Gen.facts,
    Cert.Kernel.Run.frame, Cert.KernelIdeal.Run.frame, frame_ReferenceIdeal, frame_Kernel2, frame_Kernel2Ideal,
    Cert.Projection.frame_reference, frame_Kernel3, frame_Kernel3Ideal, fun m ρ _ => frame_Kernel3Ideal m ρ trivial,
    Cert.Attention.frame_reference, fun m ρ _ => Cert.Attention.frame_reference m ρ trivial, preserved, Cert.Equation.algebraic,
    trivial, Cert.Projection.algebraic, trivial, Cert.Attention.algebraic⟩

end Cert.Proof

end
